-- ==== Defs.lean ====
def Pre_Kernel [hPre_starts_at_zero : Cert.Pre_starts_at_zero.Facts] (m : (ℓ : Loc Cert.Kernel.nD Cert.Kernel.τ Cert.Kernel.sig) → Buf (Elt Bits) ℓ) : Prop :=
  ∀ c : Dev Cert.Kernel.nD,
    (Cert.Pre_starts_at_zero.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_starts_at_zero : Cert.Pre_starts_at_zero.Facts] (m : (ℓ : Loc Cert.KernelIdeal.nD Cert.KernelIdeal.τ Cert.KernelIdeal.sig) → Buf (Elt Ideal) ℓ) : Prop :=
  ∀ c : Dev Cert.KernelIdeal.nD,
    (Cert.Pre_starts_at_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_KernelIdeal_starts_at_zero_and_scaled [hPre_starts_at_zero_and_scaled : Cert.Pre_starts_at_zero_and_scaled.Facts] (m : (ℓ : Loc Cert.KernelIdeal.nD Cert.KernelIdeal.τ Cert.KernelIdeal.sig) → Buf (Elt Ideal) ℓ) : Prop :=
  ∀ c : Dev Cert.KernelIdeal.nD,
    (Cert.Pre_starts_at_zero_and_scaled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_starts_at_zero_and_scaled [hPre_starts_at_zero_and_scaled : Cert.Pre_starts_at_zero_and_scaled.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_starts_at_zero_and_scaled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] [hPre_starts_at_zero : Cert.Pre_starts_at_zero.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_starts_at_zero : Cert.Pre_starts_at_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_starts_at_zero_and_scaled [hKernelIdeal : Cert.KernelIdeal.Facts] [hPre_starts_at_zero_and_scaled : Cert.Pre_starts_at_zero_and_scaled.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_starts_at_zero_and_scaled m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_starts_at_zero_and_scaled [hReferenceIdeal : Cert.ReferenceIdeal.Facts] [hPre_starts_at_zero_and_scaled : Cert.Pre_starts_at_zero_and_scaled.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_starts_at_zero_and_scaled m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_starts_at_zero_and_scaled [hKernelIdeal : Cert.KernelIdeal.Facts] [hReferenceIdeal : Cert.ReferenceIdeal.Facts] [hPre_starts_at_zero_and_scaled : Cert.Pre_starts_at_zero_and_scaled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_starts_at_zero_and_scaled m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_v48)) (v2 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_v48) = v1 c
          ∧ r.2.mem ((c.tc : Thread Cert.KernelIdeal.nD Cert.KernelIdeal.τ).loc Cert.KernelIdeal.main_v49) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_starts_at_zero : Cert.Pre_starts_at_zero.Facts) (hPre_starts_at_zero_and_scaled : Cert.Pre_starts_at_zero_and_scaled.Facts),
    quiescent_Kernel (hKernel := hKernel) (hPre_starts_at_zero := hPre_starts_at_zero)
    ∧ quiescent_KernelIdeal (hKernelIdeal := hKernelIdeal) (hPre_starts_at_zero := hPre_starts_at_zero)
    ∧ quiescent_KernelIdeal_pre_starts_at_zero_and_scaled (hKernelIdeal := hKernelIdeal) (hPre_starts_at_zero_and_scaled := hPre_starts_at_zero_and_scaled)
    ∧ quiescent_ReferenceIdeal (hReferenceIdeal := hReferenceIdeal)
    ∧ quiescent_ReferenceIdeal_pre_starts_at_zero_and_scaled (hReferenceIdeal := hReferenceIdeal) (hPre_starts_at_zero_and_scaled := hPre_starts_at_zero_and_scaled)
    ∧ preserves_Kernel_KernelIdeal
    ∧ algebraic_KernelIdeal_ReferenceIdeal_pre_starts_at_zero_and_scaled (hKernelIdeal := hKernelIdeal) (hReferenceIdeal := hReferenceIdeal) (hPre_starts_at_zero_and_scaled := hPre_starts_at_zero_and_scaled)
-- ==== Pre_starts_at_zero.lean ====
abbrev S24x1024x8x256 : Shape := ⟨4, ![24, 1024, 8, 256]⟩
abbrev S8 : Shape := ⟨1, ![8]⟩
abbrev S24x1024x4x256 : Shape := ⟨4, ![24, 1024, 4, 256]⟩
abbrev S4 : Shape := ⟨1, ![4]⟩
abbrev S24x8x1024 : Shape := ⟨3, ![24, 8, 1024]⟩
abbrev S24x19 : Shape := ⟨2, ![24, 19]⟩
abbrev S24x1 : Shape := ⟨2, ![24, 1]⟩
abbrev S24 : Shape := ⟨1, ![24]⟩
abbrev S_ : Shape := ⟨0, ![]⟩

class Facts : Prop where
  slices_S24x19_S24x1_0_0 : S24x19.Slices ![0, 0] S24x1
  shapeCasts_S24x1_S24 : S24x1.ShapeCasts S24
  bcast_S_S24 : S_.BroadcastsInDim S24 (![] : Fin 0 → Fin S24.rank)

variable [Facts]

def fn {F : FTy → Type} [FloatOps F] (main_arg0 : FVec F S24x1024x8x256 .fp8e4m3) (main_arg1 : FVec F S8 .f32) (main_arg2 : FVec F S24x1024x4x256 .fp8e4m3) (main_arg3 : FVec F S4 .f32) (main_arg4 : FVec F S24x1024x4x256 .fp8e4m3) (main_arg5 : FVec F S4 .f32) (main_arg6 : FVec F S24x1024x8x256 .bf16) (main_arg7 : FVec F S24x1024x8x256 .fp8e5m2) (main_arg8 : FVec F S8 .f32) (main_arg9 : FVec F S24x8x1024 .f32) (main_arg10 : IVec S24x19 32) : IVec S24 1 :=
  let main_v0 : IVec S24x1 32 := (extractStridedSlice S24x1 ![0, 0] · slices_S24x19_S24x1_0_0) main_arg10
  let main_v1 : IVec S24 32 := shapeCast S24 main_v0 shapeCasts_S24x1_S24
  let main_c : IVec S_ 32 := constantI S_ 32 0#32
  let main_v2 : IVec S24 32 := broadcastInDim S24 ![] bcast_S_S24 main_c
  let main_v3 : IVec S24 1 := cmpi .eq main_v1 main_v2
  main_v3
-- ==== Pre_starts_at_zero_and_scaled.lean ====
abbrev S24x1024x8x256 : Shape := ⟨4, ![24, 1024, 8, 256]⟩
abbrev S8 : Shape := ⟨1, ![8]⟩
abbrev S24x1024x4x256 : Shape := ⟨4, ![24, 1024, 4, 256]⟩
abbrev S4 : Shape := ⟨1, ![4]⟩
abbrev S24x8x1024 : Shape := ⟨3, ![24, 8, 1024]⟩
abbrev S24x19 : Shape := ⟨2, ![24, 19]⟩
abbrev S24x1 : Shape := ⟨2, ![24, 1]⟩
abbrev S24 : Shape := ⟨1, ![24]⟩
abbrev S_ : Shape := ⟨0, ![]⟩
abbrev S1x8 : Shape := ⟨2, ![1, 8]⟩
abbrev S24x8 : Shape := ⟨2, ![24, 8]⟩

class Facts : Prop where
  slices_S24x19_S24x1_0_0 : S24x19.Slices ![0, 0] S24x1
  shapeCasts_S24x1_S24 : S24x1.ShapeCasts S24
  bcast_S_S24 : S_.BroadcastsInDim S24 (![] : Fin 0 → Fin S24.rank)
  bcast_S24_S24x1_0 : S24.BroadcastsInDim S24x1 (![0] : Fin 1 → Fin S24x1.rank)
  bcast_S_S8 : S_.BroadcastsInDim S8 (![] : Fin 0 → Fin S8.rank)
  bcast_S8_S1x8_1 : S8.BroadcastsInDim S1x8 (![1] : Fin 1 → Fin S1x8.rank)
  bcast_S24x1_S24x8_0_1 : S24x1.BroadcastsInDim S24x8 (![0, 1] : Fin 2 → Fin S24x8.rank)
  bcast_S1x8_S24x8_0_1 : S1x8.BroadcastsInDim S24x8 (![0, 1] : Fin 2 → Fin S24x8.rank)

variable [Facts]

def fn {F : FTy → Type} [FloatOps F] (main_arg0 : FVec F S24x1024x8x256 .fp8e4m3) (main_arg1 : FVec F S8 .f32) (main_arg2 : FVec F S24x1024x4x256 .fp8e4m3) (main_arg3 : FVec F S4 .f32) (main_arg4 : FVec F S24x1024x4x256 .fp8e4m3) (main_arg5 : FVec F S4 .f32) (main_arg6 : FVec F S24x1024x8x256 .bf16) (main_arg7 : FVec F S24x1024x8x256 .fp8e5m2) (main_arg8 : FVec F S8 .f32) (main_arg9 : FVec F S24x8x1024 .f32) (main_arg10 : IVec S24x19 32) : IVec S24x8 1 :=
  let main_v0 : IVec S24x1 32 := (extractStridedSlice S24x1 ![0, 0] · slices_S24x19_S24x1_0_0) main_arg10
  let main_v1 : IVec S24 32 := shapeCast S24 main_v0 shapeCasts_S24x1_S24
  let main_c : IVec S_ 32 := constantI S_ 32 0#32
  let main_v2 : IVec S24 32 := broadcastInDim S24 ![] bcast_S_S24 main_c
  let main_v3 : IVec S24 1 := cmpi .eq main_v1 main_v2
  let main_v4 : IVec S24x1 1 := broadcastInDim S24x1 ![0] bcast_S24_S24x1_0 main_v3
  let main_cst : FVec F S_ .f32 := constant S_ .f32 0x00000000#32
  let main_v5 : FVec F S8 .f32 := broadcastInDim S8 ![] bcast_S_S8 main_cst
  let main_v6 : IVec S8 1 := cmpf .oge main_arg8 main_v5
  let main_cst_0 : FVec F S_ .f32 := constant S_ .f32 0x7F800000#32
  let main_v7 : FVec F S8 .f32 := broadcastInDim S8 ![] bcast_S_S8 main_cst_0
  let main_v8 : IVec S8 1 := cmpf .olt main_arg8 main_v7
  let main_v9 : IVec S8 1 := andi main_v6 main_v8
  let main_v10 : IVec S1x8 1 := broadcastInDim S1x8 ![1] bcast_S8_S1x8_1 main_v9
  let main_v11 : IVec S24x8 1 := broadcastInDim S24x8 ![0, 1] bcast_S24x1_S24x8_0_1 main_v4
  let main_v12 : IVec S24x8 1 := broadcastInDim S24x8 ![0, 1] bcast_S1x8_S24x8_0_1 main_v10
  let main_v13 : IVec S24x8 1 := andi main_v11 main_v12
  main_v13
-- ==== Kernel.lean ====
abbrev S24x1024x8x256 : Shape := ⟨4, ![24, 1024, 8, 256]⟩
abbrev S8 : Shape := ⟨1, ![8]⟩
abbrev S24x1024x4x256 : Shape := ⟨4, ![24, 1024, 4, 256]⟩
abbrev S4 : Shape := ⟨1, ![4]⟩
abbrev S24x8x1024 : Shape := ⟨3, ![24, 8, 1024]⟩
abbrev S24x19 : Shape := ⟨2, ![24, 19]⟩
abbrev S24x8x128x4x2x256 : Shape := ⟨6, ![24, 8, 128, 4, 2, 256]⟩
abbrev S24x4x8x2x128x256 : Shape := ⟨6, ![24, 4, 8, 2, 128, 256]⟩
abbrev S24x4x8x256x256 : Shape := ⟨5, ![24, 4, 8, 256, 256]⟩
abbrev S24x4x1024x256 : Shape := ⟨4, ![24, 4, 1024, 256]⟩
abbrev S24x8x128x4x256 : Shape := ⟨5, ![24, 8, 128, 4, 256]⟩
abbrev S24x4x8x256x128 : Shape := ⟨5, ![24, 4, 8, 256, 128]⟩
abbrev S24x4x2x8x128 : Shape := ⟨5, ![24, 4, 2, 8, 128]⟩
abbrev S24x4x8x2x128 : Shape := ⟨5, ![24, 4, 8, 2, 128]⟩
abbrev S24x4x8x1x256 : Shape := ⟨5, ![24, 4, 8, 1, 256]⟩
abbrev S1024 : Shape := ⟨1, ![1024]⟩
abbrev S24x19x1 : Shape := ⟨3, ![24, 19, 1]⟩
abbrev S1x1x1024 : Shape := ⟨3, ![1, 1, 1024]⟩
abbrev S24x19x1024 : Shape := ⟨3, ![24, 19, 1024]⟩
abbrev S_ : Shape := ⟨0, ![]⟩
abbrev S24x1024 : Shape := ⟨2, ![24, 1024]⟩
abbrev S24x8 : Shape := ⟨2, ![24, 8]⟩
abbrev S24x8x1x128 : Shape := ⟨4, ![24, 8, 1, 128]⟩
abbrev S1x24x1x8x1x1x1x128 : Shape := ⟨8, ![1, 24, 1, 8, 1, 1, 1, 128]⟩
abbrev S1x24x1x8x1x1x2x128 : Shape := ⟨8, ![1, 24, 1, 8, 1, 1, 2, 128]⟩
abbrev S24x8x1x256 : Shape := ⟨4, ![24, 8, 1, 256]⟩
abbrev S1x1x8x256x256 : Shape := ⟨5, ![1, 1, 8, 256, 256]⟩
abbrev S1x1x1024x256 : Shape := ⟨4, ![1, 1, 1024, 256]⟩
abbrev S1x1x8x256x128 : Shape := ⟨5, ![1, 1, 8, 256, 128]⟩
abbrev S1x1x8x1x256 : Shape := ⟨5, ![1, 1, 8, 1, 256]⟩
abbrev S1x8x1x256 : Shape := ⟨4, ![1, 8, 1, 256]⟩
abbrev S1024x256 : Shape := ⟨2, ![1024, 256]⟩
abbrev S256x256 : Shape := ⟨2, ![256, 256]⟩
abbrev S1 : Shape := ⟨1, ![1]⟩
abbrev S1x256 : Shape := ⟨2, ![1, 256]⟩
abbrev S8x256 : Shape := ⟨2, ![8, 256]⟩
abbrev S1x1x1x256x256 : Shape := ⟨5, ![1, 1, 1, 256, 256]⟩
abbrev S1x1x1x1x256 : Shape := ⟨5, ![1, 1, 1, 1, 256]⟩
abbrev S1x1x1x256 : Shape := ⟨4, ![1, 1, 1, 256]⟩
abbrev S1x1 : Shape := ⟨2, ![1, 1]⟩
abbrev S1x1x128x256 : Shape := ⟨4, ![1, 1, 128, 256]⟩
abbrev S128x256 : Shape := ⟨2, ![128, 256]⟩
abbrev S1x1x1x256x128 : Shape := ⟨5, ![1, 1, 1, 256, 128]⟩
abbrev S256x128 : Shape := ⟨2, ![256, 128]⟩

abbrev nBuf : Space → Nat
  | .hbm => 109
  | .vmem => 27
  | .smem => 6
  | _ => 0

abbrev bufTy : (tb : Table) → Fin (tcTables nBuf tb) → BufTy
  | .hbm, ⟨0, _⟩ => ⟨S24x1024x8x256, .fp8e4m3⟩
  | .hbm, ⟨1, _⟩ => ⟨S8, .f32⟩
  | .hbm, ⟨2, _⟩ => ⟨S24x1024x4x256, .fp8e4m3⟩
  | .hbm, ⟨3, _⟩ => ⟨S4, .f32⟩
  | .hbm, ⟨4, _⟩ => ⟨S24x1024x4x256, .fp8e4m3⟩
  | .hbm, ⟨5, _⟩ => ⟨S4, .f32⟩
  | .hbm, ⟨6, _⟩ => ⟨S24x1024x8x256, .bf16⟩
  | .hbm, ⟨7, _⟩ => ⟨S24x1024x8x256, .fp8e5m2⟩
  | .hbm, ⟨8, _⟩ => ⟨S8, .f32⟩
  | .hbm, ⟨9, _⟩ => ⟨S24x8x1024, .f32⟩
  | .hbm, ⟨10, _⟩ => ⟨S24x19, .i32⟩
  | .hbm, ⟨11, _⟩ => ⟨S24x8x128x4x2x256, .fp8e4m3⟩
  | .hbm, ⟨12, _⟩ => ⟨S24x4x8x2x128x256, .fp8e4m3⟩
  | .hbm, ⟨13, _⟩ => ⟨S24x4x8x256x256, .fp8e4m3⟩
  | .hbm, ⟨14, _⟩ => ⟨S24x8x128x4x2x256, .fp8e5m2⟩
  | .hbm, ⟨15, _⟩ => ⟨S24x4x8x2x128x256, .fp8e5m2⟩
  | .hbm, ⟨16, _⟩ => ⟨S24x4x8x256x256, .fp8e5m2⟩
  | .hbm, ⟨17, _⟩ => ⟨S24x8x128x4x2x256, .bf16⟩
  | .hbm, ⟨18, _⟩ => ⟨S24x4x8x2x128x256, .bf16⟩
  | .hbm, ⟨19, _⟩ => ⟨S24x4x8x256x256, .bf16⟩
  | .hbm, ⟨20, _⟩ => ⟨S24x4x1024x256, .fp8e4m3⟩
  | .hbm, ⟨21, _⟩ => ⟨S24x4x1024x256, .fp8e4m3⟩
  | .hbm, ⟨22, _⟩ => ⟨S24x8x128x4x256, .fp8e4m3⟩
  | .hbm, ⟨23, _⟩ => ⟨S24x4x8x256x128, .fp8e4m3⟩
  | .hbm, ⟨24, _⟩ => ⟨S24x4x2x8x128, .f32⟩
  | .hbm, ⟨25, _⟩ => ⟨S24x4x8x2x128, .f32⟩
  | .hbm, ⟨26, _⟩ => ⟨S24x4x8x1x256, .f32⟩
  | .hbm, ⟨27, _⟩ => ⟨S1024, .i32⟩
  | .hbm, ⟨28, _⟩ => ⟨S24x19x1, .i32⟩
  | .hbm, ⟨29, _⟩ => ⟨S1x1x1024, .i32⟩
  | .hbm, ⟨30, _⟩ => ⟨S24x19x1024, .i32⟩
  | .hbm, ⟨31, _⟩ => ⟨S24x19x1024, .i32⟩
  | .hbm, ⟨32, _⟩ => ⟨S24x19x1024, .i1⟩
  | .hbm, ⟨33, _⟩ => ⟨S24x19x1, .i32⟩
  | .hbm, ⟨34, _⟩ => ⟨S_, .i32⟩
  | .hbm, ⟨35, _⟩ => ⟨S_, .i32⟩
  | .hbm, ⟨36, _⟩ => ⟨S24x19x1024, .i32⟩
  | .hbm, ⟨37, _⟩ => ⟨S24x19x1024, .i32⟩
  | .hbm, ⟨38, _⟩ => ⟨S24x19x1024, .i32⟩
  | .hbm, ⟨39, _⟩ => ⟨S_, .i32⟩
  | .hbm, ⟨40, _⟩ => ⟨S24x1024, .i32⟩
  | .hbm, ⟨41, _⟩ => ⟨S24x19x1, .i32⟩
  | .hbm, ⟨42, _⟩ => ⟨S_, .i32⟩
  | .hbm, ⟨43, _⟩ => ⟨S_, .i32⟩
  | .hbm, ⟨44, _⟩ => ⟨S24x19x1024, .i32⟩
  | .hbm, ⟨45, _⟩ => ⟨S24x19x1024, .i32⟩
  | .hbm, ⟨46, _⟩ => ⟨S24x19x1024, .i32⟩
  | .hbm, ⟨47, _⟩ => ⟨S_, .i32⟩
  | .hbm, ⟨48, _⟩ => ⟨S24x1024, .i32⟩
  | .hbm, ⟨49, _⟩ => ⟨S24x8, .i32⟩
  | .hbm, ⟨50, _⟩ => ⟨S_, .i32⟩
  | .hbm, ⟨51, _⟩ => ⟨S_, .i32⟩
  | .hbm, ⟨52, _⟩ => ⟨S24x8, .i32⟩
  | .hbm, ⟨53, _⟩ => ⟨S24x8, .i32⟩
  | .hbm, ⟨54, _⟩ => ⟨S24x8, .i32⟩
  | .hbm, ⟨55, _⟩ => ⟨S_, .i32⟩
  | .hbm, ⟨56, _⟩ => ⟨S24x8, .i32⟩
  | .hbm, ⟨57, _⟩ => ⟨S24x8, .i1⟩
  | .hbm, ⟨58, _⟩ => ⟨S24x8, .i32⟩
  | .hbm, ⟨59, _⟩ => ⟨S24x8, .i32⟩
  | .hbm, ⟨60, _⟩ => ⟨S_, .i32⟩
  | .hbm, ⟨61, _⟩ => ⟨S24x8, .i32⟩
  | .hbm, ⟨62, _⟩ => ⟨S24x8, .i1⟩
  | .hbm, ⟨63, _⟩ => ⟨S24x8, .i1⟩
  | .hbm, ⟨64, _⟩ => ⟨S_, .i32⟩
  | .hbm, ⟨65, _⟩ => ⟨S24x8, .i32⟩
  | .hbm, ⟨66, _⟩ => ⟨S24x8, .i32⟩
  | .hbm, ⟨67, _⟩ => ⟨S24x8, .i32⟩
  | .hbm, ⟨68, _⟩ => ⟨S24x8, .i32⟩
  | .hbm, ⟨69, _⟩ => ⟨S_, .i32⟩
  | .hbm, ⟨70, _⟩ => ⟨S24x8, .i32⟩
  | .hbm, ⟨71, _⟩ => ⟨S24x8, .i32⟩
  | .hbm, ⟨72, _⟩ => ⟨S_, .i32⟩
  | .hbm, ⟨73, _⟩ => ⟨S24x8, .i32⟩
  | .hbm, ⟨74, _⟩ => ⟨S24x8, .i32⟩
  | .hbm, ⟨75, _⟩ => ⟨S_, .i32⟩
  | .hbm, ⟨76, _⟩ => ⟨S_, .i32⟩
  | .hbm, ⟨77, _⟩ => ⟨S24x8, .i32⟩
  | .hbm, ⟨78, _⟩ => ⟨S24x8, .i32⟩
  | .hbm, ⟨79, _⟩ => ⟨S24x8, .i32⟩
  | .hbm, ⟨80, _⟩ => ⟨S_, .i32⟩
  | .hbm, ⟨81, _⟩ => ⟨S24x8, .i32⟩
  | .hbm, ⟨82, _⟩ => ⟨S24x8, .i1⟩
  | .hbm, ⟨83, _⟩ => ⟨S24x8, .i32⟩
  | .hbm, ⟨84, _⟩ => ⟨S24x8, .i32⟩
  | .hbm, ⟨85, _⟩ => ⟨S_, .i32⟩
  | .hbm, ⟨86, _⟩ => ⟨S24x8, .i32⟩
  | .hbm, ⟨87, _⟩ => ⟨S24x8, .i1⟩
  | .hbm, ⟨88, _⟩ => ⟨S24x8, .i1⟩
  | .hbm, ⟨89, _⟩ => ⟨S_, .i32⟩
  | .hbm, ⟨90, _⟩ => ⟨S24x8, .i32⟩
  | .hbm, ⟨91, _⟩ => ⟨S24x8, .i32⟩
  | .hbm, ⟨92, _⟩ => ⟨S24x8, .i32⟩
  | .hbm, ⟨93, _⟩ => ⟨S24x8x1x128, .i32⟩
  | .hbm, ⟨94, _⟩ => ⟨S1x24x1x8x1x1x1x128, .i32⟩
  | .hbm, ⟨95, _⟩ => ⟨S1x24x1x8x1x1x2x128, .i32⟩
  | .hbm, ⟨96, _⟩ => ⟨S24x8x1x256, .i32⟩
  | .hbm, ⟨97, _⟩ => ⟨S24x8x1x128, .i32⟩
  | .hbm, ⟨98, _⟩ => ⟨S1x24x1x8x1x1x1x128, .i32⟩
  | .hbm, ⟨99, _⟩ => ⟨S1x24x1x8x1x1x2x128, .i32⟩
  | .hbm, ⟨100, _⟩ => ⟨S24x8x1x256, .i32⟩
  | .hbm, ⟨101, _⟩ => ⟨S24x4x8x256x256, .bf16⟩
  | .hbm, ⟨102, _⟩ => ⟨S24x4x1024x256, .bf16⟩
  | .hbm, ⟨103, _⟩ => ⟨S24x4x1024x256, .bf16⟩
  | .hbm, ⟨104, _⟩ => ⟨S24x4x8x2x128x256, .bf16⟩
  | .hbm, ⟨105, _⟩ => ⟨S24x8x128x4x2x256, .bf16⟩
  | .hbm, ⟨106, _⟩ => ⟨S24x1024x8x256, .bf16⟩
  | .hbm, ⟨107, _⟩ => ⟨S24x1024x4x256, .bf16⟩
  | .hbm, ⟨108, _⟩ => ⟨S24x1024x4x256, .bf16⟩
  | .local _ .vmem, ⟨0, _⟩ => ⟨S1x1x8x256x256, .fp8e4m3⟩
  | .local _ .vmem, ⟨1, _⟩ => ⟨S1x1x8x256x256, .fp8e4m3⟩
  | .local _ .vmem, ⟨2, _⟩ => ⟨S1x1x1024x256, .fp8e4m3⟩
  | .local _ .vmem, ⟨3, _⟩ => ⟨S1x1x1024x256, .fp8e4m3⟩
  | .local _ .vmem, ⟨4, _⟩ => ⟨S1x1x8x256x128, .fp8e4m3⟩
  | .local _ .vmem, ⟨5, _⟩ => ⟨S1x1x8x256x128, .fp8e4m3⟩
  | .local _ .vmem, ⟨6, _⟩ => ⟨S1x1x1024x256, .fp8e4m3⟩
  | .local _ .vmem, ⟨7, _⟩ => ⟨S1x1x1024x256, .fp8e4m3⟩
  | .local _ .vmem, ⟨8, _⟩ => ⟨S1x1x8x256x256, .fp8e5m2⟩
  | .local _ .vmem, ⟨9, _⟩ => ⟨S1x1x8x256x256, .fp8e5m2⟩
  | .local _ .vmem, ⟨10, _⟩ => ⟨S1x1x8x256x256, .bf16⟩
  | .local _ .vmem, ⟨11, _⟩ => ⟨S1x1x8x256x256, .bf16⟩
  | .local _ .vmem, ⟨12, _⟩ => ⟨S1x1x8x1x256, .f32⟩
  | .local _ .vmem, ⟨13, _⟩ => ⟨S1x1x8x1x256, .f32⟩
  | .local _ .vmem, ⟨14, _⟩ => ⟨S1x8x1x256, .i32⟩
  | .local _ .vmem, ⟨15, _⟩ => ⟨S1x8x1x256, .i32⟩
  | .local _ .vmem, ⟨16, _⟩ => ⟨S1x8x1x256, .i32⟩
  | .local _ .vmem, ⟨17, _⟩ => ⟨S1x8x1x256, .i32⟩
  | .local _ .vmem, ⟨18, _⟩ => ⟨S1x1x8x256x256, .bf16⟩
  | .local _ .vmem, ⟨19, _⟩ => ⟨S1x1x8x256x256, .bf16⟩
  | .local _ .vmem, ⟨20, _⟩ => ⟨S1x1x1024x256, .bf16⟩
  | .local _ .vmem, ⟨21, _⟩ => ⟨S1x1x1024x256, .bf16⟩
  | .local _ .vmem, ⟨22, _⟩ => ⟨S1x1x1024x256, .bf16⟩
  | .local _ .vmem, ⟨23, _⟩ => ⟨S1x1x1024x256, .bf16⟩
  | .local _ .vmem, ⟨24, _⟩ => ⟨S1024x256, .f32⟩
  | .local _ .vmem, ⟨25, _⟩ => ⟨S1024x256, .f32⟩
  | .local _ .vmem, ⟨26, _⟩ => ⟨S256x256, .f32⟩
  | .local _ .smem, ⟨0, _⟩ => ⟨S8, .f32⟩
  | .local _ .smem, ⟨1, _⟩ => ⟨S4, .f32⟩
  | .local _ .smem, ⟨2, _⟩ => ⟨S4, .f32⟩
  | .local _ .smem, ⟨3, _⟩ => ⟨S8, .f32⟩
  | .local _ .smem, ⟨4, _⟩ => ⟨S24x8, .i32⟩
  | .local _ .smem, ⟨5, _⟩ => ⟨S24x8, .i32⟩
  | _, _ => ⟨S24x1024x8x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v23 : Ref sig .tc := ⟨.hbm, 38, rfl⟩
abbrev main_c_0 : Ref sig .tc := ⟨.hbm, 39, rfl⟩
abbrev main_v24 : Ref sig .tc := ⟨.hbm, 40, rfl⟩
abbrev main_v25 : Ref sig .tc := ⟨.hbm, 41, rfl⟩
abbrev main_c_1 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v26 : Ref sig .tc := ⟨.hbm, 46, rfl⟩
abbrev main_c_2 : Ref sig .tc := ⟨.hbm, 47, rfl⟩
abbrev main_v27 : Ref sig .tc := ⟨.hbm, 48, rfl⟩
abbrev main_v28 : Ref sig .tc := ⟨.hbm, 49, rfl⟩
abbrev main_c_3 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_c : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_0 : Ref sig .tc := ⟨.hbm, 64, rfl⟩
abbrev main_call2_v12 : Ref sig .tc := ⟨.hbm, 65, rfl⟩
abbrev main_call2_v13 : Ref sig .tc := ⟨.hbm, 66, rfl⟩
abbrev main_v29 : Ref sig .tc := ⟨.hbm, 67, rfl⟩
abbrev main_v30 : Ref sig .tc := ⟨.hbm, 68, rfl⟩
abbrev main_c_4 : Ref sig .tc := ⟨.hbm, 69, rfl⟩
abbrev main_v31 : Ref sig .tc := ⟨.hbm, 70, rfl⟩
abbrev main_v32 : Ref sig .tc := ⟨.hbm, 71, rfl⟩
abbrev main_c_5 : Ref sig .tc := ⟨.hbm, 72, rfl⟩
abbrev main_v33 : Ref sig .tc := ⟨.hbm, 73, rfl⟩
abbrev main_v34 : Ref sig .tc := ⟨.hbm, 74, rfl⟩
abbrev main_c_6 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_v5 : Ref sig .tc := ⟨.hbm, 81, rfl⟩
abbrev main_call3_v6 : Ref sig .tc := ⟨.hbm, 82, rfl⟩
abbrev main_call3_v7 : Ref sig .tc := ⟨.hbm, 83, rfl⟩
abbrev main_call3_v8 : Ref sig .tc := ⟨.hbm, 84, rfl⟩
abbrev main_call3_c : Ref sig .tc := ⟨.hbm, 85, rfl⟩
abbrev main_call3_v9 : Ref sig .tc := ⟨.hbm, 86, rfl⟩
abbrev main_call3_v10 : Ref sig .tc := ⟨.hbm, 87, rfl⟩
abbrev main_call3_v11 : Ref sig .tc := ⟨.hbm, 88, rfl⟩
abbrev main_call3_c_0 : Ref sig .tc := ⟨.hbm, 89, rfl⟩
abbrev main_call3_v12 : Ref sig .tc := ⟨.hbm, 90, rfl⟩
abbrev main_call3_v13 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44_0 : Ref sig .tc := ⟨.hbm, 101, rfl⟩
abbrev main_v44_1 : Ref sig .tc := ⟨.hbm, 102, rfl⟩
abbrev main_v44_2 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev cc0_stg6_0 : Ref sig .tc := ⟨.vmem, 0, rfl⟩
abbrev cc0_stg6_1 : Ref sig .tc := ⟨.vmem, 1, rfl⟩
abbrev cc0_stg7_0 : Ref sig .tc := ⟨.vmem, 2, rfl⟩
abbrev cc0_stg7_1 : Ref sig .tc := ⟨.vmem, 3, rfl⟩
abbrev cc0_stg8_0 : Ref sig .tc := ⟨.vmem, 4, rfl⟩
abbrev cc0_stg8_1 : Ref sig .tc := ⟨.vmem, 5, rfl⟩
abbrev cc0_stg9_0 : Ref sig .tc := ⟨.vmem, 6, rfl⟩
abbrev cc0_stg9_1 : Ref sig .tc := ⟨.vmem, 7, rfl⟩
abbrev cc0_stg10_0 : Ref sig .tc := ⟨.vmem, 8, rfl⟩
abbrev cc0_stg10_1 : Ref sig .tc := ⟨.vmem, 9, rfl⟩
abbrev cc0_stg11_0 : Ref sig .tc := ⟨.vmem, 10, rfl⟩
abbrev cc0_stg11_1 : Ref sig .tc := ⟨.vmem, 11, rfl⟩
abbrev cc0_stg12_0 : Ref sig .tc := ⟨.vmem, 12, rfl⟩
abbrev cc0_stg12_1 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_stg5_0 : Ref sig .tc := ⟨.smem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨2, ![24, 4], ![false, false]⟩

def k0_off1 (i : grid0.Coords) : Fin 1 → Nat :=
  let arg1 : BitVec 32 := BitVec.ofNat 32 (i 1).val
  let v8 : Index := Scalar.indexCast arg1
  ![v8.toNat]
def k0_off2 (i : grid0.Coords) : Fin 1 → Nat :=
  let c2_i32 : BitVec 32 := 2#32
  let arg1 : BitVec 32 := BitVec.ofNat 32 (i 1).val
  let v15 : BitVec 32 := Scalar.muli c2_i32 arg1
  let v16 : Index := Scalar.indexCast v15
  ![v16.toNat]
def k0_off3 (i : grid0.Coords) : Fin 1 → Nat :=
  let c2_i32_4 : BitVec 32 := 2#32
  let arg1 : BitVec 32 := BitVec.ofNat 32 (i 1).val
  let v18 : BitVec 32 := Scalar.muli c2_i32_4 arg1
  let c1_i32 : BitVec 32 := 1#32
  let v19 : BitVec 32 := Scalar.addi v18 c1_i32
  let v20 : Index := Scalar.indexCast v19
  ![v20.toNat]
@[reducible] def k0_t1_loop : Scf.Loop 32 :=
  let c0_i32 : BitVec 32 := 0#32
  let c8_i32 : BitVec 32 := 8#32
  let v44 : BitVec 32 := Scalar.addi c0_i32 c8_i32
  let c1_i32_11 : BitVec 32 := 1#32
  ⟨c0_i32, v44, c1_i32_11⟩
def k0_off4 (k0_t1 : Fin k0_t1_loop.trips) : Fin 5 → Nat :=
  let c0_28 : Index := 0#32
  let c0_29 : Index := 0#32
  let c0_i32_27 : BitVec 32 := 0#32
  let c0_i32 : BitVec 32 := 0#32
  let c1_i32_11 : BitVec 32 := 1#32
  let arg23 : BitVec 32 := Scf.iv c0_i32 c1_i32_11 k0_t1
  let c1_i32_26 : BitVec 32 := 1#32
  let v57 : BitVec 32 := Scalar.muli arg23 c1_i32_26
  let v58 : BitVec 32 := Scalar.addi c0_i32_27 v57
  let v59 : Index := Scalar.indexCast v58
  let c0_30 : Index := 0#32
  let c0_31 : Index := 0#32
  ![0, 0, v59.toNat, 0, 0]
def k0_off5 (k0_t1 : Fin k0_t1_loop.trips) : Fin 5 → Nat :=
  let c0_41 : Index := 0#32
  let c0_42 : Index := 0#32
  let c0_i32_27 : BitVec 32 := 0#32
  let c0_i32 : BitVec 32 := 0#32
  let c1_i32_11 : BitVec 32 := 1#32
  let arg23 : BitVec 32 := Scf.iv c0_i32 c1_i32_11 k0_t1
  let c1_i32_26 : BitVec 32 := 1#32
  let v57 : BitVec 32 := Scalar.muli arg23 c1_i32_26
  let v58 : BitVec 32 := Scalar.addi c0_i32_27 v57
  let v74 : Index := Scalar.indexCast v58
  let c0_43 : Index := 0#32
  let c0_44 : Index := 0#32
  ![0, 0, v74.toNat, 0, 0]
def k0_off6 (k0_t1 : Fin k0_t1_loop.trips) : Fin 4 → Nat :=
  let c0_45 : Index := 0#32
  let c0_i32_27 : BitVec 32 := 0#32
  let c0_i32 : BitVec 32 := 0#32
  let c1_i32_11 : BitVec 32 := 1#32
  let arg23 : BitVec 32 := Scf.iv c0_i32 c1_i32_11 k0_t1
  let c1_i32_26 : BitVec 32 := 1#32
  let v57 : BitVec 32 := Scalar.muli arg23 c1_i32_26
  let v58 : BitVec 32 := Scalar.addi c0_i32_27 v57
  let v77 : Index := Scalar.indexCast v58
  let c0_46 : Index := 0#32
  let c0_47 : Index := 0#32
  ![0, v77.toNat, 0, 0]
def k0_off7 (i : grid0.Coords) (k0_t1 : Fin k0_t1_loop.trips) : Fin 2 → Nat :=
  let arg0 : BitVec 32 := BitVec.ofNat 32 (i 0).val
  let v87 : Index := Scalar.indexCast arg0
  let c0_i32_27 : BitVec 32 := 0#32
  let c0_i32 : BitVec 32 := 0#32
  let c1_i32_11 : BitVec 32 := 1#32
  let arg23 : BitVec 32 := Scf.iv c0_i32 c1_i32_11 k0_t1
  let c1_i32_26 : BitVec 32 := 1#32
  let v57 : BitVec 32 := Scalar.muli arg23 c1_i32_26
  let v58 : BitVec 32 := Scalar.addi c0_i32_27 v57
  let v88 : Index := Scalar.indexCast v58
  ![v87.toNat, v88.toNat]
@[reducible] def k0_t2_loop (v89 : BitVec 32) (v92 : BitVec 32) : Scf.Loop 32 :=
  let c0_i32_58 : BitVec 32 := 0#32
  let v93 : BitVec 32 := Scalar.subi v92 v89
  let c1_i32_54 : BitVec 32 := 1#32
  let c1_i32_55 : BitVec 32 := 1#32
  let v94 : BitVec 32 := Scalar.subi c1_i32_54 c1_i32_55
  let v95 : BitVec 32 := Scalar.addi v93 v94
  let c1_i32_56 : BitVec 32 := 1#32
  let v96 : BitVec 32 := Scalar.divsi v95 c1_i32_56
  let v97 : BitVec 32 := Scalar.subi v96 c0_i32_58
  let c1_i32_59 : BitVec 32 := 1#32
  let v99 : BitVec 32 := Scalar.divsi v97 c1_i32_59
  let v100 : BitVec 32 := Scalar.muli v99 c1_i32_59
  let v101 : BitVec 32 := Scalar.addi c0_i32_58 v100
  let c1_i32_60 : BitVec 32 := 1#32
  ⟨c0_i32_58, v101, c1_i32_60⟩

def k0_mult1 (v89 : BitVec 32) (v92 : BitVec 32) (k0_t2 : Fin (k0_t2_loop v89 v92).trips) : BitVec 32 :=
  let c0_i32_58 : BitVec 32 := 0#32
  let c1_i32_60 : BitVec 32 := 1#32
  let arg24 : BitVec 32 := Scf.iv c0_i32_58 c1_i32_60 k0_t2
  let c1_i32_57 : BitVec 32 := 1#32
  let v112 : BitVec 32 := Scalar.muli arg24 c1_i32_57
  let v113 : BitVec 32 := Scalar.addi v89 v112
  let c128_i32_69 : BitVec 32 := 128#32
  let v114 : BitVec 32 := Scalar.muli v113 c128_i32_69
  v114
def k0_off8 (v89 : BitVec 32) (v92 : BitVec 32) (k0_t2 : Fin (k0_t2_loop v89 v92).trips) : Fin 4 → Nat :=
  let c0_70 : Index := 0#32
  let c0_71 : Index := 0#32
  let c0_i32_58 : BitVec 32 := 0#32
  let c1_i32_60 : BitVec 32 := 1#32
  let arg24 : BitVec 32 := Scf.iv c0_i32_58 c1_i32_60 k0_t2
  let c1_i32_57 : BitVec 32 := 1#32
  let v112 : BitVec 32 := Scalar.muli arg24 c1_i32_57
  let v113 : BitVec 32 := Scalar.addi v89 v112
  let c128_i32_69 : BitVec 32 := 128#32
  let v114 : BitVec 32 := Scalar.muli v113 c128_i32_69
  let v115 : BitVec 32 := v114
  let v116 : Index := Scalar.indexCast v115
  let c0_72 : Index := 0#32
  ![0, 0, v116.toNat, 0]
def k0_off9 (v89 : BitVec 32) (v92 : BitVec 32) (k0_t2 : Fin (k0_t2_loop v89 v92).trips) : Fin 2 → Nat :=
  let c0_i32_58 : BitVec 32 := 0#32
  let c1_i32_60 : BitVec 32 := 1#32
  let arg24 : BitVec 32 := Scf.iv c0_i32_58 c1_i32_60 k0_t2
  let c1_i32_57 : BitVec 32 := 1#32
  let v112 : BitVec 32 := Scalar.muli arg24 c1_i32_57
  let v113 : BitVec 32 := Scalar.addi v89 v112
  let c128_i32_69 : BitVec 32 := 128#32
  let v114 : BitVec 32 := Scalar.muli v113 c128_i32_69
  let v115 : BitVec 32 := v114
  let v146 : Index := Scalar.indexCast v115
  let c0_80 : Index := 0#32
  ![v146.toNat, 0]
def k0_off10 (v89 : BitVec 32) (v92 : BitVec 32) (k0_t2 : Fin (k0_t2_loop v89 v92).trips) : Fin 5 → Nat :=
  let c0_88 : Index := 0#32
  let c0_89 : Index := 0#32
  let c0_i32_58 : BitVec 32 := 0#32
  let c1_i32_60 : BitVec 32 := 1#32
  let arg24 : BitVec 32 := Scf.iv c0_i32_58 c1_i32_60 k0_t2
  let c1_i32_57 : BitVec 32 := 1#32
  let v112 : BitVec 32 := Scalar.muli arg24 c1_i32_57
  let v113 : BitVec 32 := Scalar.addi v89 v112
  let v171 : Index := Scalar.indexCast v113
  let c0_90 : Index := 0#32
  let c0_91 : Index := 0#32
  ![0, 0, v171.toNat, 0, 0]
@[reducible] def k0_t3_loop (v89 : BitVec 32) (v92 : BitVec 32) : Scf.Loop 32 :=
  let c0_i32_58 : BitVec 32 := 0#32
  let v93 : BitVec 32 := Scalar.subi v92 v89
  let c1_i32_54 : BitVec 32 := 1#32
  let c1_i32_55 : BitVec 32 := 1#32
  let v94 : BitVec 32 := Scalar.subi c1_i32_54 c1_i32_55
  let v95 : BitVec 32 := Scalar.addi v93 v94
  let c1_i32_56 : BitVec 32 := 1#32
  let v96 : BitVec 32 := Scalar.divsi v95 c1_i32_56
  let v97 : BitVec 32 := Scalar.subi v96 c0_i32_58
  let c1_i32_59 : BitVec 32 := 1#32
  let v99 : BitVec 32 := Scalar.divsi v97 c1_i32_59
  let v100 : BitVec 32 := Scalar.muli v99 c1_i32_59
  let v101 : BitVec 32 := Scalar.addi c0_i32_58 v100
  let v98 : BitVec 32 := Scalar.addi c0_i32_58 v97
  let c1_i32_61 : BitVec 32 := 1#32
  ⟨v101, v98, c1_i32_61⟩
def k0_mult2 (v89 : BitVec 32) (v92 : BitVec 32) (k0_t3 : Fin (k0_t3_loop v89 v92).trips) : BitVec 32 :=
  let c0_i32_58 : BitVec 32 := 0#32
  let v93 : BitVec 32 := Scalar.subi v92 v89
  let c1_i32_54 : BitVec 32 := 1#32
  let c1_i32_55 : BitVec 32 := 1#32
  let v94 : BitVec 32 := Scalar.subi c1_i32_54 c1_i32_55
  let v95 : BitVec 32 := Scalar.addi v93 v94
  let c1_i32_56 : BitVec 32 := 1#32
  let v96 : BitVec 32 := Scalar.divsi v95 c1_i32_56
  let v97 : BitVec 32 := Scalar.subi v96 c0_i32_58
  let c1_i32_59 : BitVec 32 := 1#32
  let v99 : BitVec 32 := Scalar.divsi v97 c1_i32_59
  let v100 : BitVec 32 := Scalar.muli v99 c1_i32_59
  let v101 : BitVec 32 := Scalar.addi c0_i32_58 v100
  let c1_i32_61 : BitVec 32 := 1#32
  let arg24 : BitVec 32 := Scf.iv v101 c1_i32_61 k0_t3
  let c1_i32_57 : BitVec 32 := 1#32
  let v112 : BitVec 32 := Scalar.muli arg24 c1_i32_57
  let v113 : BitVec 32 := Scalar.addi v89 v112
  let c128_i32_69 : BitVec 32 := 128#32
  let v114 : BitVec 32 := Scalar.muli v113 c128_i32_69
  v114
def k0_off11 (v89 : BitVec 32) (v92 : BitVec 32) (k0_t3 : Fin (k0_t3_loop v89 v92).trips) : Fin 4 → Nat :=
  let c0_70 : Index := 0#32
  let c0_71 : Index := 0#32
  let c0_i32_58 : BitVec 32 := 0#32
  let v93 : BitVec 32 := Scalar.subi v92 v89
  let c1_i32_54 : BitVec 32 := 1#32
  let c1_i32_55 : BitVec 32 := 1#32
  let v94 : BitVec 32 := Scalar.subi c1_i32_54 c1_i32_55
  let v95 : BitVec 32 := Scalar.addi v93 v94
  let c1_i32_56 : BitVec 32 := 1#32
  let v96 : BitVec 32 := Scalar.divsi v95 c1_i32_56
  let v97 : BitVec 32 := Scalar.subi v96 c0_i32_58
  let c1_i32_59 : BitVec 32 := 1#32
  let v99 : BitVec 32 := Scalar.divsi v97 c1_i32_59
  let v100 : BitVec 32 := Scalar.muli v99 c1_i32_59
  let v101 : BitVec 32 := Scalar.addi c0_i32_58 v100
  let c1_i32_61 : BitVec 32 := 1#32
  let arg24 : BitVec 32 := Scf.iv v101 c1_i32_61 k0_t3
  let c1_i32_57 : BitVec 32 := 1#32
  let v112 : BitVec 32 := Scalar.muli arg24 c1_i32_57
  let v113 : BitVec 32 := Scalar.addi v89 v112
  let c128_i32_69 : BitVec 32 := 128#32
  let v114 : BitVec 32 := Scalar.muli v113 c128_i32_69
  let v115 : BitVec 32 := v114
  let v116 : Index := Scalar.indexCast v115
  let c0_72 : Index := 0#32
  ![0, 0, v116.toNat, 0]
def k0_off12 (v89 : BitVec 32) (v92 : BitVec 32) (k0_t3 : Fin (k0_t3_loop v89 v92).trips) : Fin 2 → Nat :=
  let c0_i32_58 : BitVec 32 := 0#32
  let v93 : BitVec 32 := Scalar.subi v92 v89
  let c1_i32_54 : BitVec 32 := 1#32
  let c1_i32_55 : BitVec 32 := 1#32
  let v94 : BitVec 32 := Scalar.subi c1_i32_54 c1_i32_55
  let v95 : BitVec 32 := Scalar.addi v93 v94
  let c1_i32_56 : BitVec 32 := 1#32
  let v96 : BitVec 32 := Scalar.divsi v95 c1_i32_56
  let v97 : BitVec 32 := Scalar.subi v96 c0_i32_58
  let c1_i32_59 : BitVec 32 := 1#32
  let v99 : BitVec 32 := Scalar.divsi v97 c1_i32_59
  let v100 : BitVec 32 := Scalar.muli v99 c1_i32_59
  let v101 : BitVec 32 := Scalar.addi c0_i32_58 v100
  let c1_i32_61 : BitVec 32 := 1#32
  let arg24 : BitVec 32 := Scf.iv v101 c1_i32_61 k0_t3
  let c1_i32_57 : BitVec 32 := 1#32
  let v112 : BitVec 32 := Scalar.muli arg24 c1_i32_57
  let v113 : BitVec 32 := Scalar.addi v89 v112
  let c128_i32_69 : BitVec 32 := 128#32
  let v114 : BitVec 32 := Scalar.muli v113 c128_i32_69
  let v115 : BitVec 32 := v114
  let v146 : Index := Scalar.indexCast v115
  let c0_80 : Index := 0#32
  ![v146.toNat, 0]
def k0_off13 (v89 : BitVec 32) (v92 : BitVec 32) (k0_t3 : Fin (k0_t3_loop v89 v92).trips) : Fin 5 → Nat :=
  let c0_88 : Index := 0#32
  let c0_89 : Index := 0#32
  let c0_i32_58 : BitVec 32 := 0#32
  let v93 : BitVec 32 := Scalar.subi v92 v89
  let c1_i32_54 : BitVec 32 := 1#32
  let c1_i32_55 : BitVec 32 := 1#32
  let v94 : BitVec 32 := Scalar.subi c1_i32_54 c1_i32_55
  let v95 : BitVec 32 := Scalar.addi v93 v94
  let c1_i32_56 : BitVec 32 := 1#32
  let v96 : BitVec 32 := Scalar.divsi v95 c1_i32_56
  let v97 : BitVec 32 := Scalar.subi v96 c0_i32_58
  let c1_i32_59 : BitVec 32 := 1#32
  let v99 : BitVec 32 := Scalar.divsi v97 c1_i32_59
  let v100 : BitVec 32 := Scalar.muli v99 c1_i32_59
  let v101 : BitVec 32 := Scalar.addi c0_i32_58 v100
  let c1_i32_61 : BitVec 32 := 1#32
  let arg24 : BitVec 32 := Scf.iv v101 c1_i32_61 k0_t3
  let c1_i32_57 : BitVec 32 := 1#32
  let v112 : BitVec 32 := Scalar.muli arg24 c1_i32_57
  let v113 : BitVec 32 := Scalar.addi v89 v112
  let v171 : Index := Scalar.indexCast v113
  let c0_90 : Index := 0#32
  let c0_91 : Index := 0#32
  ![0, 0, v171.toNat, 0, 0]

def k0_chk1 (v89 : BitVec 32) (v92 : BitVec 32) : Prop :=
  ((k0_t2_loop v89 v92).OK) ∧
  (∀ k0_t2 : Fin (k0_t2_loop v89 v92).trips, 128 ∣ (k0_mult1 v89 v92 k0_t2).toNat) ∧
  (∀ k0_t2 : Fin (k0_t2_loop v89 v92).trips, ∀ a, (k0_off8 v89 v92 k0_t2) a + S1x1x128x256.size a ≤ S1x1x1024x256.size a) ∧
  (∀ k0_t2 : Fin (k0_t2_loop v89 v92).trips, ∀ a, (k0_off9 v89 v92 k0_t2) a + S128x256.size a ≤ S1024x256.size a) ∧
  (∀ k0_t2 : Fin (k0_t2_loop v89 v92).trips, ∀ a, (k0_off10 v89 v92 k0_t2) a + S1x1x1x256x128.size a ≤ S1x1x8x256x128.size a) ∧
  ((k0_t3_loop v89 v92).OK) ∧
  (∀ k0_t3 : Fin (k0_t3_loop v89 v92).trips, 128 ∣ (k0_mult2 v89 v92 k0_t3).toNat) ∧
  (∀ k0_t3 : Fin (k0_t3_loop v89 v92).trips, ∀ a, (k0_off11 v89 v92 k0_t3) a + S1x1x128x256.size a ≤ S1x1x1024x256.size a) ∧
  (∀ k0_t3 : Fin (k0_t3_loop v89 v92).trips, ∀ a, (k0_off12 v89 v92 k0_t3) a + S128x256.size a ≤ S1024x256.size a) ∧
  (∀ k0_t3 : Fin (k0_t3_loop v89 v92).trips, ∀ a, (k0_off13 v89 v92 k0_t3) a + S1x1x1x256x128.size a ≤ S1x1x8x256x128.size a)
theorem k0_t2_ok : ∀ (v89 : BitVec 32) (v92 : BitVec 32) (k0_hw1 : k0_chk1 v89 v92), (k0_t2_loop v89 v92).OK := fun v89 v92 k0_hw1 => k0_hw1.1
theorem k0_mult1_dvd : ∀ (v89 : BitVec 32) (v92 : BitVec 32) (k0_hw1 : k0_chk1 v89 v92) (k0_t2 : Fin (k0_t2_loop v89 v92).trips), 128 ∣ (k0_mult1 v89 v92 k0_t2).toNat := fun v89 v92 k0_hw1 k0_t2 => k0_hw1.2.1 k0_t2
theorem k0_off8_inb : ∀ (v89 : BitVec 32) (v92 : BitVec 32) (k0_hw1 : k0_chk1 v89 v92) (k0_t2 : Fin (k0_t2_loop v89 v92).trips), ∀ a, (k0_off8 v89 v92 k0_t2) a + S1x1x128x256.size a ≤ S1x1x1024x256.size a := fun v89 v92 k0_hw1 k0_t2 => k0_hw1.2.2.1 k0_t2
theorem k0_off9_inb : ∀ (v89 : BitVec 32) (v92 : BitVec 32) (k0_hw1 : k0_chk1 v89 v92) (k0_t2 : Fin (k0_t2_loop v89 v92).trips), ∀ a, (k0_off9 v89 v92 k0_t2) a + S128x256.size a ≤ S1024x256.size a := fun v89 v92 k0_hw1 k0_t2 => k0_hw1.2.2.2.1 k0_t2
theorem k0_off10_inb : ∀ (v89 : BitVec 32) (v92 : BitVec 32) (k0_hw1 : k0_chk1 v89 v92) (k0_t2 : Fin (k0_t2_loop v89 v92).trips), ∀ a, (k0_off10 v89 v92 k0_t2) a + S1x1x1x256x128.size a ≤ S1x1x8x256x128.size a := fun v89 v92 k0_hw1 k0_t2 => k0_hw1.2.2.2.2.1 k0_t2
theorem k0_t3_ok : ∀ (v89 : BitVec 32) (v92 : BitVec 32) (k0_hw1 : k0_chk1 v89 v92), (k0_t3_loop v89 v92).OK := fun v89 v92 k0_hw1 => k0_hw1.2.2.2.2.2.1
theorem k0_mult2_dvd : ∀ (v89 : BitVec 32) (v92 : BitVec 32) (k0_hw1 : k0_chk1 v89 v92) (k0_t3 : Fin (k0_t3_loop v89 v92).trips), 128 ∣ (k0_mult2 v89 v92 k0_t3).toNat := fun v89 v92 k0_hw1 k0_t3 => k0_hw1.2.2.2.2.2.2.1 k0_t3
theorem k0_off11_inb : ∀ (v89 : BitVec 32) (v92 : BitVec 32) (k0_hw1 : k0_chk1 v89 v92) (k0_t3 : Fin (k0_t3_loop v89 v92).trips), ∀ a, (k0_off11 v89 v92 k0_t3) a + S1x1x128x256.size a ≤ S1x1x1024x256.size a := fun v89 v92 k0_hw1 k0_t3 => k0_hw1.2.2.2.2.2.2.2.1 k0_t3
theorem k0_off12_inb : ∀ (v89 : BitVec 32) (v92 : BitVec 32) (k0_hw1 : k0_chk1 v89 v92) (k0_t3 : Fin (k0_t3_loop v89 v92).trips), ∀ a, (k0_off12 v89 v92 k0_t3) a + S128x256.size a ≤ S1024x256.size a := fun v89 v92 k0_hw1 k0_t3 => k0_hw1.2.2.2.2.2.2.2.2.1 k0_t3
theorem k0_off13_inb : ∀ (v89 : BitVec 32) (v92 : BitVec 32) (k0_hw1 : k0_chk1 v89 v92) (k0_t3 : Fin (k0_t3_loop v89 v92).trips), ∀ a, (k0_off13 v89 v92 k0_t3) a + S1x1x1x256x128.size a ≤ S1x1x8x256x128.size a := fun v89 v92 k0_hw1 k0_t3 => k0_hw1.2.2.2.2.2.2.2.2.2 k0_t3

def k0_off14 (k0_t1 : Fin k0_t1_loop.trips) : Fin 5 → Nat :=
  let c0_65 : Index := 0#32
  let c0_66 : Index := 0#32
  let c0_i32_27 : BitVec 32 := 0#32
  let c0_i32 : BitVec 32 := 0#32
  let c1_i32_11 : BitVec 32 := 1#32
  let arg23 : BitVec 32 := Scf.iv c0_i32 c1_i32_11 k0_t1
  let c1_i32_26 : BitVec 32 := 1#32
  let v57 : BitVec 32 := Scalar.muli arg23 c1_i32_26
  let v58 : BitVec 32 := Scalar.addi c0_i32_27 v57
  let v108 : Index := Scalar.indexCast v58
  let c0_67 : Index := 0#32
  let c0_68 : Index := 0#32
  ![0, 0, v108.toNat, 0, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_11 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_12 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .smem S24x8 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .smem S24x8 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x8x256x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024x256 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x8x256x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1024x256 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x8x256x256 .fp8e5m2 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x8x256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x8x1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x1x256 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x8x1x256 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x1x8x256x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x1024x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1x1024x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== ReferenceIdeal.lean ====
abbrev S24x1024x8x256 : Shape := ⟨4, ![24, 1024, 8, 256]⟩
abbrev S8 : Shape := ⟨1, ![8]⟩
abbrev S24x1024x4x256 : Shape := ⟨4, ![24, 1024, 4, 256]⟩
abbrev S4 : Shape := ⟨1, ![4]⟩
abbrev S24x8x1024 : Shape := ⟨3, ![24, 8, 1024]⟩
abbrev S24x19 : Shape := ⟨2, ![24, 19]⟩
abbrev S1024 : Shape := ⟨1, ![1024]⟩
abbrev S24x18 : Shape := ⟨2, ![24, 18]⟩
abbrev S24x18x1 : Shape := ⟨3, ![24, 18, 1]⟩
abbrev S1x1x1024 : Shape := ⟨3, ![1, 1, 1024]⟩
abbrev S24x18x1024 : Shape := ⟨3, ![24, 18, 1024]⟩
abbrev S_ : Shape := ⟨0, ![]⟩
abbrev S24x1024 : Shape := ⟨2, ![24, 1024]⟩
abbrev S24x1024x1 : Shape := ⟨3, ![24, 1024, 1]⟩
abbrev S24x1x1024 : Shape := ⟨3, ![24, 1, 1024]⟩
abbrev S24x1024x1024 : Shape := ⟨3, ![24, 1024, 1024]⟩
abbrev S4x2 : Shape := ⟨2, ![4, 2]⟩
abbrev S4x1 : Shape := ⟨2, ![4, 1]⟩
abbrev S1x4x2x1x1 : Shape := ⟨5, ![1, 4, 2, 1, 1]⟩
abbrev S1x1x4x1x1 : Shape := ⟨5, ![1, 1, 4, 1, 1]⟩
abbrev S8x1 : Shape := ⟨2, ![8, 1]⟩
abbrev S1x1x8x1 : Shape := ⟨4, ![1, 1, 8, 1]⟩
abbrev S24x4x2x1024 : Shape := ⟨4, ![24, 4, 2, 1024]⟩
abbrev S24x1024x4x2x256 : Shape := ⟨5, ![24, 1024, 4, 2, 256]⟩
abbrev S24x4x1024x1024x2 : Shape := ⟨5, ![24, 4, 1024, 1024, 2]⟩
abbrev S24x4x2x1024x1024 : Shape := ⟨5, ![24, 4, 2, 1024, 1024]⟩
abbrev S24x1x1x1024x1024 : Shape := ⟨5, ![24, 1, 1, 1024, 1024]⟩
abbrev S24x4x2x1024x1 : Shape := ⟨5, ![24, 4, 2, 1024, 1]⟩
abbrev S24x4x256x2x1024 : Shape := ⟨5, ![24, 4, 256, 2, 1024]⟩
abbrev S24x4x256x1024 : Shape := ⟨4, ![24, 4, 256, 1024]⟩

abbrev nBuf : Space → Nat
  | .hbm => 104
  | .vmem => 8
  | .smem => 0
  | _ => 0

abbrev bufTy : (tb : Table) → Fin (tcTables nBuf tb) → BufTy
  | .hbm, ⟨0, _⟩ => ⟨S24x1024x8x256, .fp8e4m3⟩
  | .hbm, ⟨1, _⟩ => ⟨S8, .f32⟩
  | .hbm, ⟨2, _⟩ => ⟨S24x1024x4x256, .fp8e4m3⟩
  | .hbm, ⟨3, _⟩ => ⟨S4, .f32⟩
  | .hbm, ⟨4, _⟩ => ⟨S24x1024x4x256, .fp8e4m3⟩
  | .hbm, ⟨5, _⟩ => ⟨S4, .f32⟩
  | .hbm, ⟨6, _⟩ => ⟨S24x1024x8x256, .bf16⟩
  | .hbm, ⟨7, _⟩ => ⟨S24x1024x8x256, .fp8e5m2⟩
  | .hbm, ⟨8, _⟩ => ⟨S8, .f32⟩
  | .hbm, ⟨9, _⟩ => ⟨S24x8x1024, .f32⟩
  | .hbm, ⟨10, _⟩ => ⟨S24x19, .i32⟩
  | .hbm, ⟨11, _⟩ => ⟨S24x1024x8x256, .bf16⟩
  | .hbm, ⟨12, _⟩ => ⟨S24x1024x4x256, .bf16⟩
  | .hbm, ⟨13, _⟩ => ⟨S24x1024x4x256, .bf16⟩
  | .hbm, ⟨14, _⟩ => ⟨S24x1024x8x256, .bf16⟩
  | .hbm, ⟨15, _⟩ => ⟨S1024, .i32⟩
  | .hbm, ⟨16, _⟩ => ⟨S24x18, .i32⟩
  | .hbm, ⟨17, _⟩ => ⟨S24x18x1, .i32⟩
  | .hbm, ⟨18, _⟩ => ⟨S1x1x1024, .i32⟩
  | .hbm, ⟨19, _⟩ => ⟨S24x18x1024, .i32⟩
  | .hbm, ⟨20, _⟩ => ⟨S24x18x1024, .i32⟩
  | .hbm, ⟨21, _⟩ => ⟨S24x18x1024, .i1⟩
  | .hbm, ⟨22, _⟩ => ⟨S24x18x1024, .i32⟩
  | .hbm, ⟨23, _⟩ => ⟨S_, .i32⟩
  | .hbm, ⟨24, _⟩ => ⟨S24x1024, .i32⟩
  | .hbm, ⟨25, _⟩ => ⟨S24x1024x1, .i32⟩
  | .hbm, ⟨26, _⟩ => ⟨S24x1x1024, .i32⟩
  | .hbm, ⟨27, _⟩ => ⟨S24x1024x1024, .i32⟩
  | .hbm, ⟨28, _⟩ => ⟨S24x1024x1024, .i32⟩
  | .hbm, ⟨29, _⟩ => ⟨S24x1024x1024, .i1⟩
  | .hbm, ⟨30, _⟩ => ⟨S4x2, .f32⟩
  | .hbm, ⟨31, _⟩ => ⟨S4x2, .f32⟩
  | .hbm, ⟨32, _⟩ => ⟨S4x1, .f32⟩
  | .hbm, ⟨33, _⟩ => ⟨S4x2, .f32⟩
  | .hbm, ⟨34, _⟩ => ⟨S4x2, .f32⟩
  | .hbm, ⟨35, _⟩ => ⟨S_, .f32⟩
  | .hbm, ⟨36, _⟩ => ⟨S4x2, .f32⟩
  | .hbm, ⟨37, _⟩ => ⟨S4x2, .f32⟩
  | .hbm, ⟨38, _⟩ => ⟨S1x4x2x1x1, .f32⟩
  | .hbm, ⟨39, _⟩ => ⟨S4x1, .f32⟩
  | .hbm, ⟨40, _⟩ => ⟨S4x2, .f32⟩
  | .hbm, ⟨41, _⟩ => ⟨S4x2, .f32⟩
  | .hbm, ⟨42, _⟩ => ⟨S1x4x2x1x1, .f32⟩
  | .hbm, ⟨43, _⟩ => ⟨S_, .f32⟩
  | .hbm, ⟨44, _⟩ => ⟨S4, .f32⟩
  | .hbm, ⟨45, _⟩ => ⟨S4, .f32⟩
  | .hbm, ⟨46, _⟩ => ⟨S1x1x4x1x1, .f32⟩
  | .hbm, ⟨47, _⟩ => ⟨S1x4x2x1x1, .f32⟩
  | .hbm, ⟨48, _⟩ => ⟨S1x4x2x1x1, .f32⟩
  | .hbm, ⟨49, _⟩ => ⟨S24x1024x8x256, .f32⟩
  | .hbm, ⟨50, _⟩ => ⟨S8x1, .f32⟩
  | .hbm, ⟨51, _⟩ => ⟨S1x1x8x1, .f32⟩
  | .hbm, ⟨52, _⟩ => ⟨S24x1024x8x256, .f32⟩
  | .hbm, ⟨53, _⟩ => ⟨S24x1024x8x256, .f32⟩
  | .hbm, ⟨54, _⟩ => ⟨S24x1024x8x256, .f32⟩
  | .hbm, ⟨55, _⟩ => ⟨S24x8x1024, .f32⟩
  | .hbm, ⟨56, _⟩ => ⟨S24x4x2x1024, .f32⟩
  | .hbm, ⟨57, _⟩ => ⟨S24x4x2x1024, .f32⟩
  | .hbm, ⟨58, _⟩ => ⟨S24x1024x4x2x256, .bf16⟩
  | .hbm, ⟨59, _⟩ => ⟨S24x1024x4x2x256, .bf16⟩
  | .hbm, ⟨60, _⟩ => ⟨S24x4x1024x1024x2, .f32⟩
  | .hbm, ⟨61, _⟩ => ⟨S24x4x2x1024x1024, .f32⟩
  | .hbm, ⟨62, _⟩ => ⟨S24x4x2x1024x1024, .f32⟩
  | .hbm, ⟨63, _⟩ => ⟨S24x4x2x1024x1024, .f32⟩
  | .hbm, ⟨64, _⟩ => ⟨S24x1x1x1024x1024, .i1⟩
  | .hbm, ⟨65, _⟩ => ⟨S24x4x2x1024x1, .f32⟩
  | .hbm, ⟨66, _⟩ => ⟨S24x4x2x1024x1024, .f32⟩
  | .hbm, ⟨67, _⟩ => ⟨S24x4x2x1024x1024, .f32⟩
  | .hbm, ⟨68, _⟩ => ⟨S24x4x2x1024x1024, .f32⟩
  | .hbm, ⟨69, _⟩ => ⟨S_, .f32⟩
  | .hbm, ⟨70, _⟩ => ⟨S_, .f32⟩
  | .hbm, ⟨71, _⟩ => ⟨S24x4x2x1024x1024, .i1⟩
  | .hbm, ⟨72, _⟩ => ⟨S24x4x2x1024x1024, .f32⟩
  | .hbm, ⟨73, _⟩ => ⟨S24x4x2x1024x1024, .f32⟩
  | .hbm, ⟨74, _⟩ => ⟨S24x4x1024x1024x2, .f32⟩
  | .hbm, ⟨75, _⟩ => ⟨S24x4x2x1024x1024, .f32⟩
  | .hbm, ⟨76, _⟩ => ⟨S24x4x2x1024x1024, .f32⟩
  | .hbm, ⟨77, _⟩ => ⟨S24x4x2x1024x1024, .f32⟩
  | .hbm, ⟨78, _⟩ => ⟨S24x4x2x1024x1, .f32⟩
  | .hbm, ⟨79, _⟩ => ⟨S24x4x2x1024x1024, .f32⟩
  | .hbm, ⟨80, _⟩ => ⟨S24x4x2x1024x1024, .f32⟩
  | .hbm, ⟨81, _⟩ => ⟨S24x4x2x1024x1024, .f32⟩
  | .hbm, ⟨82, _⟩ => ⟨S24x4x2x1024x1024, .bf16⟩
  | .hbm, ⟨83, _⟩ => ⟨S24x4x256x2x1024, .f32⟩
  | .hbm, ⟨84, _⟩ => ⟨S24x1024x4x2x256, .f32⟩
  | .hbm, ⟨85, _⟩ => ⟨S24x1024x4x2x256, .f32⟩
  | .hbm, ⟨86, _⟩ => ⟨S24x1024x4x2x256, .f32⟩
  | .hbm, ⟨87, _⟩ => ⟨S24x4x2x1024x1024, .f32⟩
  | .hbm, ⟨88, _⟩ => ⟨S24x4x2x1024x1024, .f32⟩
  | .hbm, ⟨89, _⟩ => ⟨S24x4x2x1024x1024, .bf16⟩
  | .hbm, ⟨90, _⟩ => ⟨S24x4x256x1024, .f32⟩
  | .hbm, ⟨91, _⟩ => ⟨S24x1024x4x256, .f32⟩
  | .hbm, ⟨92, _⟩ => ⟨S24x4x2x1024x1024, .f32⟩
  | .hbm, ⟨93, _⟩ => ⟨S24x4x2x1024x1024, .f32⟩
  | .hbm, ⟨94, _⟩ => ⟨S24x4x2x1024x1024, .bf16⟩
  | .hbm, ⟨95, _⟩ => ⟨S24x4x256x1024, .f32⟩
  | .hbm, ⟨96, _⟩ => ⟨S24x1024x4x256, .f32⟩
  | .hbm, ⟨97, _⟩ => ⟨S_, .f32⟩
  | .hbm, ⟨98, _⟩ => ⟨S24x1024x4x256, .f32⟩
  | .hbm, ⟨99, _⟩ => ⟨S24x1024x4x256, .f32⟩
  | .hbm, ⟨100, _⟩ => ⟨S24x1024x8x256, .f32⟩
  | .hbm, ⟨101, _⟩ => ⟨S24x1024x8x256, .bf16⟩
  | .hbm, ⟨102, _⟩ => ⟨S24x1024x4x256, .bf16⟩
  | .hbm, ⟨103, _⟩ => ⟨S24x1024x4x256, .bf16⟩
  | .local _ .vmem, ⟨0, _⟩ => ⟨S24x1024x8x256, .fp8e4m3⟩
  | .local _ .vmem, ⟨1, _⟩ => ⟨S24x1024x4x256, .fp8e4m3⟩
  | .local _ .vmem, ⟨2, _⟩ => ⟨S24x1024x4x256, .fp8e4m3⟩
  | .local _ .vmem, ⟨3, _⟩ => ⟨S24x1024x8x256, .fp8e5m2⟩
  | .local _ .vmem, ⟨4, _⟩ => ⟨S24x1024x8x256, .bf16⟩
  | .local _ .vmem, ⟨5, _⟩ => ⟨S24x1024x4x256, .bf16⟩
  | .local _ .vmem, ⟨6, _⟩ => ⟨S24x1024x4x256, .bf16⟩
  | .local _ .vmem, ⟨7, _⟩ => ⟨S24x1024x8x256, .bf16⟩
  | _, _ => ⟨S24x1024x8x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_0 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_1 : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_2 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S24x1024x8x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x1024x4x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x1024x4x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x1024x8x256 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x1024x8x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x1024x4x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x1024x4x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24x1024x8x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Outer.lean ====
/-
  The outer counted loop of the kernel (`k0_t1_loop`, one trip per block of 256 query lanes): its trip run once at a
  symbolic trip number, and the invariant the run of the whole body goes through the loop by. The two inner loops are
  gone through by their generated invariants.
-/
module

public import proofs.«01_k».proof.Proof.Gen.Kernel.Frame
public import proofs.«01_k».proof.Proof.Gen.Kernel.Loops
public import proofs.«01_k».proof.Proof.Gen.Kernel.Skeleton

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The word an outer trip `k` reads at its own place of a table of bounds (`arg6` the first chunks, `arg7` the ends). -/
abbrev word (i : grid0.Coords) (M : Memref sig .tc .smem S24x8 .i32) (X : BufTy.Contents (Elt F) M.view.ty)
    (k : Fin k0_t1_loop.trips) : BitVec 32 :=
  View.readAt (Elt F) M.view (Rect.unit (s := S24x8) (k0_off7 i k) S1x1.size (k0_off7_inb i k)).toLoadRect X
    (Shape.Idx.first (numel1_S1x1.symm ▸ Nat.one_pos))

/-- One outer trip's resources: what the region reads at its contents, what it writes at any. -/
abbrev OTrip (c : Dev nD) (arg6 : Memref sig .tc .smem S24x8 .i32) (arg7 : Memref sig .tc .smem S24x8 .i32) (arg8 : Memref sig .tc .vmem S1x1x8x256x256 .fp8e4m3) (arg9 : Memref sig .tc .vmem S1x1x1024x256 .fp8e4m3) (arg10 : Memref sig .tc .vmem S1x1x8x256x128 .fp8e4m3) (arg11 : Memref sig .tc .vmem S1x1x1024x256 .fp8e4m3) (arg12 : Memref sig .tc .vmem S1x1x8x256x256 .fp8e5m2) (arg13 : Memref sig .tc .vmem S1x1x8x256x256 .bf16) (arg14 : Memref sig .tc .vmem S1x1x8x1x256 .f32) (arg15 : Memref sig .tc .vmem S1x8x1x256 .i32) (arg16 : Memref sig .tc .vmem S1x8x1x256 .i32) (arg17 : Memref sig .tc .vmem S1x1x8x256x256 .bf16) (arg20 : Memref sig .tc .vmem S1024x256 .f32) (arg21 : Memref sig .tc .vmem S1024x256 .f32) (arg22 : Memref sig .tc .vmem S256x256 .f32) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (f17 : BufTy.Contents (Elt F) arg17.view.ty) (f20 : BufTy.Contents (Elt F) arg20.view.ty) (f21 : BufTy.Contents (Elt F) arg21.view.ty) : sProp 𝕄G :=
  iprop((arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} f17) ∗ (arg20.view.loc (c : Thread nD τ) ↦[arg20.view.set]{fullShare} f20) ∗ (arg21.view.loc (c : Thread nD τ) ↦[arg21.view.set]{fullShare} f21) ∗ (∃ f22, arg22.view.loc (c : Thread nD τ) ↦[arg22.view.set]{fullShare} f22))

/-- One outer trip at a symbolic trip number, under the side condition the body assumes of the two words it reads: the
    pieces it writes into the result window and the three scratch buffers, as functions of what it finds there. -/
@[irreducible] def otrip (c : Dev nD) (i : grid0.Coords)
  (arg2 : Memref sig .tc .smem S8 .f32) (harg2 : arg2.IsWhole) (arg3 : Memref sig .tc .smem S4 .f32) (harg3 : arg3.IsWhole)
  (arg4 : Memref sig .tc .smem S4 .f32) (harg4 : arg4.IsWhole) (arg5 : Memref sig .tc .smem S8 .f32) (harg5 : arg5.IsWhole)
  (arg6 : Memref sig .tc .smem S24x8 .i32) (harg6 : arg6.IsWhole) (arg7 : Memref sig .tc .smem S24x8 .i32) (harg7 : arg7.IsWhole)
  (arg8 : Memref sig .tc .vmem S1x1x8x256x256 .fp8e4m3) (harg8 : arg8.IsWhole) (arg9 : Memref sig .tc .vmem S1x1x1024x256 .fp8e4m3) (harg9 : arg9.IsWhole)
  (arg10 : Memref sig .tc .vmem S1x1x8x256x128 .fp8e4m3) (harg10 : arg10.IsWhole) (arg11 : Memref sig .tc .vmem S1x1x1024x256 .fp8e4m3) (harg11 : arg11.IsWhole)
  (arg12 : Memref sig .tc .vmem S1x1x8x256x256 .fp8e5m2) (harg12 : arg12.IsWhole) (arg13 : Memref sig .tc .vmem S1x1x8x256x256 .bf16) (harg13 : arg13.IsWhole)
  (arg14 : Memref sig .tc .vmem S1x1x8x1x256 .f32) (harg14 : arg14.IsWhole) (arg15 : Memref sig .tc .vmem S1x8x1x256 .i32) (harg15 : arg15.IsWhole)
  (arg16 : Memref sig .tc .vmem S1x8x1x256 .i32) (harg16 : arg16.IsWhole) (arg17 : Memref sig .tc .vmem S1x1x8x256x256 .bf16) (harg17 : arg17.IsWhole)
  (arg18 : Memref sig .tc .vmem S1x1x1024x256 .bf16) (harg18 : arg18.IsWhole) (arg19 : Memref sig .tc .vmem S1x1x1024x256 .bf16) (harg19 : arg19.IsWhole)
  (arg20 : Memref sig .tc .vmem S1024x256 .f32) (harg20 : arg20.IsWhole) (arg21 : Memref sig .tc .vmem S1024x256 .f32) (harg21 : arg21.IsWhole)
  (arg22 : Memref sig .tc .vmem S256x256 .f32) (harg22 : arg22.IsWhole)
  (v9 : Elt F .f32) (v11 : Elt F .f32) (v24 : FVec F S1x256 .f32) (v36 : FVec F S1x256 .f32) (v40 : FVec F S1x256 .f32)
  (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (k : Fin k0_t1_loop.trips) (hk : k0_chk1 (word i arg6 X6 k) (word i arg7 X7 k)) :
    Σ' (L17 : (BufTy.Contents (Elt F) arg17.view.ty → BufTy.Contents (Elt F) arg20.view.ty → BufTy.Contents (Elt F) arg21.view.ty → List (View.Piece (Elt F) S1x1x8x256x256 .bf16))) (L20 : (BufTy.Contents (Elt F) arg17.view.ty → BufTy.Contents (Elt F) arg20.view.ty → BufTy.Contents (Elt F) arg21.view.ty → List (View.Piece (Elt F) S1024x256 .f32))), { L21 : (BufTy.Contents (Elt F) arg17.view.ty → BufTy.Contents (Elt F) arg20.view.ty → BufTy.Contents (Elt F) arg21.view.ty → List (View.Piece (Elt F) S1024x256 .f32)) // ∀ (E : Set ℕ) (f17 : BufTy.Contents (Elt F) arg17.view.ty) (f20 : BufTy.Contents (Elt F) arg20.view.ty) (f21 : BufTy.Contents (Elt F) arg21.view.ty),
      OTrip (F := F) c arg6 arg7 arg8 arg9 arg10 arg11 arg12 arg13 arg14 arg15 arg16 arg17 arg20 arg21 arg22 X6 X7 X8 X9 X10 X11 X12 X13 X14 X15 X16 f17 f20 f21
      ⊢ wp frame (wpE (defs₀ (F := F)) Variants.none (c : Thread nD τ) none) E
          (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 k PUnit.unit)
          (fun _ => OTrip (F := F) c arg6 arg7 arg8 arg9 arg10 arg11 arg12 arg13 arg14 arg15 arg16 arg17 arg20 arg21 arg22 X6 X7 X8 X9 X10 X11 X12 X13 X14 X15 X16 (arg17.view.writes (Elt F) f17 (L17 f17 f20 f21)) (arg20.view.writes (Elt F) f20 (L20 f17 f20 f21)) (arg21.view.writes (Elt F) f21 (L21 f17 f20 f21))) } := by
  refine ⟨?_, ?_, ?_, fun E f17 f20 f21 => ?run⟩
  case run =>
    unfold k0_t1_body
    iintro ⟨HR6, HR7, HR8, HR9, HR10, HR11, HR12, HR13, HR14, HR15, HR16, HW17, HW20, HW21, ⟨%f22, HW22⟩⟩
    sl_exec
    sl_step
    sl_close

/-- The piece lists an outer trip writes, at the contents it finds. -/
abbrev otripL (c : Dev nD) (i : grid0.Coords)
  (arg2 : Memref sig .tc .smem S8 .f32) (harg2 : arg2.IsWhole) (arg3 : Memref sig .tc .smem S4 .f32) (harg3 : arg3.IsWhole)
  (arg4 : Memref sig .tc .smem S4 .f32) (harg4 : arg4.IsWhole) (arg5 : Memref sig .tc .smem S8 .f32) (harg5 : arg5.IsWhole)
  (arg6 : Memref sig .tc .smem S24x8 .i32) (harg6 : arg6.IsWhole) (arg7 : Memref sig .tc .smem S24x8 .i32) (harg7 : arg7.IsWhole)
  (arg8 : Memref sig .tc .vmem S1x1x8x256x256 .fp8e4m3) (harg8 : arg8.IsWhole) (arg9 : Memref sig .tc .vmem S1x1x1024x256 .fp8e4m3) (harg9 : arg9.IsWhole)
  (arg10 : Memref sig .tc .vmem S1x1x8x256x128 .fp8e4m3) (harg10 : arg10.IsWhole) (arg11 : Memref sig .tc .vmem S1x1x1024x256 .fp8e4m3) (harg11 : arg11.IsWhole)
  (arg12 : Memref sig .tc .vmem S1x1x8x256x256 .fp8e5m2) (harg12 : arg12.IsWhole) (arg13 : Memref sig .tc .vmem S1x1x8x256x256 .bf16) (harg13 : arg13.IsWhole)
  (arg14 : Memref sig .tc .vmem S1x1x8x1x256 .f32) (harg14 : arg14.IsWhole) (arg15 : Memref sig .tc .vmem S1x8x1x256 .i32) (harg15 : arg15.IsWhole)
  (arg16 : Memref sig .tc .vmem S1x8x1x256 .i32) (harg16 : arg16.IsWhole) (arg17 : Memref sig .tc .vmem S1x1x8x256x256 .bf16) (harg17 : arg17.IsWhole)
  (arg18 : Memref sig .tc .vmem S1x1x1024x256 .bf16) (harg18 : arg18.IsWhole) (arg19 : Memref sig .tc .vmem S1x1x1024x256 .bf16) (harg19 : arg19.IsWhole)
  (arg20 : Memref sig .tc .vmem S1024x256 .f32) (harg20 : arg20.IsWhole) (arg21 : Memref sig .tc .vmem S1024x256 .f32) (harg21 : arg21.IsWhole)
  (arg22 : Memref sig .tc .vmem S256x256 .f32) (harg22 : arg22.IsWhole)
  (v9 : Elt F .f32) (v11 : Elt F .f32) (v24 : FVec F S1x256 .f32) (v36 : FVec F S1x256 .f32) (v40 : FVec F S1x256 .f32)
  (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (hw : ∀ k, k0_chk1 (word i arg6 X6 k) (word i arg7 X7 k)) (k : Fin k0_t1_loop.trips) (f17 : BufTy.Contents (Elt F) arg17.view.ty) (f20 : BufTy.Contents (Elt F) arg20.view.ty) (f21 : BufTy.Contents (Elt F) arg21.view.ty) :
    List (View.Piece (Elt F) S1x1x8x256x256 .bf16) × List (View.Piece (Elt F) S1024x256 .f32) × List (View.Piece (Elt F) S1024x256 .f32) :=
  ((otrip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 k (hw k)).1 f17 f20 f21, (otrip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 k (hw k)).2.1 f17 f20 f21, (otrip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 k (hw k)).2.2.1 f17 f20 f21)

/-- Trip `k`'s contribution to the pieces written before it. -/
@[irreducible] def opbStep (c : Dev nD) (i : grid0.Coords)
  (arg2 : Memref sig .tc .smem S8 .f32) (harg2 : arg2.IsWhole) (arg3 : Memref sig .tc .smem S4 .f32) (harg3 : arg3.IsWhole)
  (arg4 : Memref sig .tc .smem S4 .f32) (harg4 : arg4.IsWhole) (arg5 : Memref sig .tc .smem S8 .f32) (harg5 : arg5.IsWhole)
  (arg6 : Memref sig .tc .smem S24x8 .i32) (harg6 : arg6.IsWhole) (arg7 : Memref sig .tc .smem S24x8 .i32) (harg7 : arg7.IsWhole)
  (arg8 : Memref sig .tc .vmem S1x1x8x256x256 .fp8e4m3) (harg8 : arg8.IsWhole) (arg9 : Memref sig .tc .vmem S1x1x1024x256 .fp8e4m3) (harg9 : arg9.IsWhole)
  (arg10 : Memref sig .tc .vmem S1x1x8x256x128 .fp8e4m3) (harg10 : arg10.IsWhole) (arg11 : Memref sig .tc .vmem S1x1x1024x256 .fp8e4m3) (harg11 : arg11.IsWhole)
  (arg12 : Memref sig .tc .vmem S1x1x8x256x256 .fp8e5m2) (harg12 : arg12.IsWhole) (arg13 : Memref sig .tc .vmem S1x1x8x256x256 .bf16) (harg13 : arg13.IsWhole)
  (arg14 : Memref sig .tc .vmem S1x1x8x1x256 .f32) (harg14 : arg14.IsWhole) (arg15 : Memref sig .tc .vmem S1x8x1x256 .i32) (harg15 : arg15.IsWhole)
  (arg16 : Memref sig .tc .vmem S1x8x1x256 .i32) (harg16 : arg16.IsWhole) (arg17 : Memref sig .tc .vmem S1x1x8x256x256 .bf16) (harg17 : arg17.IsWhole)
  (arg18 : Memref sig .tc .vmem S1x1x1024x256 .bf16) (harg18 : arg18.IsWhole) (arg19 : Memref sig .tc .vmem S1x1x1024x256 .bf16) (harg19 : arg19.IsWhole)
  (arg20 : Memref sig .tc .vmem S1024x256 .f32) (harg20 : arg20.IsWhole) (arg21 : Memref sig .tc .vmem S1024x256 .f32) (harg21 : arg21.IsWhole)
  (arg22 : Memref sig .tc .vmem S256x256 .f32) (harg22 : arg22.IsWhole)
  (v9 : Elt F .f32) (v11 : Elt F .f32) (v24 : FVec F S1x256 .f32) (v36 : FVec F S1x256 .f32) (v40 : FVec F S1x256 .f32)
  (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (hw : ∀ k, k0_chk1 (word i arg6 X6 k) (word i arg7 X7 k)) (G17 : BufTy.Contents (Elt F) arg17.view.ty) (G20 : BufTy.Contents (Elt F) arg20.view.ty) (G21 : BufTy.Contents (Elt F) arg21.view.ty) (k : ℕ)
    (prev : List (View.Piece (Elt F) S1x1x8x256x256 .bf16) × List (View.Piece (Elt F) S1024x256 .f32) × List (View.Piece (Elt F) S1024x256 .f32)) : List (View.Piece (Elt F) S1x1x8x256x256 .bf16) × List (View.Piece (Elt F) S1024x256 .f32) × List (View.Piece (Elt F) S1024x256 .f32) :=
  if h : k < k0_t1_loop.trips then
    ((otripL (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw ⟨k, h⟩ (arg17.view.writes (Elt F) G17 prev.1) (arg20.view.writes (Elt F) G20 prev.2.1) (arg21.view.writes (Elt F) G21 prev.2.2)).1 ++ prev.1, (otripL (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw ⟨k, h⟩ (arg17.view.writes (Elt F) G17 prev.1) (arg20.view.writes (Elt F) G20 prev.2.1) (arg21.view.writes (Elt F) G21 prev.2.2)).2.1 ++ prev.2.1, (otripL (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw ⟨k, h⟩ (arg17.view.writes (Elt F) G17 prev.1) (arg20.view.writes (Elt F) G20 prev.2.1) (arg21.view.writes (Elt F) G21 prev.2.2)).2.2 ++ prev.2.2)
  else prev

/-- The pieces of the outer trips before `k` (last first), over the contents at loop entry. -/
def opb (c : Dev nD) (i : grid0.Coords)
  (arg2 : Memref sig .tc .smem S8 .f32) (harg2 : arg2.IsWhole) (arg3 : Memref sig .tc .smem S4 .f32) (harg3 : arg3.IsWhole)
  (arg4 : Memref sig .tc .smem S4 .f32) (harg4 : arg4.IsWhole) (arg5 : Memref sig .tc .smem S8 .f32) (harg5 : arg5.IsWhole)
  (arg6 : Memref sig .tc .smem S24x8 .i32) (harg6 : arg6.IsWhole) (arg7 : Memref sig .tc .smem S24x8 .i32) (harg7 : arg7.IsWhole)
  (arg8 : Memref sig .tc .vmem S1x1x8x256x256 .fp8e4m3) (harg8 : arg8.IsWhole) (arg9 : Memref sig .tc .vmem S1x1x1024x256 .fp8e4m3) (harg9 : arg9.IsWhole)
  (arg10 : Memref sig .tc .vmem S1x1x8x256x128 .fp8e4m3) (harg10 : arg10.IsWhole) (arg11 : Memref sig .tc .vmem S1x1x1024x256 .fp8e4m3) (harg11 : arg11.IsWhole)
  (arg12 : Memref sig .tc .vmem S1x1x8x256x256 .fp8e5m2) (harg12 : arg12.IsWhole) (arg13 : Memref sig .tc .vmem S1x1x8x256x256 .bf16) (harg13 : arg13.IsWhole)
  (arg14 : Memref sig .tc .vmem S1x1x8x1x256 .f32) (harg14 : arg14.IsWhole) (arg15 : Memref sig .tc .vmem S1x8x1x256 .i32) (harg15 : arg15.IsWhole)
  (arg16 : Memref sig .tc .vmem S1x8x1x256 .i32) (harg16 : arg16.IsWhole) (arg17 : Memref sig .tc .vmem S1x1x8x256x256 .bf16) (harg17 : arg17.IsWhole)
  (arg18 : Memref sig .tc .vmem S1x1x1024x256 .bf16) (harg18 : arg18.IsWhole) (arg19 : Memref sig .tc .vmem S1x1x1024x256 .bf16) (harg19 : arg19.IsWhole)
  (arg20 : Memref sig .tc .vmem S1024x256 .f32) (harg20 : arg20.IsWhole) (arg21 : Memref sig .tc .vmem S1024x256 .f32) (harg21 : arg21.IsWhole)
  (arg22 : Memref sig .tc .vmem S256x256 .f32) (harg22 : arg22.IsWhole)
  (v9 : Elt F .f32) (v11 : Elt F .f32) (v24 : FVec F S1x256 .f32) (v36 : FVec F S1x256 .f32) (v40 : FVec F S1x256 .f32)
  (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (hw : ∀ k, k0_chk1 (word i arg6 X6 k) (word i arg7 X7 k)) (G17 : BufTy.Contents (Elt F) arg17.view.ty) (G20 : BufTy.Contents (Elt F) arg20.view.ty) (G21 : BufTy.Contents (Elt F) arg21.view.ty) : ℕ → List (View.Piece (Elt F) S1x1x8x256x256 .bf16) × List (View.Piece (Elt F) S1024x256 .f32) × List (View.Piece (Elt F) S1024x256 .f32)
  | 0 => ([], [], [])
  | k + 1 => opbStep c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k (opb c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k)

/-- One more trip puts its own pieces in front. -/
theorem opb_succ (c : Dev nD) (i : grid0.Coords)
  (arg2 : Memref sig .tc .smem S8 .f32) (harg2 : arg2.IsWhole) (arg3 : Memref sig .tc .smem S4 .f32) (harg3 : arg3.IsWhole)
  (arg4 : Memref sig .tc .smem S4 .f32) (harg4 : arg4.IsWhole) (arg5 : Memref sig .tc .smem S8 .f32) (harg5 : arg5.IsWhole)
  (arg6 : Memref sig .tc .smem S24x8 .i32) (harg6 : arg6.IsWhole) (arg7 : Memref sig .tc .smem S24x8 .i32) (harg7 : arg7.IsWhole)
  (arg8 : Memref sig .tc .vmem S1x1x8x256x256 .fp8e4m3) (harg8 : arg8.IsWhole) (arg9 : Memref sig .tc .vmem S1x1x1024x256 .fp8e4m3) (harg9 : arg9.IsWhole)
  (arg10 : Memref sig .tc .vmem S1x1x8x256x128 .fp8e4m3) (harg10 : arg10.IsWhole) (arg11 : Memref sig .tc .vmem S1x1x1024x256 .fp8e4m3) (harg11 : arg11.IsWhole)
  (arg12 : Memref sig .tc .vmem S1x1x8x256x256 .fp8e5m2) (harg12 : arg12.IsWhole) (arg13 : Memref sig .tc .vmem S1x1x8x256x256 .bf16) (harg13 : arg13.IsWhole)
  (arg14 : Memref sig .tc .vmem S1x1x8x1x256 .f32) (harg14 : arg14.IsWhole) (arg15 : Memref sig .tc .vmem S1x8x1x256 .i32) (harg15 : arg15.IsWhole)
  (arg16 : Memref sig .tc .vmem S1x8x1x256 .i32) (harg16 : arg16.IsWhole) (arg17 : Memref sig .tc .vmem S1x1x8x256x256 .bf16) (harg17 : arg17.IsWhole)
  (arg18 : Memref sig .tc .vmem S1x1x1024x256 .bf16) (harg18 : arg18.IsWhole) (arg19 : Memref sig .tc .vmem S1x1x1024x256 .bf16) (harg19 : arg19.IsWhole)
  (arg20 : Memref sig .tc .vmem S1024x256 .f32) (harg20 : arg20.IsWhole) (arg21 : Memref sig .tc .vmem S1024x256 .f32) (harg21 : arg21.IsWhole)
  (arg22 : Memref sig .tc .vmem S256x256 .f32) (harg22 : arg22.IsWhole)
  (v9 : Elt F .f32) (v11 : Elt F .f32) (v24 : FVec F S1x256 .f32) (v36 : FVec F S1x256 .f32) (v40 : FVec F S1x256 .f32)
  (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (hw : ∀ k, k0_chk1 (word i arg6 X6 k) (word i arg7 X7 k)) (G17 : BufTy.Contents (Elt F) arg17.view.ty) (G20 : BufTy.Contents (Elt F) arg20.view.ty) (G21 : BufTy.Contents (Elt F) arg21.view.ty) (k : Fin k0_t1_loop.trips) :
    opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 (k.val + 1) =
      ((otripL (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw k (arg17.view.writes (Elt F) G17 (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).1) (arg20.view.writes (Elt F) G20 (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).2.1) (arg21.view.writes (Elt F) G21 (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).2.2)).1 ++ (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).1, (otripL (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw k (arg17.view.writes (Elt F) G17 (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).1) (arg20.view.writes (Elt F) G20 (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).2.1) (arg21.view.writes (Elt F) G21 (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).2.2)).2.1 ++ (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).2.1, (otripL (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw k (arg17.view.writes (Elt F) G17 (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).1) (arg20.view.writes (Elt F) G20 (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).2.1) (arg21.view.writes (Elt F) G21 (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).2.2)).2.2 ++ (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).2.2) := by
  rw [opb.eq_2]; unfold opbStep; exact dif_pos k.isLt

/-- The invariant before outer trip `k`: the inputs at their contents, the result window and the two accumulators at the
    pieces written so far, the third scratch buffer at anything. -/
abbrev oinv (c : Dev nD) (i : grid0.Coords)
  (arg2 : Memref sig .tc .smem S8 .f32) (harg2 : arg2.IsWhole) (arg3 : Memref sig .tc .smem S4 .f32) (harg3 : arg3.IsWhole)
  (arg4 : Memref sig .tc .smem S4 .f32) (harg4 : arg4.IsWhole) (arg5 : Memref sig .tc .smem S8 .f32) (harg5 : arg5.IsWhole)
  (arg6 : Memref sig .tc .smem S24x8 .i32) (harg6 : arg6.IsWhole) (arg7 : Memref sig .tc .smem S24x8 .i32) (harg7 : arg7.IsWhole)
  (arg8 : Memref sig .tc .vmem S1x1x8x256x256 .fp8e4m3) (harg8 : arg8.IsWhole) (arg9 : Memref sig .tc .vmem S1x1x1024x256 .fp8e4m3) (harg9 : arg9.IsWhole)
  (arg10 : Memref sig .tc .vmem S1x1x8x256x128 .fp8e4m3) (harg10 : arg10.IsWhole) (arg11 : Memref sig .tc .vmem S1x1x1024x256 .fp8e4m3) (harg11 : arg11.IsWhole)
  (arg12 : Memref sig .tc .vmem S1x1x8x256x256 .fp8e5m2) (harg12 : arg12.IsWhole) (arg13 : Memref sig .tc .vmem S1x1x8x256x256 .bf16) (harg13 : arg13.IsWhole)
  (arg14 : Memref sig .tc .vmem S1x1x8x1x256 .f32) (harg14 : arg14.IsWhole) (arg15 : Memref sig .tc .vmem S1x8x1x256 .i32) (harg15 : arg15.IsWhole)
  (arg16 : Memref sig .tc .vmem S1x8x1x256 .i32) (harg16 : arg16.IsWhole) (arg17 : Memref sig .tc .vmem S1x1x8x256x256 .bf16) (harg17 : arg17.IsWhole)
  (arg18 : Memref sig .tc .vmem S1x1x1024x256 .bf16) (harg18 : arg18.IsWhole) (arg19 : Memref sig .tc .vmem S1x1x1024x256 .bf16) (harg19 : arg19.IsWhole)
  (arg20 : Memref sig .tc .vmem S1024x256 .f32) (harg20 : arg20.IsWhole) (arg21 : Memref sig .tc .vmem S1024x256 .f32) (harg21 : arg21.IsWhole)
  (arg22 : Memref sig .tc .vmem S256x256 .f32) (harg22 : arg22.IsWhole)
  (v9 : Elt F .f32) (v11 : Elt F .f32) (v24 : FVec F S1x256 .f32) (v36 : FVec F S1x256 .f32) (v40 : FVec F S1x256 .f32)
  (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (hw : ∀ k, k0_chk1 (word i arg6 X6 k) (word i arg7 X7 k)) (G17 : BufTy.Contents (Elt F) arg17.view.ty) (G20 : BufTy.Contents (Elt F) arg20.view.ty) (G21 : BufTy.Contents (Elt F) arg21.view.ty) (k : ℕ) (_u : PUnit) : sProp 𝕄G :=
  iprop((arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (∃ f, (arg17.view.loc (c : Thread nD τ) ↦[arg17.view.set]{fullShare} f) ∗ ⌜f = arg17.view.writes (Elt F) G17 (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k).1⌝) ∗ (∃ f, (arg20.view.loc (c : Thread nD τ) ↦[arg20.view.set]{fullShare} f) ∗ ⌜f = arg20.view.writes (Elt F) G20 (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k).2.1⌝) ∗ (∃ f, (arg21.view.loc (c : Thread nD τ) ↦[arg21.view.set]{fullShare} f) ∗ ⌜f = arg21.view.writes (Elt F) G21 (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k).2.2⌝) ∗ (∃ f22, arg22.view.loc (c : Thread nD τ) ↦[arg22.view.set]{fullShare} f22))

set_option warn.classDefReducibility false in
/-- The outer loop by its invariant. -/
@[sl_loop] def loopInv_k0_t1 (c : Dev nD) (i : grid0.Coords)
  (arg2 : Memref sig .tc .smem S8 .f32) (harg2 : arg2.IsWhole) (arg3 : Memref sig .tc .smem S4 .f32) (harg3 : arg3.IsWhole)
  (arg4 : Memref sig .tc .smem S4 .f32) (harg4 : arg4.IsWhole) (arg5 : Memref sig .tc .smem S8 .f32) (harg5 : arg5.IsWhole)
  (arg6 : Memref sig .tc .smem S24x8 .i32) (harg6 : arg6.IsWhole) (arg7 : Memref sig .tc .smem S24x8 .i32) (harg7 : arg7.IsWhole)
  (arg8 : Memref sig .tc .vmem S1x1x8x256x256 .fp8e4m3) (harg8 : arg8.IsWhole) (arg9 : Memref sig .tc .vmem S1x1x1024x256 .fp8e4m3) (harg9 : arg9.IsWhole)
  (arg10 : Memref sig .tc .vmem S1x1x8x256x128 .fp8e4m3) (harg10 : arg10.IsWhole) (arg11 : Memref sig .tc .vmem S1x1x1024x256 .fp8e4m3) (harg11 : arg11.IsWhole)
  (arg12 : Memref sig .tc .vmem S1x1x8x256x256 .fp8e5m2) (harg12 : arg12.IsWhole) (arg13 : Memref sig .tc .vmem S1x1x8x256x256 .bf16) (harg13 : arg13.IsWhole)
  (arg14 : Memref sig .tc .vmem S1x1x8x1x256 .f32) (harg14 : arg14.IsWhole) (arg15 : Memref sig .tc .vmem S1x8x1x256 .i32) (harg15 : arg15.IsWhole)
  (arg16 : Memref sig .tc .vmem S1x8x1x256 .i32) (harg16 : arg16.IsWhole) (arg17 : Memref sig .tc .vmem S1x1x8x256x256 .bf16) (harg17 : arg17.IsWhole)
  (arg18 : Memref sig .tc .vmem S1x1x1024x256 .bf16) (harg18 : arg18.IsWhole) (arg19 : Memref sig .tc .vmem S1x1x1024x256 .bf16) (harg19 : arg19.IsWhole)
  (arg20 : Memref sig .tc .vmem S1024x256 .f32) (harg20 : arg20.IsWhole) (arg21 : Memref sig .tc .vmem S1024x256 .f32) (harg21 : arg21.IsWhole)
  (arg22 : Memref sig .tc .vmem S256x256 .f32) (harg22 : arg22.IsWhole)
  (v9 : Elt F .f32) (v11 : Elt F .f32) (v24 : FVec F S1x256 .f32) (v36 : FVec F S1x256 .f32) (v40 : FVec F S1x256 .f32)
  (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (hw : ∀ k, k0_chk1 (word i arg6 X6 k) (word i arg7 X7 k)) (G17 : BufTy.Contents (Elt F) arg17.view.ty) (G20 : BufTy.Contents (Elt F) arg20.view.ty) (G21 : BufTy.Contents (Elt F) arg21.view.ty) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 where
  inv := oinv (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21
  step k acc := by
    iintro ⟨HR6, HR7, HR8, HR9, HR10, HR11, HR12, HR13, HR14, HR15, HR16, ⟨%f17, HW17, %h17⟩, ⟨%f20, HW20, %h20⟩, ⟨%f21, HW21, %h21⟩, HW22⟩
    iapply (wp_wand_r Idealize.ShloMosaic.frame (wpE (defs₀ (F := F)) Variants.none (c : Thread nD τ) none) Set.univ)
    isplitl [HR6 HR7 HR8 HR9 HR10 HR11 HR12 HR13 HR14 HR15 HR16 HW17 HW20 HW21 HW22]
    · iapply ((otrip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 k (hw k)).2.2.2 Set.univ f17 f20 f21)
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HW17]; · iexact HW17
      isplitl [HW20]; · iexact HW20
      isplitl [HW21]; · iexact HW21
      iexact HW22
    · iintro %_ ⟨HR6, HR7, HR8, HR9, HR10, HR11, HR12, HR13, HR14, HR15, HR16, HW17, HW20, HW21, HW22⟩
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      rw [opb_succ]
      isplitl [HW17]
      · iexists _; isplitl [HW17]; · iexact HW17
        ipureintro; rw [h17, h20, h21, ← View.writes_append]
      isplitl [HW20]
      · iexists _; isplitl [HW20]; · iexact HW20
        ipureintro; rw [h17, h20, h21, ← View.writes_append]
      isplitl [HW21]
      · iexists _; isplitl [HW21]; · iexact HW21
        ipureintro; rw [h17, h20, h21, ← View.writes_append]
      iexact HW22

end Cert.Proof.Kernel

end
-- ==== Proof.Body.lean ====
/-
  The region's body run once: what it writes into its three result windows, as functions of what it reads, under the
  side condition on the words of the two tables of bounds.
-/
module

public import proofs.«01_k».proof.Proof.Outer

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The body's resources: what it reads at its contents, its three result windows at some, its scratch at any. -/
abbrev BodyRes (c : Dev nD)
  (arg2 : Memref sig .tc .smem S8 .f32) (arg3 : Memref sig .tc .smem S4 .f32) (arg4 : Memref sig .tc .smem S4 .f32) (arg5 : Memref sig .tc .smem S8 .f32) (arg6 : Memref sig .tc .smem S24x8 .i32) (arg7 : Memref sig .tc .smem S24x8 .i32) (arg8 : Memref sig .tc .vmem S1x1x8x256x256 .fp8e4m3) (arg9 : Memref sig .tc .vmem S1x1x1024x256 .fp8e4m3) (arg10 : Memref sig .tc .vmem S1x1x8x256x128 .fp8e4m3) (arg11 : Memref sig .tc .vmem S1x1x1024x256 .fp8e4m3) (arg12 : Memref sig .tc .vmem S1x1x8x256x256 .fp8e5m2) (arg13 : Memref sig .tc .vmem S1x1x8x256x256 .bf16) (arg14 : Memref sig .tc .vmem S1x1x8x1x256 .f32) (arg15 : Memref sig .tc .vmem S1x8x1x256 .i32) (arg16 : Memref sig .tc .vmem S1x8x1x256 .i32) (arg17 : Memref sig .tc .vmem S1x1x8x256x256 .bf16) (arg18 : Memref sig .tc .vmem S1x1x1024x256 .bf16) (arg19 : Memref sig .tc .vmem S1x1x1024x256 .bf16) (arg20 : Memref sig .tc .vmem S1024x256 .f32) (arg21 : Memref sig .tc .vmem S1024x256 .f32) (arg22 : Memref sig .tc .vmem S256x256 .f32)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (f17 : BufTy.Contents (Elt F) arg17.view.ty) (f18 : BufTy.Contents (Elt F) arg18.view.ty) (f19 : BufTy.Contents (Elt F) arg19.view.ty) : sProp 𝕄G :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (∃ f20, (arg20.view.loc (c : Thread nD τ) ↦[arg20.view.set]{fullShare} f20)) ∗ (∃ f21, (arg21.view.loc (c : Thread nD τ) ↦[arg21.view.set]{fullShare} f21)) ∗ (∃ f22, (arg22.view.loc (c : Thread nD τ) ↦[arg22.view.set]{fullShare} f22)))

/-- The body's run: the pieces of the first result window over the contents found there, and those of the other two. -/
@[irreducible] def bodyRun (c : Dev nD) (i : grid0.Coords)
  (arg2 : Memref sig .tc .smem S8 .f32) (harg2 : arg2.IsWhole) (arg3 : Memref sig .tc .smem S4 .f32) (harg3 : arg3.IsWhole)
  (arg4 : Memref sig .tc .smem S4 .f32) (harg4 : arg4.IsWhole) (arg5 : Memref sig .tc .smem S8 .f32) (harg5 : arg5.IsWhole)
  (arg6 : Memref sig .tc .smem S24x8 .i32) (harg6 : arg6.IsWhole) (arg7 : Memref sig .tc .smem S24x8 .i32) (harg7 : arg7.IsWhole)
  (arg8 : Memref sig .tc .vmem S1x1x8x256x256 .fp8e4m3) (harg8 : arg8.IsWhole) (arg9 : Memref sig .tc .vmem S1x1x1024x256 .fp8e4m3) (harg9 : arg9.IsWhole)
  (arg10 : Memref sig .tc .vmem S1x1x8x256x128 .fp8e4m3) (harg10 : arg10.IsWhole) (arg11 : Memref sig .tc .vmem S1x1x1024x256 .fp8e4m3) (harg11 : arg11.IsWhole)
  (arg12 : Memref sig .tc .vmem S1x1x8x256x256 .fp8e5m2) (harg12 : arg12.IsWhole) (arg13 : Memref sig .tc .vmem S1x1x8x256x256 .bf16) (harg13 : arg13.IsWhole)
  (arg14 : Memref sig .tc .vmem S1x1x8x1x256 .f32) (harg14 : arg14.IsWhole) (arg15 : Memref sig .tc .vmem S1x8x1x256 .i32) (harg15 : arg15.IsWhole)
  (arg16 : Memref sig .tc .vmem S1x8x1x256 .i32) (harg16 : arg16.IsWhole) (arg17 : Memref sig .tc .vmem S1x1x8x256x256 .bf16) (harg17 : arg17.IsWhole)
  (arg18 : Memref sig .tc .vmem S1x1x1024x256 .bf16) (harg18 : arg18.IsWhole) (arg19 : Memref sig .tc .vmem S1x1x1024x256 .bf16) (harg19 : arg19.IsWhole)
  (arg20 : Memref sig .tc .vmem S1024x256 .f32) (harg20 : arg20.IsWhole) (arg21 : Memref sig .tc .vmem S1024x256 .f32) (harg21 : arg21.IsWhole)
  (arg22 : Memref sig .tc .vmem S256x256 .f32) (harg22 : arg22.IsWhole)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty)
  (hw : ∀ k, k0_chk1 (word i arg6 X6 k) (word i arg7 X7 k)) :
    Σ' (L17 : BufTy.Contents (Elt F) arg17.view.ty → List (View.Piece (Elt F) S1x1x8x256x256 .bf16))
       (L18 : BufTy.Contents (Elt F) arg17.view.ty → List (View.Piece (Elt F) S1x1x1024x256 .bf16)),
      { L19 : BufTy.Contents (Elt F) arg17.view.ty → List (View.Piece (Elt F) S1x1x1024x256 .bf16) //
      ∀ (f17 : BufTy.Contents (Elt F) arg17.view.ty) (f18 : BufTy.Contents (Elt F) arg18.view.ty) (f19 : BufTy.Contents (Elt F) arg19.view.ty), BodyRes (F := F) c arg2 arg3 arg4 arg5 arg6 arg7 arg8 arg9 arg10 arg11 arg12 arg13 arg14 arg15 arg16 arg17 arg18 arg19 arg20 arg21 arg22 X2 X3 X4 X5 X6 X7 X8 X9 X10 X11 X12 X13 X14 X15 X16 f17 f18 f19
      ⊢ wp frame (wpE (defs₀ (F := F)) Variants.none (c : Thread nD τ) none) Set.univ
          (cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
          (fun _ => BodyRes (F := F) c arg2 arg3 arg4 arg5 arg6 arg7 arg8 arg9 arg10 arg11 arg12 arg13 arg14 arg15 arg16 arg17 arg18 arg19 arg20 arg21 arg22 X2 X3 X4 X5 X6 X7 X8 X9 X10 X11 X12 X13 X14 X15 X16 (arg17.view.writes (Elt F) f17 (L17 f17)) (arg18.view.writes (Elt F) f18 (L18 f17)) (arg19.view.writes (Elt F) f19 (L19 f17))) } := by
  refine ⟨?_, ?_, ?_, fun f17 f18 f19 => ?run⟩
  case run =>
    simp only [cc0_attn_bwd_eq_skeleton]
    unfold cc0_attn_bwd_skel
    iintro ⟨HR2, HR3, HR4, HR5, HR6, HR7, HR8, HR9, HR10, HR11, HR12, HR13, HR14, HR15, HR16, HW17, HW18, HW19, ⟨%f20, HW20⟩, ⟨%f21, HW21⟩, ⟨%f22, HW22⟩⟩
    sl_exec
    sl_step
    sl_close

end Cert.Proof.Kernel

end
-- ==== Proof.Sound.lean ====
/-
  What the body leaves in its three result windows, as functions of the blocks it reads, and the body's triple.
-/
module

public import proofs.«01_k».proof.Proof.Body

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What an outer trip writes does not depend on what the first result window held. -/
theorem otrip_congr (c : Dev nD) (i : grid0.Coords)
  (arg2 : Memref sig .tc .smem S8 .f32) (harg2 : arg2.IsWhole) (arg3 : Memref sig .tc .smem S4 .f32) (harg3 : arg3.IsWhole)
  (arg4 : Memref sig .tc .smem S4 .f32) (harg4 : arg4.IsWhole) (arg5 : Memref sig .tc .smem S8 .f32) (harg5 : arg5.IsWhole)
  (arg6 : Memref sig .tc .smem S24x8 .i32) (harg6 : arg6.IsWhole) (arg7 : Memref sig .tc .smem S24x8 .i32) (harg7 : arg7.IsWhole)
  (arg8 : Memref sig .tc .vmem S1x1x8x256x256 .fp8e4m3) (harg8 : arg8.IsWhole) (arg9 : Memref sig .tc .vmem S1x1x1024x256 .fp8e4m3) (harg9 : arg9.IsWhole)
  (arg10 : Memref sig .tc .vmem S1x1x8x256x128 .fp8e4m3) (harg10 : arg10.IsWhole) (arg11 : Memref sig .tc .vmem S1x1x1024x256 .fp8e4m3) (harg11 : arg11.IsWhole)
  (arg12 : Memref sig .tc .vmem S1x1x8x256x256 .fp8e5m2) (harg12 : arg12.IsWhole) (arg13 : Memref sig .tc .vmem S1x1x8x256x256 .bf16) (harg13 : arg13.IsWhole)
  (arg14 : Memref sig .tc .vmem S1x1x8x1x256 .f32) (harg14 : arg14.IsWhole) (arg15 : Memref sig .tc .vmem S1x8x1x256 .i32) (harg15 : arg15.IsWhole)
  (arg16 : Memref sig .tc .vmem S1x8x1x256 .i32) (harg16 : arg16.IsWhole) (arg17 : Memref sig .tc .vmem S1x1x8x256x256 .bf16) (harg17 : arg17.IsWhole)
  (arg18 : Memref sig .tc .vmem S1x1x1024x256 .bf16) (harg18 : arg18.IsWhole) (arg19 : Memref sig .tc .vmem S1x1x1024x256 .bf16) (harg19 : arg19.IsWhole)
  (arg20 : Memref sig .tc .vmem S1024x256 .f32) (harg20 : arg20.IsWhole) (arg21 : Memref sig .tc .vmem S1024x256 .f32) (harg21 : arg21.IsWhole)
  (arg22 : Memref sig .tc .vmem S256x256 .f32) (harg22 : arg22.IsWhole)
  (v9 : Elt F .f32) (v11 : Elt F .f32) (v24 : FVec F S1x256 .f32) (v36 : FVec F S1x256 .f32) (v40 : FVec F S1x256 .f32)
  (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (k : Fin k0_t1_loop.trips) (hk : k0_chk1 (word i arg6 X6 k) (word i arg7 X7 k)) (f17 : BufTy.Contents (Elt F) arg17.view.ty) (f20 : BufTy.Contents (Elt F) arg20.view.ty) (f21 : BufTy.Contents (Elt F) arg21.view.ty) (f17' : BufTy.Contents (Elt F) arg17.view.ty) :
    (otrip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 k hk).1 f17 f20 f21 = (otrip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 k hk).1 f17' f20 f21
    ∧ (otrip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 k hk).2.1 f17 f20 f21 = (otrip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 k hk).2.1 f17' f20 f21
    ∧ (otrip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 k hk).2.2.1 f17 f20 f21 = (otrip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 k hk).2.2.1 f17' f20 f21 := by
  unfold otrip; exact ⟨rfl, rfl, rfl⟩

/-- Nor do the pieces of all the trips before `n`. -/
theorem opb_congr (c : Dev nD) (i : grid0.Coords)
  (arg2 : Memref sig .tc .smem S8 .f32) (harg2 : arg2.IsWhole) (arg3 : Memref sig .tc .smem S4 .f32) (harg3 : arg3.IsWhole)
  (arg4 : Memref sig .tc .smem S4 .f32) (harg4 : arg4.IsWhole) (arg5 : Memref sig .tc .smem S8 .f32) (harg5 : arg5.IsWhole)
  (arg6 : Memref sig .tc .smem S24x8 .i32) (harg6 : arg6.IsWhole) (arg7 : Memref sig .tc .smem S24x8 .i32) (harg7 : arg7.IsWhole)
  (arg8 : Memref sig .tc .vmem S1x1x8x256x256 .fp8e4m3) (harg8 : arg8.IsWhole) (arg9 : Memref sig .tc .vmem S1x1x1024x256 .fp8e4m3) (harg9 : arg9.IsWhole)
  (arg10 : Memref sig .tc .vmem S1x1x8x256x128 .fp8e4m3) (harg10 : arg10.IsWhole) (arg11 : Memref sig .tc .vmem S1x1x1024x256 .fp8e4m3) (harg11 : arg11.IsWhole)
  (arg12 : Memref sig .tc .vmem S1x1x8x256x256 .fp8e5m2) (harg12 : arg12.IsWhole) (arg13 : Memref sig .tc .vmem S1x1x8x256x256 .bf16) (harg13 : arg13.IsWhole)
  (arg14 : Memref sig .tc .vmem S1x1x8x1x256 .f32) (harg14 : arg14.IsWhole) (arg15 : Memref sig .tc .vmem S1x8x1x256 .i32) (harg15 : arg15.IsWhole)
  (arg16 : Memref sig .tc .vmem S1x8x1x256 .i32) (harg16 : arg16.IsWhole) (arg17 : Memref sig .tc .vmem S1x1x8x256x256 .bf16) (harg17 : arg17.IsWhole)
  (arg18 : Memref sig .tc .vmem S1x1x1024x256 .bf16) (harg18 : arg18.IsWhole) (arg19 : Memref sig .tc .vmem S1x1x1024x256 .bf16) (harg19 : arg19.IsWhole)
  (arg20 : Memref sig .tc .vmem S1024x256 .f32) (harg20 : arg20.IsWhole) (arg21 : Memref sig .tc .vmem S1024x256 .f32) (harg21 : arg21.IsWhole)
  (arg22 : Memref sig .tc .vmem S256x256 .f32) (harg22 : arg22.IsWhole)
  (v9 : Elt F .f32) (v11 : Elt F .f32) (v24 : FVec F S1x256 .f32) (v36 : FVec F S1x256 .f32) (v40 : FVec F S1x256 .f32)
  (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (hw : ∀ k, k0_chk1 (word i arg6 X6 k) (word i arg7 X7 k)) (G17 : BufTy.Contents (Elt F) arg17.view.ty) (G20 : BufTy.Contents (Elt F) arg20.view.ty) (G21 : BufTy.Contents (Elt F) arg21.view.ty) (G17' : BufTy.Contents (Elt F) arg17.view.ty) (n : ℕ) :
    opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 n = opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17' G20 G21 n := by
  induction n with
  | zero => rfl
  | succ n ih =>
    rw [opb.eq_2, opb.eq_2, ih]
    unfold opbStep
    split
    · rename_i h
      obtain ⟨h1, h2, h3⟩ := otrip_congr c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 ⟨n, h⟩ (hw _)
        (arg17.view.writes (Elt F) G17 (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17' G20 G21 n).1)
        (arg20.view.writes (Elt F) G20 (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17' G20 G21 n).2.1)
        (arg21.view.writes (Elt F) G21 (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17' G20 G21 n).2.2)
        (arg17.view.writes (Elt F) G17' (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17' G20 G21 n).1)
      dsimp only
      rw [h1, h2, h3]
    · rfl

/-- The piece an outer trip writes into the first result window covers the trip's block. -/
theorem otrip_rect (c : Dev nD) (i : grid0.Coords)
  (arg2 : Memref sig .tc .smem S8 .f32) (harg2 : arg2.IsWhole) (arg3 : Memref sig .tc .smem S4 .f32) (harg3 : arg3.IsWhole)
  (arg4 : Memref sig .tc .smem S4 .f32) (harg4 : arg4.IsWhole) (arg5 : Memref sig .tc .smem S8 .f32) (harg5 : arg5.IsWhole)
  (arg6 : Memref sig .tc .smem S24x8 .i32) (harg6 : arg6.IsWhole) (arg7 : Memref sig .tc .smem S24x8 .i32) (harg7 : arg7.IsWhole)
  (arg8 : Memref sig .tc .vmem S1x1x8x256x256 .fp8e4m3) (harg8 : arg8.IsWhole) (arg9 : Memref sig .tc .vmem S1x1x1024x256 .fp8e4m3) (harg9 : arg9.IsWhole)
  (arg10 : Memref sig .tc .vmem S1x1x8x256x128 .fp8e4m3) (harg10 : arg10.IsWhole) (arg11 : Memref sig .tc .vmem S1x1x1024x256 .fp8e4m3) (harg11 : arg11.IsWhole)
  (arg12 : Memref sig .tc .vmem S1x1x8x256x256 .fp8e5m2) (harg12 : arg12.IsWhole) (arg13 : Memref sig .tc .vmem S1x1x8x256x256 .bf16) (harg13 : arg13.IsWhole)
  (arg14 : Memref sig .tc .vmem S1x1x8x1x256 .f32) (harg14 : arg14.IsWhole) (arg15 : Memref sig .tc .vmem S1x8x1x256 .i32) (harg15 : arg15.IsWhole)
  (arg16 : Memref sig .tc .vmem S1x8x1x256 .i32) (harg16 : arg16.IsWhole) (arg17 : Memref sig .tc .vmem S1x1x8x256x256 .bf16) (harg17 : arg17.IsWhole)
  (arg18 : Memref sig .tc .vmem S1x1x1024x256 .bf16) (harg18 : arg18.IsWhole) (arg19 : Memref sig .tc .vmem S1x1x1024x256 .bf16) (harg19 : arg19.IsWhole)
  (arg20 : Memref sig .tc .vmem S1024x256 .f32) (harg20 : arg20.IsWhole) (arg21 : Memref sig .tc .vmem S1024x256 .f32) (harg21 : arg21.IsWhole)
  (arg22 : Memref sig .tc .vmem S256x256 .f32) (harg22 : arg22.IsWhole)
  (v9 : Elt F .f32) (v11 : Elt F .f32) (v24 : FVec F S1x256 .f32) (v36 : FVec F S1x256 .f32) (v40 : FVec F S1x256 .f32)
  (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (k : Fin k0_t1_loop.trips) (hk : k0_chk1 (word i arg6 X6 k) (word i arg7 X7 k)) (f17 : BufTy.Contents (Elt F) arg17.view.ty) (f20 : BufTy.Contents (Elt F) arg20.view.ty) (f21 : BufTy.Contents (Elt F) arg21.view.ty) :
    ∃ w, (otrip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 k hk).1 f17 f20 f21
      = [⟨Rect.unit (s := S1x1x8x256x256) (k0_off14 k) S1x1x1x256x256.size (k0_off14_inb k), w⟩] := by
  unfold otrip; exact ⟨_, rfl⟩

/-- Each trip's piece is among the pieces. -/
theorem opb_mem (c : Dev nD) (i : grid0.Coords)
  (arg2 : Memref sig .tc .smem S8 .f32) (harg2 : arg2.IsWhole) (arg3 : Memref sig .tc .smem S4 .f32) (harg3 : arg3.IsWhole)
  (arg4 : Memref sig .tc .smem S4 .f32) (harg4 : arg4.IsWhole) (arg5 : Memref sig .tc .smem S8 .f32) (harg5 : arg5.IsWhole)
  (arg6 : Memref sig .tc .smem S24x8 .i32) (harg6 : arg6.IsWhole) (arg7 : Memref sig .tc .smem S24x8 .i32) (harg7 : arg7.IsWhole)
  (arg8 : Memref sig .tc .vmem S1x1x8x256x256 .fp8e4m3) (harg8 : arg8.IsWhole) (arg9 : Memref sig .tc .vmem S1x1x1024x256 .fp8e4m3) (harg9 : arg9.IsWhole)
  (arg10 : Memref sig .tc .vmem S1x1x8x256x128 .fp8e4m3) (harg10 : arg10.IsWhole) (arg11 : Memref sig .tc .vmem S1x1x1024x256 .fp8e4m3) (harg11 : arg11.IsWhole)
  (arg12 : Memref sig .tc .vmem S1x1x8x256x256 .fp8e5m2) (harg12 : arg12.IsWhole) (arg13 : Memref sig .tc .vmem S1x1x8x256x256 .bf16) (harg13 : arg13.IsWhole)
  (arg14 : Memref sig .tc .vmem S1x1x8x1x256 .f32) (harg14 : arg14.IsWhole) (arg15 : Memref sig .tc .vmem S1x8x1x256 .i32) (harg15 : arg15.IsWhole)
  (arg16 : Memref sig .tc .vmem S1x8x1x256 .i32) (harg16 : arg16.IsWhole) (arg17 : Memref sig .tc .vmem S1x1x8x256x256 .bf16) (harg17 : arg17.IsWhole)
  (arg18 : Memref sig .tc .vmem S1x1x1024x256 .bf16) (harg18 : arg18.IsWhole) (arg19 : Memref sig .tc .vmem S1x1x1024x256 .bf16) (harg19 : arg19.IsWhole)
  (arg20 : Memref sig .tc .vmem S1024x256 .f32) (harg20 : arg20.IsWhole) (arg21 : Memref sig .tc .vmem S1024x256 .f32) (harg21 : arg21.IsWhole)
  (arg22 : Memref sig .tc .vmem S256x256 .f32) (harg22 : arg22.IsWhole)
  (v9 : Elt F .f32) (v11 : Elt F .f32) (v24 : FVec F S1x256 .f32) (v36 : FVec F S1x256 .f32) (v40 : FVec F S1x256 .f32)
  (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (hw : ∀ k, k0_chk1 (word i arg6 X6 k) (word i arg7 X7 k)) (G17 : BufTy.Contents (Elt F) arg17.view.ty) (G20 : BufTy.Contents (Elt F) arg20.view.ty) (G21 : BufTy.Contents (Elt F) arg21.view.ty) (n : ℕ) (j : Fin k0_t1_loop.trips) (hj : j.val < n) :
    ∃ w, (⟨Rect.unit (s := S1x1x8x256x256) (k0_off14 j) S1x1x1x256x256.size (k0_off14_inb j), w⟩ : View.Piece (Elt F) S1x1x8x256x256 .bf16)
      ∈ (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 n).1 := by
  induction n with
  | zero => omega
  | succ n ih =>
    rw [opb.eq_2]
    unfold opbStep
    split
    · rename_i h
      by_cases hjn : j.val = n
      · have hjj : j = ⟨n, h⟩ := Fin.ext hjn
        subst hjj
        obtain ⟨w, h1⟩ := otrip_rect c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 ⟨n, h⟩ (hw _)
          (arg17.view.writes (Elt F) G17 (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 n).1)
          (arg20.view.writes (Elt F) G20 (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 n).2.1)
          (arg21.view.writes (Elt F) G21 (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 n).2.2)
        dsimp only
        rw [h1]
        exact ⟨w, List.mem_append_left _ (List.mem_singleton.2 rfl)⟩
      · obtain ⟨w, h1⟩ := ih (by omega)
        exact ⟨w, List.mem_append_right _ h1⟩
    · rename_i h; exact ih (by have := j.isLt; omega)

/-- The eight trips' pieces cover the first result window. -/
theorem opb_cover (c : Dev nD) (i : grid0.Coords)
  (arg2 : Memref sig .tc .smem S8 .f32) (harg2 : arg2.IsWhole) (arg3 : Memref sig .tc .smem S4 .f32) (harg3 : arg3.IsWhole)
  (arg4 : Memref sig .tc .smem S4 .f32) (harg4 : arg4.IsWhole) (arg5 : Memref sig .tc .smem S8 .f32) (harg5 : arg5.IsWhole)
  (arg6 : Memref sig .tc .smem S24x8 .i32) (harg6 : arg6.IsWhole) (arg7 : Memref sig .tc .smem S24x8 .i32) (harg7 : arg7.IsWhole)
  (arg8 : Memref sig .tc .vmem S1x1x8x256x256 .fp8e4m3) (harg8 : arg8.IsWhole) (arg9 : Memref sig .tc .vmem S1x1x1024x256 .fp8e4m3) (harg9 : arg9.IsWhole)
  (arg10 : Memref sig .tc .vmem S1x1x8x256x128 .fp8e4m3) (harg10 : arg10.IsWhole) (arg11 : Memref sig .tc .vmem S1x1x1024x256 .fp8e4m3) (harg11 : arg11.IsWhole)
  (arg12 : Memref sig .tc .vmem S1x1x8x256x256 .fp8e5m2) (harg12 : arg12.IsWhole) (arg13 : Memref sig .tc .vmem S1x1x8x256x256 .bf16) (harg13 : arg13.IsWhole)
  (arg14 : Memref sig .tc .vmem S1x1x8x1x256 .f32) (harg14 : arg14.IsWhole) (arg15 : Memref sig .tc .vmem S1x8x1x256 .i32) (harg15 : arg15.IsWhole)
  (arg16 : Memref sig .tc .vmem S1x8x1x256 .i32) (harg16 : arg16.IsWhole) (arg17 : Memref sig .tc .vmem S1x1x8x256x256 .bf16) (harg17 : arg17.IsWhole)
  (arg18 : Memref sig .tc .vmem S1x1x1024x256 .bf16) (harg18 : arg18.IsWhole) (arg19 : Memref sig .tc .vmem S1x1x1024x256 .bf16) (harg19 : arg19.IsWhole)
  (arg20 : Memref sig .tc .vmem S1024x256 .f32) (harg20 : arg20.IsWhole) (arg21 : Memref sig .tc .vmem S1024x256 .f32) (harg21 : arg21.IsWhole)
  (arg22 : Memref sig .tc .vmem S256x256 .f32) (harg22 : arg22.IsWhole)
  (v9 : Elt F .f32) (v11 : Elt F .f32) (v24 : FVec F S1x256 .f32) (v36 : FVec F S1x256 .f32) (v40 : FVec F S1x256 .f32)
  (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (hw : ∀ k, k0_chk1 (word i arg6 X6 k) (word i arg7 X7 k)) (G17 : BufTy.Contents (Elt F) arg17.view.ty) (G20 : BufTy.Contents (Elt F) arg20.view.ty) (G21 : BufTy.Contents (Elt F) arg21.view.ty) (y : S1x1x8x256x256.Idx) :
    ∃ p ∈ (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k0_t1_loop.trips).1, y ∈ p.1.set := by
  have h8 : k0_t1_loop.trips = 8 := by decide
  have y2 : (y 2).val < 8 := (y 2).isLt
  obtain ⟨w, h⟩ := opb_mem c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k0_t1_loop.trips ⟨(y 2).val, by omega⟩ (by show (y 2).val < _; omega)
  refine ⟨_, h, ?_⟩
  rw [Rect.mem_set_unit, k0_off14_eq]
  intro a
  have := (y a).isLt
  fin_cases a
  · exact ⟨Nat.zero_le _, by simpa using this⟩
  · exact ⟨Nat.zero_le _, by simpa using this⟩
  · exact ⟨le_rfl, Nat.lt_succ_self _⟩
  · exact ⟨Nat.zero_le _, by simpa using this⟩
  · exact ⟨Nat.zero_le _, by simpa using this⟩

/-- What the body leaves in result window `arg17`. -/
def out17 (c : Dev nD) (i : grid0.Coords)
  (arg2 : Memref sig .tc .smem S8 .f32) (harg2 : arg2.IsWhole) (arg3 : Memref sig .tc .smem S4 .f32) (harg3 : arg3.IsWhole)
  (arg4 : Memref sig .tc .smem S4 .f32) (harg4 : arg4.IsWhole) (arg5 : Memref sig .tc .smem S8 .f32) (harg5 : arg5.IsWhole)
  (arg6 : Memref sig .tc .smem S24x8 .i32) (harg6 : arg6.IsWhole) (arg7 : Memref sig .tc .smem S24x8 .i32) (harg7 : arg7.IsWhole)
  (arg8 : Memref sig .tc .vmem S1x1x8x256x256 .fp8e4m3) (harg8 : arg8.IsWhole) (arg9 : Memref sig .tc .vmem S1x1x1024x256 .fp8e4m3) (harg9 : arg9.IsWhole)
  (arg10 : Memref sig .tc .vmem S1x1x8x256x128 .fp8e4m3) (harg10 : arg10.IsWhole) (arg11 : Memref sig .tc .vmem S1x1x1024x256 .fp8e4m3) (harg11 : arg11.IsWhole)
  (arg12 : Memref sig .tc .vmem S1x1x8x256x256 .fp8e5m2) (harg12 : arg12.IsWhole) (arg13 : Memref sig .tc .vmem S1x1x8x256x256 .bf16) (harg13 : arg13.IsWhole)
  (arg14 : Memref sig .tc .vmem S1x1x8x1x256 .f32) (harg14 : arg14.IsWhole) (arg15 : Memref sig .tc .vmem S1x8x1x256 .i32) (harg15 : arg15.IsWhole)
  (arg16 : Memref sig .tc .vmem S1x8x1x256 .i32) (harg16 : arg16.IsWhole) (arg17 : Memref sig .tc .vmem S1x1x8x256x256 .bf16) (harg17 : arg17.IsWhole)
  (arg18 : Memref sig .tc .vmem S1x1x1024x256 .bf16) (harg18 : arg18.IsWhole) (arg19 : Memref sig .tc .vmem S1x1x1024x256 .bf16) (harg19 : arg19.IsWhole)
  (arg20 : Memref sig .tc .vmem S1024x256 .f32) (harg20 : arg20.IsWhole) (arg21 : Memref sig .tc .vmem S1024x256 .f32) (harg21 : arg21.IsWhole)
  (arg22 : Memref sig .tc .vmem S256x256 .f32) (harg22 : arg22.IsWhole)
  (x2 : Vec F S8 .f32) (x3 : Vec F S4 .f32) (x4 : Vec F S4 .f32) (x5 : Vec F S8 .f32) (x6 : Vec F S24x8 .i32) (x7 : Vec F S24x8 .i32) (x8 : Vec F S1x1x8x256x256 .fp8e4m3) (x9 : Vec F S1x1x1024x256 .fp8e4m3) (x10 : Vec F S1x1x8x256x128 .fp8e4m3) (x11 : Vec F S1x1x1024x256 .fp8e4m3) (x12 : Vec F S1x1x8x256x256 .fp8e5m2) (x13 : Vec F S1x1x8x256x256 .bf16) (x14 : Vec F S1x1x8x1x256 .f32) (x15 : Vec F S1x8x1x256 .i32) (x16 : Vec F S1x8x1x256 .i32)
  (hw : ∀ k, k0_chk1 (word i arg6 (harg6.unread x6) k) (word i arg7 (harg7.unread x7) k)) : Vec F S1x1x8x256x256 .bf16 :=
  arg17.view.read (Elt F) (arg17.view.writes (Elt F) arg17.view.junk ((bodyRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) hw).1 arg17.view.junk))

/-- Whatever the windows held. -/
theorem read_out17 (c : Dev nD) (i : grid0.Coords)
  (arg2 : Memref sig .tc .smem S8 .f32) (harg2 : arg2.IsWhole) (arg3 : Memref sig .tc .smem S4 .f32) (harg3 : arg3.IsWhole)
  (arg4 : Memref sig .tc .smem S4 .f32) (harg4 : arg4.IsWhole) (arg5 : Memref sig .tc .smem S8 .f32) (harg5 : arg5.IsWhole)
  (arg6 : Memref sig .tc .smem S24x8 .i32) (harg6 : arg6.IsWhole) (arg7 : Memref sig .tc .smem S24x8 .i32) (harg7 : arg7.IsWhole)
  (arg8 : Memref sig .tc .vmem S1x1x8x256x256 .fp8e4m3) (harg8 : arg8.IsWhole) (arg9 : Memref sig .tc .vmem S1x1x1024x256 .fp8e4m3) (harg9 : arg9.IsWhole)
  (arg10 : Memref sig .tc .vmem S1x1x8x256x128 .fp8e4m3) (harg10 : arg10.IsWhole) (arg11 : Memref sig .tc .vmem S1x1x1024x256 .fp8e4m3) (harg11 : arg11.IsWhole)
  (arg12 : Memref sig .tc .vmem S1x1x8x256x256 .fp8e5m2) (harg12 : arg12.IsWhole) (arg13 : Memref sig .tc .vmem S1x1x8x256x256 .bf16) (harg13 : arg13.IsWhole)
  (arg14 : Memref sig .tc .vmem S1x1x8x1x256 .f32) (harg14 : arg14.IsWhole) (arg15 : Memref sig .tc .vmem S1x8x1x256 .i32) (harg15 : arg15.IsWhole)
  (arg16 : Memref sig .tc .vmem S1x8x1x256 .i32) (harg16 : arg16.IsWhole) (arg17 : Memref sig .tc .vmem S1x1x8x256x256 .bf16) (harg17 : arg17.IsWhole)
  (arg18 : Memref sig .tc .vmem S1x1x1024x256 .bf16) (harg18 : arg18.IsWhole) (arg19 : Memref sig .tc .vmem S1x1x1024x256 .bf16) (harg19 : arg19.IsWhole)
  (arg20 : Memref sig .tc .vmem S1024x256 .f32) (harg20 : arg20.IsWhole) (arg21 : Memref sig .tc .vmem S1024x256 .f32) (harg21 : arg21.IsWhole)
  (arg22 : Memref sig .tc .vmem S256x256 .f32) (harg22 : arg22.IsWhole)
  (x2 : Vec F S8 .f32) (x3 : Vec F S4 .f32) (x4 : Vec F S4 .f32) (x5 : Vec F S8 .f32) (x6 : Vec F S24x8 .i32) (x7 : Vec F S24x8 .i32) (x8 : Vec F S1x1x8x256x256 .fp8e4m3) (x9 : Vec F S1x1x1024x256 .fp8e4m3) (x10 : Vec F S1x1x8x256x128 .fp8e4m3) (x11 : Vec F S1x1x1024x256 .fp8e4m3) (x12 : Vec F S1x1x8x256x256 .fp8e5m2) (x13 : Vec F S1x1x8x256x256 .bf16) (x14 : Vec F S1x1x8x1x256 .f32) (x15 : Vec F S1x8x1x256 .i32) (x16 : Vec F S1x8x1x256 .i32)
  (hw : ∀ k, k0_chk1 (word i arg6 (harg6.unread x6) k) (word i arg7 (harg7.unread x7) k)) (f17 : BufTy.Contents (Elt F) arg17.view.ty) (f : BufTy.Contents (Elt F) arg17.view.ty) :
    arg17.view.read (Elt F) (arg17.view.writes (Elt F) f ((bodyRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) hw).1 f17)) = out17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x2 x3 x4 x5 x6 x7 x8 x9 x10 x11 x12 x13 x14 x15 x16 hw := by
  unfold out17
  rw [show (bodyRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) hw).1 f17 = (bodyRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) hw).1 arg17.view.junk from by
    unfold bodyRun; exact congrArg Prod.fst (opb_congr (F := F) (G17' := arg17.view.junk) ..)]
  refine View.read_writes_of_cover _ _ _ _ _ ?_
  unfold bodyRun
  intro y
  exact opb_cover (F := F) ..

/-- What the body leaves in result window `arg18`. -/
def out18 (c : Dev nD) (i : grid0.Coords)
  (arg2 : Memref sig .tc .smem S8 .f32) (harg2 : arg2.IsWhole) (arg3 : Memref sig .tc .smem S4 .f32) (harg3 : arg3.IsWhole)
  (arg4 : Memref sig .tc .smem S4 .f32) (harg4 : arg4.IsWhole) (arg5 : Memref sig .tc .smem S8 .f32) (harg5 : arg5.IsWhole)
  (arg6 : Memref sig .tc .smem S24x8 .i32) (harg6 : arg6.IsWhole) (arg7 : Memref sig .tc .smem S24x8 .i32) (harg7 : arg7.IsWhole)
  (arg8 : Memref sig .tc .vmem S1x1x8x256x256 .fp8e4m3) (harg8 : arg8.IsWhole) (arg9 : Memref sig .tc .vmem S1x1x1024x256 .fp8e4m3) (harg9 : arg9.IsWhole)
  (arg10 : Memref sig .tc .vmem S1x1x8x256x128 .fp8e4m3) (harg10 : arg10.IsWhole) (arg11 : Memref sig .tc .vmem S1x1x1024x256 .fp8e4m3) (harg11 : arg11.IsWhole)
  (arg12 : Memref sig .tc .vmem S1x1x8x256x256 .fp8e5m2) (harg12 : arg12.IsWhole) (arg13 : Memref sig .tc .vmem S1x1x8x256x256 .bf16) (harg13 : arg13.IsWhole)
  (arg14 : Memref sig .tc .vmem S1x1x8x1x256 .f32) (harg14 : arg14.IsWhole) (arg15 : Memref sig .tc .vmem S1x8x1x256 .i32) (harg15 : arg15.IsWhole)
  (arg16 : Memref sig .tc .vmem S1x8x1x256 .i32) (harg16 : arg16.IsWhole) (arg17 : Memref sig .tc .vmem S1x1x8x256x256 .bf16) (harg17 : arg17.IsWhole)
  (arg18 : Memref sig .tc .vmem S1x1x1024x256 .bf16) (harg18 : arg18.IsWhole) (arg19 : Memref sig .tc .vmem S1x1x1024x256 .bf16) (harg19 : arg19.IsWhole)
  (arg20 : Memref sig .tc .vmem S1024x256 .f32) (harg20 : arg20.IsWhole) (arg21 : Memref sig .tc .vmem S1024x256 .f32) (harg21 : arg21.IsWhole)
  (arg22 : Memref sig .tc .vmem S256x256 .f32) (harg22 : arg22.IsWhole)
  (x2 : Vec F S8 .f32) (x3 : Vec F S4 .f32) (x4 : Vec F S4 .f32) (x5 : Vec F S8 .f32) (x6 : Vec F S24x8 .i32) (x7 : Vec F S24x8 .i32) (x8 : Vec F S1x1x8x256x256 .fp8e4m3) (x9 : Vec F S1x1x1024x256 .fp8e4m3) (x10 : Vec F S1x1x8x256x128 .fp8e4m3) (x11 : Vec F S1x1x1024x256 .fp8e4m3) (x12 : Vec F S1x1x8x256x256 .fp8e5m2) (x13 : Vec F S1x1x8x256x256 .bf16) (x14 : Vec F S1x1x8x1x256 .f32) (x15 : Vec F S1x8x1x256 .i32) (x16 : Vec F S1x8x1x256 .i32)
  (hw : ∀ k, k0_chk1 (word i arg6 (harg6.unread x6) k) (word i arg7 (harg7.unread x7) k)) : Vec F S1x1x1024x256 .bf16 :=
  arg18.view.read (Elt F) (arg18.view.writes (Elt F) arg18.view.junk ((bodyRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) hw).2.1 arg17.view.junk))

/-- Whatever the windows held. -/
theorem read_out18 (c : Dev nD) (i : grid0.Coords)
  (arg2 : Memref sig .tc .smem S8 .f32) (harg2 : arg2.IsWhole) (arg3 : Memref sig .tc .smem S4 .f32) (harg3 : arg3.IsWhole)
  (arg4 : Memref sig .tc .smem S4 .f32) (harg4 : arg4.IsWhole) (arg5 : Memref sig .tc .smem S8 .f32) (harg5 : arg5.IsWhole)
  (arg6 : Memref sig .tc .smem S24x8 .i32) (harg6 : arg6.IsWhole) (arg7 : Memref sig .tc .smem S24x8 .i32) (harg7 : arg7.IsWhole)
  (arg8 : Memref sig .tc .vmem S1x1x8x256x256 .fp8e4m3) (harg8 : arg8.IsWhole) (arg9 : Memref sig .tc .vmem S1x1x1024x256 .fp8e4m3) (harg9 : arg9.IsWhole)
  (arg10 : Memref sig .tc .vmem S1x1x8x256x128 .fp8e4m3) (harg10 : arg10.IsWhole) (arg11 : Memref sig .tc .vmem S1x1x1024x256 .fp8e4m3) (harg11 : arg11.IsWhole)
  (arg12 : Memref sig .tc .vmem S1x1x8x256x256 .fp8e5m2) (harg12 : arg12.IsWhole) (arg13 : Memref sig .tc .vmem S1x1x8x256x256 .bf16) (harg13 : arg13.IsWhole)
  (arg14 : Memref sig .tc .vmem S1x1x8x1x256 .f32) (harg14 : arg14.IsWhole) (arg15 : Memref sig .tc .vmem S1x8x1x256 .i32) (harg15 : arg15.IsWhole)
  (arg16 : Memref sig .tc .vmem S1x8x1x256 .i32) (harg16 : arg16.IsWhole) (arg17 : Memref sig .tc .vmem S1x1x8x256x256 .bf16) (harg17 : arg17.IsWhole)
  (arg18 : Memref sig .tc .vmem S1x1x1024x256 .bf16) (harg18 : arg18.IsWhole) (arg19 : Memref sig .tc .vmem S1x1x1024x256 .bf16) (harg19 : arg19.IsWhole)
  (arg20 : Memref sig .tc .vmem S1024x256 .f32) (harg20 : arg20.IsWhole) (arg21 : Memref sig .tc .vmem S1024x256 .f32) (harg21 : arg21.IsWhole)
  (arg22 : Memref sig .tc .vmem S256x256 .f32) (harg22 : arg22.IsWhole)
  (x2 : Vec F S8 .f32) (x3 : Vec F S4 .f32) (x4 : Vec F S4 .f32) (x5 : Vec F S8 .f32) (x6 : Vec F S24x8 .i32) (x7 : Vec F S24x8 .i32) (x8 : Vec F S1x1x8x256x256 .fp8e4m3) (x9 : Vec F S1x1x1024x256 .fp8e4m3) (x10 : Vec F S1x1x8x256x128 .fp8e4m3) (x11 : Vec F S1x1x1024x256 .fp8e4m3) (x12 : Vec F S1x1x8x256x256 .fp8e5m2) (x13 : Vec F S1x1x8x256x256 .bf16) (x14 : Vec F S1x1x8x1x256 .f32) (x15 : Vec F S1x8x1x256 .i32) (x16 : Vec F S1x8x1x256 .i32)
  (hw : ∀ k, k0_chk1 (word i arg6 (harg6.unread x6) k) (word i arg7 (harg7.unread x7) k)) (f17 : BufTy.Contents (Elt F) arg17.view.ty) (f : BufTy.Contents (Elt F) arg18.view.ty) :
    arg18.view.read (Elt F) (arg18.view.writes (Elt F) f ((bodyRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) hw).2.1 f17)) = out18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x2 x3 x4 x5 x6 x7 x8 x9 x10 x11 x12 x13 x14 x15 x16 hw := by
  unfold out18
  rw [show (bodyRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) hw).2.1 f17 = (bodyRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) hw).2.1 arg17.view.junk from by
    unfold bodyRun; dsimp only; unfold bodyRun.sl.v45; rw [opb_congr _ _ _ _ _ _ _ _ _ _ _ _ _ _ _ _ _ _ _ _ _ _ _ _ _ _ _ _ _ _ _ _ _ _ _ _ _ _ _ _ _ _ _ _ _ _ _ _ _ _ _ _ _ _ _ _ _ _ _ _ _ f17 _ _ arg17.view.junk]]
  unfold bodyRun
  exact View.read_writes_of_cover_last _ _ _ _ _ _ _ fun y => by
    rw [Rect.mem_set_unit]
    intro a
    have := (y a).isLt
    fin_cases a <;> exact ⟨Nat.zero_le _, by simpa using this⟩

/-- What the body leaves in result window `arg19`. -/
def out19 (c : Dev nD) (i : grid0.Coords)
  (arg2 : Memref sig .tc .smem S8 .f32) (harg2 : arg2.IsWhole) (arg3 : Memref sig .tc .smem S4 .f32) (harg3 : arg3.IsWhole)
  (arg4 : Memref sig .tc .smem S4 .f32) (harg4 : arg4.IsWhole) (arg5 : Memref sig .tc .smem S8 .f32) (harg5 : arg5.IsWhole)
  (arg6 : Memref sig .tc .smem S24x8 .i32) (harg6 : arg6.IsWhole) (arg7 : Memref sig .tc .smem S24x8 .i32) (harg7 : arg7.IsWhole)
  (arg8 : Memref sig .tc .vmem S1x1x8x256x256 .fp8e4m3) (harg8 : arg8.IsWhole) (arg9 : Memref sig .tc .vmem S1x1x1024x256 .fp8e4m3) (harg9 : arg9.IsWhole)
  (arg10 : Memref sig .tc .vmem S1x1x8x256x128 .fp8e4m3) (harg10 : arg10.IsWhole) (arg11 : Memref sig .tc .vmem S1x1x1024x256 .fp8e4m3) (harg11 : arg11.IsWhole)
  (arg12 : Memref sig .tc .vmem S1x1x8x256x256 .fp8e5m2) (harg12 : arg12.IsWhole) (arg13 : Memref sig .tc .vmem S1x1x8x256x256 .bf16) (harg13 : arg13.IsWhole)
  (arg14 : Memref sig .tc .vmem S1x1x8x1x256 .f32) (harg14 : arg14.IsWhole) (arg15 : Memref sig .tc .vmem S1x8x1x256 .i32) (harg15 : arg15.IsWhole)
  (arg16 : Memref sig .tc .vmem S1x8x1x256 .i32) (harg16 : arg16.IsWhole) (arg17 : Memref sig .tc .vmem S1x1x8x256x256 .bf16) (harg17 : arg17.IsWhole)
  (arg18 : Memref sig .tc .vmem S1x1x1024x256 .bf16) (harg18 : arg18.IsWhole) (arg19 : Memref sig .tc .vmem S1x1x1024x256 .bf16) (harg19 : arg19.IsWhole)
  (arg20 : Memref sig .tc .vmem S1024x256 .f32) (harg20 : arg20.IsWhole) (arg21 : Memref sig .tc .vmem S1024x256 .f32) (harg21 : arg21.IsWhole)
  (arg22 : Memref sig .tc .vmem S256x256 .f32) (harg22 : arg22.IsWhole)
  (x2 : Vec F S8 .f32) (x3 : Vec F S4 .f32) (x4 : Vec F S4 .f32) (x5 : Vec F S8 .f32) (x6 : Vec F S24x8 .i32) (x7 : Vec F S24x8 .i32) (x8 : Vec F S1x1x8x256x256 .fp8e4m3) (x9 : Vec F S1x1x1024x256 .fp8e4m3) (x10 : Vec F S1x1x8x256x128 .fp8e4m3) (x11 : Vec F S1x1x1024x256 .fp8e4m3) (x12 : Vec F S1x1x8x256x256 .fp8e5m2) (x13 : Vec F S1x1x8x256x256 .bf16) (x14 : Vec F S1x1x8x1x256 .f32) (x15 : Vec F S1x8x1x256 .i32) (x16 : Vec F S1x8x1x256 .i32)
  (hw : ∀ k, k0_chk1 (word i arg6 (harg6.unread x6) k) (word i arg7 (harg7.unread x7) k)) : Vec F S1x1x1024x256 .bf16 :=
  arg19.view.read (Elt F) (arg19.view.writes (Elt F) arg19.view.junk ((bodyRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) hw).2.2.1 arg17.view.junk))

/-- Whatever the windows held. -/
theorem read_out19 (c : Dev nD) (i : grid0.Coords)
  (arg2 : Memref sig .tc .smem S8 .f32) (harg2 : arg2.IsWhole) (arg3 : Memref sig .tc .smem S4 .f32) (harg3 : arg3.IsWhole)
  (arg4 : Memref sig .tc .smem S4 .f32) (harg4 : arg4.IsWhole) (arg5 : Memref sig .tc .smem S8 .f32) (harg5 : arg5.IsWhole)
  (arg6 : Memref sig .tc .smem S24x8 .i32) (harg6 : arg6.IsWhole) (arg7 : Memref sig .tc .smem S24x8 .i32) (harg7 : arg7.IsWhole)
  (arg8 : Memref sig .tc .vmem S1x1x8x256x256 .fp8e4m3) (harg8 : arg8.IsWhole) (arg9 : Memref sig .tc .vmem S1x1x1024x256 .fp8e4m3) (harg9 : arg9.IsWhole)
  (arg10 : Memref sig .tc .vmem S1x1x8x256x128 .fp8e4m3) (harg10 : arg10.IsWhole) (arg11 : Memref sig .tc .vmem S1x1x1024x256 .fp8e4m3) (harg11 : arg11.IsWhole)
  (arg12 : Memref sig .tc .vmem S1x1x8x256x256 .fp8e5m2) (harg12 : arg12.IsWhole) (arg13 : Memref sig .tc .vmem S1x1x8x256x256 .bf16) (harg13 : arg13.IsWhole)
  (arg14 : Memref sig .tc .vmem S1x1x8x1x256 .f32) (harg14 : arg14.IsWhole) (arg15 : Memref sig .tc .vmem S1x8x1x256 .i32) (harg15 : arg15.IsWhole)
  (arg16 : Memref sig .tc .vmem S1x8x1x256 .i32) (harg16 : arg16.IsWhole) (arg17 : Memref sig .tc .vmem S1x1x8x256x256 .bf16) (harg17 : arg17.IsWhole)
  (arg18 : Memref sig .tc .vmem S1x1x1024x256 .bf16) (harg18 : arg18.IsWhole) (arg19 : Memref sig .tc .vmem S1x1x1024x256 .bf16) (harg19 : arg19.IsWhole)
  (arg20 : Memref sig .tc .vmem S1024x256 .f32) (harg20 : arg20.IsWhole) (arg21 : Memref sig .tc .vmem S1024x256 .f32) (harg21 : arg21.IsWhole)
  (arg22 : Memref sig .tc .vmem S256x256 .f32) (harg22 : arg22.IsWhole)
  (x2 : Vec F S8 .f32) (x3 : Vec F S4 .f32) (x4 : Vec F S4 .f32) (x5 : Vec F S8 .f32) (x6 : Vec F S24x8 .i32) (x7 : Vec F S24x8 .i32) (x8 : Vec F S1x1x8x256x256 .fp8e4m3) (x9 : Vec F S1x1x1024x256 .fp8e4m3) (x10 : Vec F S1x1x8x256x128 .fp8e4m3) (x11 : Vec F S1x1x1024x256 .fp8e4m3) (x12 : Vec F S1x1x8x256x256 .fp8e5m2) (x13 : Vec F S1x1x8x256x256 .bf16) (x14 : Vec F S1x1x8x1x256 .f32) (x15 : Vec F S1x8x1x256 .i32) (x16 : Vec F S1x8x1x256 .i32)
  (hw : ∀ k, k0_chk1 (word i arg6 (harg6.unread x6) k) (word i arg7 (harg7.unread x7) k)) (f17 : BufTy.Contents (Elt F) arg17.view.ty) (f : BufTy.Contents (Elt F) arg19.view.ty) :
    arg19.view.read (Elt F) (arg19.view.writes (Elt F) f ((bodyRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) hw).2.2.1 f17)) = out19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x2 x3 x4 x5 x6 x7 x8 x9 x10 x11 x12 x13 x14 x15 x16 hw := by
  unfold out19
  rw [show (bodyRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) hw).2.2.1 f17 = (bodyRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) hw).2.2.1 arg17.view.junk from by
    unfold bodyRun; dsimp only; unfold bodyRun.sl.v52; rw [opb_congr _ _ _ _ _ _ _ _ _ _ _ _ _ _ _ _ _ _ _ _ _ _ _ _ _ _ _ _ _ _ _ _ _ _ _ _ _ _ _ _ _ _ _ _ _ _ _ _ _ _ _ _ _ _ _ _ _ _ _ _ _ f17 _ _ arg17.view.junk]]
  unfold bodyRun
  exact View.read_writes_of_cover_last _ _ _ _ _ _ _ fun y => by
    rw [Rect.mem_set_unit]
    intro a
    have := (y a).isLt
    fin_cases a <;> exact ⟨Nat.zero_le _, by simpa using this⟩

/-- THE BODY'S TRIPLE: the inputs come back as found, each result window holds its named contents. -/
theorem sound_kernel (c : Dev nD) (i : grid0.Coords)
  (arg2 : Memref sig .tc .smem S8 .f32) (harg2 : arg2.IsWhole) (arg3 : Memref sig .tc .smem S4 .f32) (harg3 : arg3.IsWhole)
  (arg4 : Memref sig .tc .smem S4 .f32) (harg4 : arg4.IsWhole) (arg5 : Memref sig .tc .smem S8 .f32) (harg5 : arg5.IsWhole)
  (arg6 : Memref sig .tc .smem S24x8 .i32) (harg6 : arg6.IsWhole) (arg7 : Memref sig .tc .smem S24x8 .i32) (harg7 : arg7.IsWhole)
  (arg8 : Memref sig .tc .vmem S1x1x8x256x256 .fp8e4m3) (harg8 : arg8.IsWhole) (arg9 : Memref sig .tc .vmem S1x1x1024x256 .fp8e4m3) (harg9 : arg9.IsWhole)
  (arg10 : Memref sig .tc .vmem S1x1x8x256x128 .fp8e4m3) (harg10 : arg10.IsWhole) (arg11 : Memref sig .tc .vmem S1x1x1024x256 .fp8e4m3) (harg11 : arg11.IsWhole)
  (arg12 : Memref sig .tc .vmem S1x1x8x256x256 .fp8e5m2) (harg12 : arg12.IsWhole) (arg13 : Memref sig .tc .vmem S1x1x8x256x256 .bf16) (harg13 : arg13.IsWhole)
  (arg14 : Memref sig .tc .vmem S1x1x8x1x256 .f32) (harg14 : arg14.IsWhole) (arg15 : Memref sig .tc .vmem S1x8x1x256 .i32) (harg15 : arg15.IsWhole)
  (arg16 : Memref sig .tc .vmem S1x8x1x256 .i32) (harg16 : arg16.IsWhole) (arg17 : Memref sig .tc .vmem S1x1x8x256x256 .bf16) (harg17 : arg17.IsWhole)
  (arg18 : Memref sig .tc .vmem S1x1x1024x256 .bf16) (harg18 : arg18.IsWhole) (arg19 : Memref sig .tc .vmem S1x1x1024x256 .bf16) (harg19 : arg19.IsWhole)
  (arg20 : Memref sig .tc .vmem S1024x256 .f32) (harg20 : arg20.IsWhole) (arg21 : Memref sig .tc .vmem S1024x256 .f32) (harg21 : arg21.IsWhole)
  (arg22 : Memref sig .tc .vmem S256x256 .f32) (harg22 : arg22.IsWhole)
  (x2 : Vec F S8 .f32) (x3 : Vec F S4 .f32) (x4 : Vec F S4 .f32) (x5 : Vec F S8 .f32) (x6 : Vec F S24x8 .i32) (x7 : Vec F S24x8 .i32) (x8 : Vec F S1x1x8x256x256 .fp8e4m3) (x9 : Vec F S1x1x1024x256 .fp8e4m3) (x10 : Vec F S1x1x8x256x128 .fp8e4m3) (x11 : Vec F S1x1x1024x256 .fp8e4m3) (x12 : Vec F S1x1x8x256x256 .fp8e5m2) (x13 : Vec F S1x1x8x256x256 .bf16) (x14 : Vec F S1x1x8x1x256 .f32) (x15 : Vec F S1x8x1x256 .i32) (x16 : Vec F S1x8x1x256 .i32)
  (hw : ∀ k, k0_chk1 (word i arg6 (harg6.unread x6) k) (word i arg7 (harg7.unread x7) k)) (K : PUnit → sProp 𝕄G) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare (out17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x2 x3 x4 x5 x6 x7 x8 x9 x10 x11 x12 x13 x14 x15 x16 hw) ∗ owns (c : Thread nD τ) arg18 fullShare (out18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x2 x3 x4 x5 x6 x7 x8 x9 x10 x11 x12 x13 x14 x15 x16 hw) ∗ owns (c : Thread nD τ) arg19 fullShare (out19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x2 x3 x4 x5 x6 x7 x8 x9 x10 x11 x12 x13 x14 x15 x16 hw) ∗ (∃ d, owns (c : Thread nD τ) arg20 fullShare d) ∗ (∃ d, owns (c : Thread nD τ) arg21 fullShare d) ∗ (∃ d, owns (c : Thread nD τ) arg22 fullShare d)) -∗ K ⟨⟩))
      ⊢ wp frame (wpE (defs₀ (F := F)) Variants.none (c : Thread nD τ) none) Set.univ (cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  obtain rfl := harg2.eq_unread h2
  obtain rfl := harg3.eq_unread h3
  obtain rfl := harg4.eq_unread h4
  obtain rfl := harg5.eq_unread h5
  obtain rfl := harg6.eq_unread h6
  obtain rfl := harg7.eq_unread h7
  obtain rfl := harg8.eq_unread h8
  obtain rfl := harg9.eq_unread h9
  obtain rfl := harg10.eq_unread h10
  obtain rfl := harg11.eq_unread h11
  obtain rfl := harg12.eq_unread h12
  obtain rfl := harg13.eq_unread h13
  obtain rfl := harg14.eq_unread h14
  obtain rfl := harg15.eq_unread h15
  obtain rfl := harg16.eq_unread h16
  iapply (wp_wand_r Idealize.ShloMosaic.frame (wpE (defs₀ (F := F)) Variants.none (c : Thread nD τ) none) Set.univ)
  isplitl [H2 H3 H4 H5 H6 H7 H8 H9 H10 H11 H12 H13 H14 H15 H16 H17 H18 H19 H20 H21 H22]
  · iapply ((bodyRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) hw).2.2.2 f17 f18 f19)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexists _; iexact H20
    isplitl [H21]; · iexists _; iexact H21
    iexists _; iexact H22
  · iintro %_ ⟨H2, H3, H4, H5, H6, H7, H8, H9, H10, H11, H12, H13, H14, H15, H16, H17, H18, H19, ⟨%g20, H20⟩, ⟨%g21, H21⟩, ⟨%g22, H22⟩⟩
    iapply Hk
    isplitl [H2]
    · iexists _; isplitr; swap
      · iexact H2
      · ipureintro; exact harg2.read_unread _
    isplitl [H3]
    · iexists _; isplitr; swap
      · iexact H3
      · ipureintro; exact harg3.read_unread _
    isplitl [H4]
    · iexists _; isplitr; swap
      · iexact H4
      · ipureintro; exact harg4.read_unread _
    isplitl [H5]
    · iexists _; isplitr; swap
      · iexact H5
      · ipureintro; exact harg5.read_unread _
    isplitl [H6]
    · iexists _; isplitr; swap
      · iexact H6
      · ipureintro; exact harg6.read_unread _
    isplitl [H7]
    · iexists _; isplitr; swap
      · iexact H7
      · ipureintro; exact harg7.read_unread _
    isplitl [H8]
    · iexists _; isplitr; swap
      · iexact H8
      · ipureintro; exact harg8.read_unread _
    isplitl [H9]
    · iexists _; isplitr; swap
      · iexact H9
      · ipureintro; exact harg9.read_unread _
    isplitl [H10]
    · iexists _; isplitr; swap
      · iexact H10
      · ipureintro; exact harg10.read_unread _
    isplitl [H11]
    · iexists _; isplitr; swap
      · iexact H11
      · ipureintro; exact harg11.read_unread _
    isplitl [H12]
    · iexists _; isplitr; swap
      · iexact H12
      · ipureintro; exact harg12.read_unread _
    isplitl [H13]
    · iexists _; isplitr; swap
      · iexact H13
      · ipureintro; exact harg13.read_unread _
    isplitl [H14]
    · iexists _; isplitr; swap
      · iexact H14
      · ipureintro; exact harg14.read_unread _
    isplitl [H15]
    · iexists _; isplitr; swap
      · iexact H15
      · ipureintro; exact harg15.read_unread _
    isplitl [H16]
    · iexists _; isplitr; swap
      · iexact H16
      · ipureintro; exact harg16.read_unread _
    isplitl [H17]
    · iexists _; isplitr; swap
      · iexact H17
      · ipureintro; exact read_out17 ..
    isplitl [H18]
    · iexists _; isplitr; swap
      · iexact H18
      · ipureintro; exact read_out18 ..
    isplitl [H19]
    · iexists _; isplitr; swap
      · iexact H19
      · ipureintro; exact read_out19 ..
    isplitl [H20]
    · iexists _; iexists _; isplitr; swap
      · iexact H20
      · ipureintro; rfl
    isplitl [H21]
    · iexists _; iexists _; isplitr; swap
      · iexact H21
      · ipureintro; rfl
    iexists _; iexists _; isplitr; swap
    · iexact H22
    · ipureintro; rfl

end Cert.Proof.Kernel

end
-- ==== Proof.Tables.lean ====
/-
  The two tables of bounds the kernel's host part computes from the document boundaries: for each position the last
  boundary at or before it and the first one after it, and from these the chunk range of each block of 128 positions.
-/
module

public import proofs.«01_k».proof.Proof.Gen.KernelIdeal.Frame
public import Idealize.ShloMosaic.Lib.Claim
public import Idealize.ShloMosaic.Lib.StableHlo.Run
public import Idealize.ShloMosaic.Lib.ValueIdxCore
public import Idealize.ShloMosaic.Lib.Pointwise.Tactic
public import Idealize.ShloMosaic.Lib.SortNet.Extract
public import Idealize.ShloMosaic.Lib.Affine
public import Idealize.ShloMosaic.Lib.WordCmp

@[expose] public section

set_option maxRecDepth 16384
set_option maxHeartbeats 4000000

noncomputable section

namespace Cert.Proof.Tables

open Cert.KernelIdeal Cert.KernelIdeal.Gen
open Idealize.ShloMosaic Idealize.ShloMosaic.TcCoe Idealize.ShloMosaic.Tactic
open Idealize.SL Idealize.SL.RA Idealize.SL.BI

/-- Which boundaries lie at or before each position. -/
def leW (cu : IVec S24x19 32) : IVec S24x19x1024 1 :=
  cmpi .sle (broadcastInDim S24x19x1024 ![0, 1, 2] bcast_S24x19x1_S24x19x1024_0_1_2 (broadcastInDim S24x19x1 ![0, 1] bcast_S24x19_S24x19x1_0_1 cu))
    (broadcastInDim S24x19x1024 ![0, 1, 2] bcast_S1x1x1024_S24x19x1024_0_1_2 (broadcastInDim S1x1x1024 ![2] bcast_S1024_S1x1x1024_2 (iotaInDim S1024 32 0)))

/-- The candidates for the last boundary at or before a position. -/
def loT (cu : IVec S24x19 32) : IVec S24x19x1024 32 :=
  select (leW cu) (broadcastInDim S24x19x1024 ![0, 1, 2] bcast_S24x19x1_S24x19x1024_0_1_2 (broadcastInDim S24x19x1 ![0, 1] bcast_S24x19_S24x19x1_0_1 cu))
    (broadcastInDim S24x19x1024 ![] bcast_S_S24x19x1024 (constantI S_ 32 0#32))

/-- The candidates for the first boundary after a position. -/
def hiT (cu : IVec S24x19 32) : IVec S24x19x1024 32 :=
  select (leW cu) (broadcastInDim S24x19x1024 ![] bcast_S_S24x19x1024 (constantI S_ 32 1024#32))
    (broadcastInDim S24x19x1024 ![0, 1, 2] bcast_S24x19x1_S24x19x1024_0_1_2 (broadcastInDim S24x19x1 ![0, 1] bcast_S24x19_S24x19x1_0_1 cu))

/-- The last boundary at or before each position. -/
def loW (cu : IVec S24x19 32) : IVec S24x1024 32 :=
  Host.reduce IntOp.maxsi (loT cu) (constantI S_ 32 2147483648#32) reducesTo_S24x19x1024_S24x1024_d1 h_S_

/-- The first boundary after each position. -/
def hiW (cu : IVec S24x19 32) : IVec S24x1024 32 :=
  Host.reduce IntOp.minsi (hiT cu) (constantI S_ 32 2147483647#32) reducesTo_S24x19x1024_S24x1024_d1 h_S_

/-- The floor of a table divided by 128, as the host computes it. -/
def fdivW (x : IVec S24x8 32) : IVec S24x8 32 :=
  select (andi (cmpi .ne (signi x) (broadcastInDim S24x8 ![] bcast_S_S24x8 (signi (constantI S_ 32 128#32))))
      (cmpi .ne (Host.remsi x (broadcastInDim S24x8 ![] bcast_S_S24x8 (constantI S_ 32 128#32))) (broadcastInDim S24x8 ![] bcast_S_S24x8 (constantI S_ 32 0#32))))
    (subi (Host.divsi x (broadcastInDim S24x8 ![] bcast_S_S24x8 (constantI S_ 32 128#32))) (broadcastInDim S24x8 ![] bcast_S_S24x8 (constantI S_ 32 1#32)))
    (Host.divsi x (broadcastInDim S24x8 ![] bcast_S_S24x8 (constantI S_ 32 128#32)))

/-- The first chunk of each block. -/
def csW (cu : IVec S24x19 32) : IVec S24x8 32 :=
  fdivW (Host.slice S24x8 ![0, 0] ![1, 128] (loW cu) slicesBy_S24x1024_S24x8_0s1_0s128)

/-- The end of each block's chunks. -/
def ceW (cu : IVec S24x19 32) : IVec S24x8 32 :=
  fdivW (subi (addi (Host.slice S24x8 ![0, 127] ![1, 128] (hiW cu) slicesBy_S24x1024_S24x8_0s1_127s128)
    (broadcastInDim S24x8 ![] bcast_S_S24x8 (constantI S_ 32 128#32))) (broadcastInDim S24x8 ![] bcast_S_S24x8 (constantI S_ 32 1#32)))

theorem leW_apply (cu : IVec S24x19 32) (b : Fin 24) (e : Fin 19) (p : Fin 1024) :
    leW cu (ix3 b e p) = IntOp.cmpi .sle (cu (ix2 b e)) (BitVec.ofNat 32 p.val) := by
  unfold leW
  pointwise

theorem loT_apply (cu : IVec S24x19 32) (b : Fin 24) (e : Fin 19) (p : Fin 1024) :
    loT cu (ix3 b e p) = Scalar.select (leW cu (ix3 b e p)) (cu (ix2 b e)) 0#32 := by
  unfold loT
  pointwise

theorem hiT_apply (cu : IVec S24x19 32) (b : Fin 24) (e : Fin 19) (p : Fin 1024) :
    hiT cu (ix3 b e p) = Scalar.select (leW cu (ix3 b e p)) 1024#32 (cu (ix2 b e)) := by
  unfold hiT
  pointwise

/-- A signed maximum over a finite set is at most a bound exactly when every member is. -/
theorem fold_maxsi_le {ι : Type} [DecidableEq ι] (f : ι → BitVec 32) (i : BitVec 32) (s : Finset ι) (x : ℤ) :
    (s.fold IntOp.maxsi i f).toInt ≤ x ↔ i.toInt ≤ x ∧ ∀ e ∈ s, (f e).toInt ≤ x := by
  induction s using Finset.induction_on with
  | empty => simp
  | insert a s ha ih => rw [Finset.fold_insert ha, SortNet.toInt_maxsi, max_le_iff, ih]; simp only [Finset.forall_mem_insert]; tauto

/-- A number is below a signed minimum over a finite set exactly when it is below every member. -/
theorem lt_fold_minsi {ι : Type} [DecidableEq ι] (f : ι → BitVec 32) (i : BitVec 32) (s : Finset ι) (x : ℤ) :
    x < (s.fold IntOp.minsi i f).toInt ↔ x < i.toInt ∧ ∀ e ∈ s, x < (f e).toInt := by
  induction s using Finset.induction_on with
  | empty => simp
  | insert a s ha ih => rw [Finset.fold_insert ha, SortNet.toInt_minsi, lt_min_iff, ih]; simp only [Finset.forall_mem_insert]; tauto

theorem word_ofNat (x : BitVec 32) : x = BitVec.ofNat 32 x.toNat := by
  rw [BitVec.ofNat_toNat, BitVec.setWidth_eq]

theorem ofNat_toInt (p : ℕ) (hp : p < 2 ^ 31) : (BitVec.ofNat 32 p).toInt = (p : ℤ) := by
  rw [BitVec.toInt_eq_toNat_of_lt] <;> rw [BitVec.toNat_ofNat, Nat.mod_eq_of_lt (by omega)]
  omega

/-- Boundary `e` of row `b` lies at or before position `p`. -/
def At (cu : IVec S24x19 32) (b : Fin 24) (e : Fin 19) (p : ℕ) : Prop := (cu (ix2 b e)).toInt ≤ (p : ℤ)

theorem leW_iff (cu : IVec S24x19 32) (b : Fin 24) (e : Fin 19) (p : Fin 1024) : leW cu (ix3 b e p) = 1#1 ↔ At cu b e p.val := by
  rw [leW_apply, IntOp.cmpi_sle, At, ofNat_toInt _ (by omega)]

theorem loT_le (cu : IVec S24x19 32) (b : Fin 24) (e : Fin 19) (p : Fin 1024) (x : ℕ) :
    (loT cu (ix3 b e p)).toInt ≤ (x : ℤ) ↔ (At cu b e p.val → At cu b e x) := by
  rw [loT_apply]
  by_cases h : leW cu (ix3 b e p) = 1#1
  · rw [h]; exact ⟨fun g _ => g, fun g => g ((leW_iff cu b e p).mp h)⟩
  · rw [show leW cu (ix3 b e p) = 0#1 by revert h; generalize leW cu (ix3 b e p) = w; revert w; decide]
    exact ⟨fun _ g => absurd ((leW_iff cu b e p).mpr g) h, fun _ => by show (0#32).toInt ≤ _; simp⟩

theorem lt_hiT (cu : IVec S24x19 32) (b : Fin 24) (e : Fin 19) (p : Fin 1024) (x : ℕ) (hx : x < 1024) :
    (x : ℤ) < (hiT cu (ix3 b e p)).toInt ↔ (¬ At cu b e p.val → ¬ At cu b e x) := by
  rw [hiT_apply]
  by_cases h : leW cu (ix3 b e p) = 1#1
  · rw [h]; exact ⟨fun _ g => absurd ((leW_iff cu b e p).mp h) g, fun _ => by show (x : ℤ) < (1024#32).toInt; simp; omega⟩
  · rw [show leW cu (ix3 b e p) = 0#1 by revert h; generalize leW cu (ix3 b e p) = w; revert w; decide]
    exact ⟨fun g _ => not_le.mpr g, fun g => not_le.mp (g (fun g' => h ((leW_iff cu b e p).mpr g')))⟩

/-- The middle coordinate inserted into a reduced index. -/
theorem lift_ix3 (h : S24x19x1024.Reduces [1] S24x1024) (b : Fin 24) (p : Fin 1024) (e : Fin 19) :
    h.lift (ix2 b p) e = ix3 b e p := by
  funext a
  apply Fin.ext
  fin_cases a <;> rfl

theorem loW_fold (cu : IVec S24x19 32) (b : Fin 24) (p : Fin 1024) :
    loW cu (ix2 b p) = Finset.univ.fold IntOp.maxsi 2147483648#32 (fun e : Fin 19 => loT cu (ix3 b e p)) := by
  have h : S24x19x1024.Reduces [1] S24x1024 := by decide
  unfold loW
  rw [Host.reduce_eq_fold_single _ _ _ _ h]
  exact congrArg (fun f => Finset.univ.fold IntOp.maxsi 2147483648#32 f) (funext fun e : Fin 19 => congrArg (loT cu) (lift_ix3 h b p e))

theorem hiW_fold (cu : IVec S24x19 32) (b : Fin 24) (p : Fin 1024) :
    hiW cu (ix2 b p) = Finset.univ.fold IntOp.minsi 2147483647#32 (fun e : Fin 19 => hiT cu (ix3 b e p)) := by
  have h : S24x19x1024.Reduces [1] S24x1024 := by decide
  unfold hiW
  rw [Host.reduce_eq_fold_single _ _ _ _ h]
  exact congrArg (fun f => Finset.univ.fold IntOp.minsi 2147483647#32 f) (funext fun e : Fin 19 => congrArg (hiT cu) (lift_ix3 h b p e))

/-- The last boundary at or before a position is at most `x ≥ 0` exactly when every such boundary is. -/
theorem loW_le (cu : IVec S24x19 32) (b : Fin 24) (p : Fin 1024) (x : ℕ) :
    (loW cu (ix2 b p)).toInt ≤ (x : ℤ) ↔ ∀ e, At cu b e p.val → At cu b e x := by
  rw [loW_fold, fold_maxsi_le]
  refine ⟨fun h e => (loT_le cu b e p x).mp (h.2 e (Finset.mem_univ e)), fun h => ⟨?_, fun e _ => (loT_le cu b e p x).mpr (h e)⟩⟩
  show (2147483648#32).toInt ≤ (x : ℤ)
  simp

/-- A position is before the first boundary after another exactly when every boundary after that one is after it. -/
theorem lt_hiW (cu : IVec S24x19 32) (b : Fin 24) (p : Fin 1024) (x : ℕ) (hx : x < 1024) :
    (x : ℤ) < (hiW cu (ix2 b p)).toInt ↔ ∀ e, ¬ At cu b e p.val → ¬ At cu b e x := by
  rw [hiW_fold, lt_fold_minsi]
  refine ⟨fun h e => (lt_hiT cu b e p x hx).mp (h.2 e (Finset.mem_univ e)), fun h => ⟨?_, fun e _ => (lt_hiT cu b e p x hx).mpr (h e)⟩⟩
  show (x : ℤ) < (2147483647#32).toInt
  simp; omega

/-- A row whose first boundary is 0: the last boundary at or before a position lies between 0 and it. -/
theorem loW_bound (cu : IVec S24x19 32) (b : Fin 24) (p : Fin 1024) (h0 : cu (ix2 b 0) = 0#32) :
    ∃ n : ℕ, n ≤ p.val ∧ loW cu (ix2 b p) = BitVec.ofNat 32 n := by
  have h1 := (loW_le cu b p p.val).mpr (fun e h => h)
  have h2 : ¬ (loW cu (ix2 b p)).toInt < 0 := fun h => by
    have h3 := Int.le_sub_one_of_lt h
    rw [loW_fold, fold_maxsi_le] at h3
    have h4 := h3.2 0 (Finset.mem_univ _)
    rw [loT_apply, h0] at h4
    revert h4
    generalize leW cu (ix3 b 0 p) = w
    revert w
    decide
  refine ⟨(loW cu (ix2 b p)).toNat, ?_, word_ofNat _⟩
  have := BitVec.toInt_eq_toNat_cond (loW cu (ix2 b p))
  omega

/-- … and the first boundary after a position lies between it and the row's length. -/
theorem hiW_bound (cu : IVec S24x19 32) (b : Fin 24) (p : Fin 1024) (h0 : cu (ix2 b 0) = 0#32) :
    ∃ n : ℕ, p.val < n ∧ n ≤ 1024 ∧ hiW cu (ix2 b p) = BitVec.ofNat 32 n := by
  have h1 := (lt_hiW cu b p p.val p.isLt).mpr (fun e h => h)
  have h2 : ¬ (1024 : ℤ) < (hiW cu (ix2 b p)).toInt := fun h => by
    rw [hiW_fold, lt_fold_minsi] at h
    have h4 := h.2 0 (Finset.mem_univ _)
    rw [hiT_apply, (leW_iff cu b 0 p).mpr (by rw [At, h0]; simp)] at h4
    revert h4
    generalize cu (ix2 b 0) = w
    show ¬ (1024 : ℤ) < (1024#32).toInt
    decide
  refine ⟨(hiW cu (ix2 b p)).toNat, ?_, ?_, word_ofNat _⟩ <;>
  · have := BitVec.toInt_eq_toNat_cond (hiW cu (ix2 b p))
    omega

theorem fdiv_word : ∀ n : Fin 1152, Scalar.select (IntOp.andi (IntOp.cmpi .ne (if BitVec.ofNat 32 n.val = 0 then 0 else if (BitVec.ofNat 32 n.val).msb then -1 else 1) (1#32)) (IntOp.cmpi .ne (IntOp.remsi .host (BitVec.ofNat 32 n.val) 128#32) 0#32))
    (IntOp.subi (IntOp.divsi .host (BitVec.ofNat 32 n.val) 128#32) 1#32) (IntOp.divsi .host (BitVec.ofNat 32 n.val) 128#32) = BitVec.ofNat 32 (n.val / 128) := by
  decide +kernel

theorem fdivW_apply (x : IVec S24x8 32) (j : S24x8.Idx) (n : ℕ) (hn : n < 1152) (h : x j = BitVec.ofNat 32 n) : fdivW x j = BitVec.ofNat 32 (n / 128) := by
  rw [← fdiv_word ⟨n, hn⟩]
  unfold fdivW
  pointwise
  rw [h]
  rfl

theorem csW_eq (cu : IVec S24x19 32) (b : Fin 24) (u : Fin 8) (n : ℕ) (hn : n ≤ 128 * u.val)
    (h : loW cu (ix2 b ⟨128 * u.val, by omega⟩) = BitVec.ofNat 32 n) : csW cu (ix2 b u) = BitVec.ofNat 32 (n / 128) := by
  unfold csW
  refine fdivW_apply _ _ n (by omega) ?_
  rw [← h]
  pointwise

theorem ceW_eq (cu : IVec S24x19 32) (b : Fin 24) (u : Fin 8) (n : ℕ) (hn : n ≤ 1024)
    (h : hiW cu (ix2 b ⟨127 + 128 * u.val, by omega⟩) = BitVec.ofNat 32 n) : ceW cu (ix2 b u) = BitVec.ofNat 32 ((n + 127) / 128) := by
  unfold ceW
  refine fdivW_apply _ _ (n + 127) (by omega) ?_
  pointwise
  rw [h]
  apply BitVec.eq_of_toNat_eq
  simp only [IntOp.subi, IntOp.addi, BitVec.toNat_sub, BitVec.toNat_add, BitVec.toNat_ofNat]
  omega

end Cert.Proof.Tables

end
-- ==== Proof.Bounds.lean ====
/-
  The two tables of chunk bounds as the kernel's region finds them, and the side condition on the words read off them.
-/
module

public import proofs.«01_k».proof.Proof.Gen.Kernel.Frame
public import Idealize.ShloMosaic.Lib.Claim
public import Idealize.ShloMosaic.Lib.StableHlo.Run
public import proofs.«01_k».proof.Proof.Tables

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Cert.Proof.Tables
open Idealize.SL Idealize.SL.RA Idealize.SL.BI

variable {F : FTy → Type} [FloatOps F] (m : (ℓ : Loc nD τ sig) → Buf (Elt F) ℓ)

/-- The table of first chunks the region reads. -/
theorem V_v29 (c : Dev nD) : V m c main_v29 = csW (m ((c : Thread nD τ).loc main_arg10)) := by
  entry_read
  simp only [hostOps0, hostOps0_1, hostOps0_2, hostOps0_3, hostOps0_4, hostOps0_5, hostOps0_6, hostOps0_7, hostOps0_8, List.flatten_cons, List.flatten_nil, List.cons_append, List.nil_append, List.append_nil]
  after_results_simp
  simp -implicitDefEqProofs only [StableHlo.TRef.ofBuf, StableHlo.TRef.toBuf, cast_cast, cast_eq, id]
  rfl

/-- The table of chunk ends the region reads. -/
theorem V_v35 (c : Dev nD) : V m c main_v35 = ceW (m ((c : Thread nD τ).loc main_arg10)) := by
  entry_read
  simp only [hostOps0, hostOps0_1, hostOps0_2, hostOps0_3, hostOps0_4, hostOps0_5, hostOps0_6, hostOps0_7, hostOps0_8, List.flatten_cons, List.flatten_nil, List.cons_append, List.nil_append, List.append_nil]
  after_results_simp
  simp -implicitDefEqProofs only [StableHlo.TRef.ofBuf, StableHlo.TRef.toBuf, cast_cast, cast_eq, id]
  rfl

/-- Chunk bounds of at most 8 meet the body's side condition. -/
theorem chk1_of_le : ∀ a b : Fin 9, k0_chk1 (BitVec.ofNat 32 a.val) (BitVec.ofNat 32 b.val) := by
  decide +kernel

end Cert.Proof.Kernel

end
-- ==== Proof.Frame.lean ====
/-
  The kernel's frame: from a memory whose rows of document boundaries start at 0, every execution ends, without a fault,
  with the argument arrays unchanged.
-/
module

public import proofs.«01_k».proof.Proof.Sound
public import proofs.«01_k».proof.Proof.Bounds
public import Idealize.ShloMosaic.Lib.Pipeline.ValueKit

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Proof.Tables
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The words an outer trip reads -/

theorem off7_aux : ∀ (a : Fin 24) (k : Fin k0_t1_loop.trips),
    (BitVec.ofNat 32 a.val).toNat = a.val ∧ (IntOp.addi 0#32 (IntOp.muli (Scf.iv 0#32 1#32 k.val) 1#32)).toNat = k.val := by
  decide +kernel

/-- An outer trip reads its tables at the grid's row and its own number. -/
theorem off7_eq (i : grid0.Coords) (k : Fin k0_t1_loop.trips) : k0_off7 i k = ![(i 0).val, k.val] := by
  obtain ⟨h1, h2⟩ := off7_aux (i 0) k
  unfold k0_off7
  exact congrArg₂ (fun x y : ℕ => ![x, y]) h1 h2

theorem word_eq (i : grid0.Coords) (M : Memref sig .tc .smem S24x8 .i32) (hM : M.IsWhole) (x : Vec F S24x8 .i32)
    (k : Fin k0_t1_loop.trips) (u : Fin 8) (hu : u.val = k.val) : word i M (hM.unread x) k = x (ix2 (n0 := 24) (i 0) u) := by
  unfold word
  rw [View.readAt_apply, hM.read_unread]
  congr 1
  funext a
  apply Fin.ext
  have e0 : k0_off7 i k 0 = (i 0).val := by rw [off7_eq]; rfl
  have e1 : k0_off7 i k 1 = k.val := by rw [off7_eq]; rfl
  fin_cases a
  · show k0_off7 i k 0 + 1 * 0 = (i 0).val
    omega
  · show k0_off7 i k 1 + 1 * 0 = u.val
    omega

/-- The blocks of the two tables are the whole tables. -/
theorem iblk4 (c : Dev nD) (t : Fin cfg0.N) : iblk m c 4 t = csW (m ((c : Thread nD τ).loc main_arg10)) := by
  rw [← V_v29 m c]
  funext y
  blk_ext [iblk, show win0_4.index t 0 = 0 from rfl, show win0_4.index t 1 = 0 from rfl]

theorem iblk5 (c : Dev nD) (t : Fin cfg0.N) : iblk m c 5 t = ceW (m ((c : Thread nD τ).loc main_arg10)) := by
  rw [← V_v35 m c]
  funext y
  blk_ext [iblk, show win0_5.index t 0 = 0 from rfl, show win0_5.index t 1 = 0 from rfl]

/-- Every row of the document boundaries starts at 0. -/
def Starts : Prop := ∀ (c : Dev nD) (b : Fin 24), (m ((c : Thread nD τ).loc main_arg10) : IVec S24x19 32) (ix2 b 0) = 0#32

/-- The side condition the body assumes of the words it reads, at every point. -/
def Words : Prop := ∀ (c : Dev nD) (t : Fin cfg0.N) (k : Fin k0_t1_loop.trips),
  k0_chk1 (word (grid0.coords t) (win0_4.stage (cfg0.slots t 4)) ((hstage0_4 ((cfg0.slots t 4).cast nbuf0_4)).unread (iblk m c 4 t)) k)
    (word (grid0.coords t) (win0_5.stage (cfg0.slots t 5)) ((hstage0_5 ((cfg0.slots t 5).cast nbuf0_5)).unread (iblk m c 5 t)) k)

theorem words_of_starts (h : Starts m) : Words m := by
  intro c t k
  have hk : k.val < 8 := k.isLt
  rw [word_eq _ _ _ _ k ⟨k.val, hk⟩ rfl, word_eq _ _ _ _ k ⟨k.val, hk⟩ rfl, iblk4, iblk5]
  obtain ⟨n, hn, e⟩ := loW_bound (m ((c : Thread nD τ).loc main_arg10)) (grid0.coords t 0) ⟨128 * k.val, by omega⟩ (h c _)
  obtain ⟨n', -, hn', e'⟩ := hiW_bound (m ((c : Thread nD τ).loc main_arg10)) (grid0.coords t 0) ⟨127 + 128 * k.val, by omega⟩ (h c _)
  simp only at hn
  rw [csW_eq _ _ ⟨k.val, hk⟩ n hn e, ceW_eq _ _ ⟨k.val, hk⟩ n' hn' e']
  exact chk1_of_le ⟨n / 128, by omega⟩ ⟨(n' + 127) / 128, by omega⟩

variable (H : Words m)

/-! ## The pipeline's proof data -/

/-- What the body leaves in its three result windows at point `t`. -/
def res15 (c : Dev nD) (t : Fin cfg0.N) : Vec F S1x1x8x256x256 .bf16 := out17 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (H c t)
def res16 (c : Dev nD) (t : Fin cfg0.N) : Vec F S1x1x1024x256 .bf16 := out18 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (H c t)
def res17 (c : Dev nD) (t : Fin cfg0.N) : Vec F S1x1x1024x256 .bf16 := out19 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (H c t)

/-- The proof data of the one pipeline: the arrays as the region finds them; after the body each input's buffer at its
    block and each output's at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => res15 m H c t
    | ⟨16, _⟩ => res16 m H c t
    | ⟨17, _⟩ => res17 m H c t
    | ⟨n + 18, h⟩ => absurd (show n + 18 < 18 from h) (by omega)
  Φ _ := Pipeline.ΦA spec0 c
  q _ := fullShare
  owed _ := 0

theorem A_eq (c : Dev nD) (w : Fin cfg0.W) : (dats m H 0 c).A w = V m c (Pipeline.arrRef spec0 w) := by
  dsimp only [dats]

theorem after0_0 (c : Dev nD) (t : Fin cfg0.N) : (dats m H 0 c).after 0 t = iblk m c 0 t := by dsimp only [dats]
theorem after0_1 (c : Dev nD) (t : Fin cfg0.N) : (dats m H 0 c).after 1 t = iblk m c 1 t := by dsimp only [dats]
theorem after0_2 (c : Dev nD) (t : Fin cfg0.N) : (dats m H 0 c).after 2 t = iblk m c 2 t := by dsimp only [dats]
theorem after0_3 (c : Dev nD) (t : Fin cfg0.N) : (dats m H 0 c).after 3 t = iblk m c 3 t := by dsimp only [dats]
theorem after0_4 (c : Dev nD) (t : Fin cfg0.N) : (dats m H 0 c).after 4 t = iblk m c 4 t := by dsimp only [dats]
theorem after0_5 (c : Dev nD) (t : Fin cfg0.N) : (dats m H 0 c).after 5 t = iblk m c 5 t := by dsimp only [dats]
theorem after0_6 (c : Dev nD) (t : Fin cfg0.N) : (dats m H 0 c).after 6 t = iblk m c 6 t := by dsimp only [dats]
theorem after0_7 (c : Dev nD) (t : Fin cfg0.N) : (dats m H 0 c).after 7 t = iblk m c 7 t := by dsimp only [dats]
theorem after0_8 (c : Dev nD) (t : Fin cfg0.N) : (dats m H 0 c).after 8 t = iblk m c 8 t := by dsimp only [dats]
theorem after0_9 (c : Dev nD) (t : Fin cfg0.N) : (dats m H 0 c).after 9 t = iblk m c 9 t := by dsimp only [dats]
theorem after0_10 (c : Dev nD) (t : Fin cfg0.N) : (dats m H 0 c).after 10 t = iblk m c 10 t := by dsimp only [dats]
theorem after0_11 (c : Dev nD) (t : Fin cfg0.N) : (dats m H 0 c).after 11 t = iblk m c 11 t := by dsimp only [dats]
theorem after0_12 (c : Dev nD) (t : Fin cfg0.N) : (dats m H 0 c).after 12 t = iblk m c 12 t := by dsimp only [dats]
theorem after0_13 (c : Dev nD) (t : Fin cfg0.N) : (dats m H 0 c).after 13 t = iblk m c 13 t := by dsimp only [dats]
theorem after0_14 (c : Dev nD) (t : Fin cfg0.N) : (dats m H 0 c).after 14 t = iblk m c 14 t := by dsimp only [dats]
theorem after0_15 (c : Dev nD) (t : Fin cfg0.N) : (dats m H 0 c).after 15 t = res15 m H c t := by dsimp only [dats]
theorem after0_16 (c : Dev nD) (t : Fin cfg0.N) : (dats m H 0 c).after 16 t = res16 m H c t := by dsimp only [dats]
theorem after0_17 (c : Dev nD) (t : Fin cfg0.N) : (dats m H 0 c).after 17 t = res17 m H c t := by dsimp only [dats]

theorem before0_0 (c : Dev nD) (t : Fin cfg0.N) (d) : (dats m H 0 c).before 0 t d = iblk m c 0 t := before0_0_of m (dats m H 0 c) (A_eq m H c 0) (after0_0 m H c) t d
theorem before0_1 (c : Dev nD) (t : Fin cfg0.N) (d) : (dats m H 0 c).before 1 t d = iblk m c 1 t := before0_1_of m (dats m H 0 c) (A_eq m H c 1) (after0_1 m H c) t d
theorem before0_2 (c : Dev nD) (t : Fin cfg0.N) (d) : (dats m H 0 c).before 2 t d = iblk m c 2 t := before0_2_of m (dats m H 0 c) (A_eq m H c 2) (after0_2 m H c) t d
theorem before0_3 (c : Dev nD) (t : Fin cfg0.N) (d) : (dats m H 0 c).before 3 t d = iblk m c 3 t := before0_3_of m (dats m H 0 c) (A_eq m H c 3) (after0_3 m H c) t d
theorem before0_4 (c : Dev nD) (t : Fin cfg0.N) (d) : (dats m H 0 c).before 4 t d = iblk m c 4 t := before0_4_of m (dats m H 0 c) (A_eq m H c 4) (after0_4 m H c) t d
theorem before0_5 (c : Dev nD) (t : Fin cfg0.N) (d) : (dats m H 0 c).before 5 t d = iblk m c 5 t := before0_5_of m (dats m H 0 c) (A_eq m H c 5) (after0_5 m H c) t d
theorem before0_6 (c : Dev nD) (t : Fin cfg0.N) (d) : (dats m H 0 c).before 6 t d = iblk m c 6 t := before0_6_of m (dats m H 0 c) (A_eq m H c 6) (after0_6 m H c) t d
theorem before0_7 (c : Dev nD) (t : Fin cfg0.N) (d) : (dats m H 0 c).before 7 t d = iblk m c 7 t := before0_7_of m (dats m H 0 c) (A_eq m H c 7) (after0_7 m H c) t d
theorem before0_8 (c : Dev nD) (t : Fin cfg0.N) (d) : (dats m H 0 c).before 8 t d = iblk m c 8 t := before0_8_of m (dats m H 0 c) (A_eq m H c 8) (after0_8 m H c) t d
theorem before0_9 (c : Dev nD) (t : Fin cfg0.N) (d) : (dats m H 0 c).before 9 t d = iblk m c 9 t := before0_9_of m (dats m H 0 c) (A_eq m H c 9) (after0_9 m H c) t d
theorem before0_10 (c : Dev nD) (t : Fin cfg0.N) (d) : (dats m H 0 c).before 10 t d = iblk m c 10 t := before0_10_of m (dats m H 0 c) (A_eq m H c 10) (after0_10 m H c) t d
theorem before0_11 (c : Dev nD) (t : Fin cfg0.N) (d) : (dats m H 0 c).before 11 t d = iblk m c 11 t := before0_11_of m (dats m H 0 c) (A_eq m H c 11) (after0_11 m H c) t d
theorem before0_12 (c : Dev nD) (t : Fin cfg0.N) (d) : (dats m H 0 c).before 12 t d = iblk m c 12 t := before0_12_of m (dats m H 0 c) (A_eq m H c 12) (after0_12 m H c) t d
theorem before0_13 (c : Dev nD) (t : Fin cfg0.N) (d) : (dats m H 0 c).before 13 t d = iblk m c 13 t := before0_13_of m (dats m H 0 c) (A_eq m H c 13) (after0_13 m H c) t d
theorem before0_14 (c : Dev nD) (t : Fin cfg0.N) (d) : (dats m H 0 c).before 14 t d = iblk m c 14 t := before0_14_of m (dats m H 0 c) (A_eq m H c 14) (after0_14 m H c) t d

/-! ## The body obligation, at a generic point -/

/-- What the body is called with at point `t`, -/
def bodyPre (c : Dev nD) (t : Fin cfg0.N) : sProp 𝕄 :=
  iprop((dats m H 0 c).Φ t.castSucc ∗ (dats m H 0 c).owesAt () t.castSucc
    ∗ (∃ d, owns (c : Thread nD τ) (st0_0 t) fullShare ((dats m H 0 c).before 0 t d))
    ∗ (∃ d, owns (c : Thread nD τ) (st0_1 t) fullShare ((dats m H 0 c).before 1 t d))
    ∗ (∃ d, owns (c : Thread nD τ) (st0_2 t) fullShare ((dats m H 0 c).before 2 t d))
    ∗ (∃ d, owns (c : Thread nD τ) (st0_3 t) fullShare ((dats m H 0 c).before 3 t d))
    ∗ (∃ d, owns (c : Thread nD τ) (st0_4 t) fullShare ((dats m H 0 c).before 4 t d))
    ∗ (∃ d, owns (c : Thread nD τ) (st0_5 t) fullShare ((dats m H 0 c).before 5 t d))
    ∗ (∃ d, owns (c : Thread nD τ) (st0_6 t) fullShare ((dats m H 0 c).before 6 t d))
    ∗ (∃ d, owns (c : Thread nD τ) (st0_7 t) fullShare ((dats m H 0 c).before 7 t d))
    ∗ (∃ d, owns (c : Thread nD τ) (st0_8 t) fullShare ((dats m H 0 c).before 8 t d))
    ∗ (∃ d, owns (c : Thread nD τ) (st0_9 t) fullShare ((dats m H 0 c).before 9 t d))
    ∗ (∃ d, owns (c : Thread nD τ) (st0_10 t) fullShare ((dats m H 0 c).before 10 t d))
    ∗ (∃ d, owns (c : Thread nD τ) (st0_11 t) fullShare ((dats m H 0 c).before 11 t d))
    ∗ (∃ d, owns (c : Thread nD τ) (st0_12 t) fullShare ((dats m H 0 c).before 12 t d))
    ∗ (∃ d, owns (c : Thread nD τ) (st0_13 t) fullShare ((dats m H 0 c).before 13 t d))
    ∗ (∃ d, owns (c : Thread nD τ) (st0_14 t) fullShare ((dats m H 0 c).before 14 t d))
    ∗ (∃ d, owns (c : Thread nD τ) (st0_15 t) fullShare ((dats m H 0 c).before 15 t d))
    ∗ (∃ d, owns (c : Thread nD τ) (st0_16 t) fullShare ((dats m H 0 c).before 16 t d))
    ∗ (∃ d, owns (c : Thread nD τ) (st0_17 t) fullShare ((dats m H 0 c).before 17 t d)))

/-- and what it returns. -/
def bodyPost (c : Dev nD) (t : Fin cfg0.N) : sProp 𝕄 :=
  iprop((dats m H 0 c).Φ t.succ ∗ (dats m H 0 c).owesAt () t.succ
    ∗ owns (c : Thread nD τ) (st0_0 t) fullShare ((dats m H 0 c).after 0 t)
    ∗ owns (c : Thread nD τ) (st0_1 t) fullShare ((dats m H 0 c).after 1 t)
    ∗ owns (c : Thread nD τ) (st0_2 t) fullShare ((dats m H 0 c).after 2 t)
    ∗ owns (c : Thread nD τ) (st0_3 t) fullShare ((dats m H 0 c).after 3 t)
    ∗ owns (c : Thread nD τ) (st0_4 t) fullShare ((dats m H 0 c).after 4 t)
    ∗ owns (c : Thread nD τ) (st0_5 t) fullShare ((dats m H 0 c).after 5 t)
    ∗ owns (c : Thread nD τ) (st0_6 t) fullShare ((dats m H 0 c).after 6 t)
    ∗ owns (c : Thread nD τ) (st0_7 t) fullShare ((dats m H 0 c).after 7 t)
    ∗ owns (c : Thread nD τ) (st0_8 t) fullShare ((dats m H 0 c).after 8 t)
    ∗ owns (c : Thread nD τ) (st0_9 t) fullShare ((dats m H 0 c).after 9 t)
    ∗ owns (c : Thread nD τ) (st0_10 t) fullShare ((dats m H 0 c).after 10 t)
    ∗ owns (c : Thread nD τ) (st0_11 t) fullShare ((dats m H 0 c).after 11 t)
    ∗ owns (c : Thread nD τ) (st0_12 t) fullShare ((dats m H 0 c).after 12 t)
    ∗ owns (c : Thread nD τ) (st0_13 t) fullShare ((dats m H 0 c).after 13 t)
    ∗ owns (c : Thread nD τ) (st0_14 t) fullShare ((dats m H 0 c).after 14 t)
    ∗ owns (c : Thread nD τ) (st0_15 t) fullShare ((dats m H 0 c).after 15 t)
    ∗ owns (c : Thread nD τ) (st0_16 t) fullShare ((dats m H 0 c).after 16 t)
    ∗ owns (c : Thread nD τ) (st0_17 t) fullShare ((dats m H 0 c).after 17 t))

/-- The body at any point. -/
theorem sound_body (c : Dev nD) (t : Fin cfg0.N) :
    bodyPre m H c t ⊢ wp frame (wpE (defs₀ (F := F)) Variants.none c none) Set.univ (bodyAt0 t) (fun _ => bodyPost m H c t) := by
  unfold bodyPre bodyPost bodyAt0
  simp only [before0_0, before0_1, before0_2, before0_3, before0_4, before0_5, before0_6, before0_7, before0_8, before0_9, before0_10, before0_11, before0_12, before0_13, before0_14]
  rw [show (dats m H 0 c).Φ t.succ = (dats m H 0 c).Φ t.castSucc from rfl,
    show (dats m H 0 c).owesAt () t.succ = (dats m H 0 c).owesAt () t.castSucc from rfl,
    after0_0, after0_1, after0_2, after0_3, after0_4, after0_5, after0_6, after0_7, after0_8, after0_9, after0_10, after0_11, after0_12, after0_13, after0_14, after0_15, after0_16, after0_17]
  rw [show (dats m H 0 c).Φ t.castSucc = Pipeline.ΦA spec0 c from rfl]
  unfold Pipeline.ΦA
  rw [scopedRest0_eq]
  simp only [← owns_whole]
  iintro ⟨⟨⟨HA, HB, HC⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (sound_kernel c (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (H c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [HA]; · iexact HA
  isplitl [HB]; · iexact HB
  isplitl [HC]; · iexact HC
  iintro ⟨H0, H1, H2, H3, H4, H5, H6, H7, H8, H9, H10, H11, H12, H13, H14, H15, H16, H17, HA, HB, HC⟩
  isplitl [HA HB HC Hr]
  · isplitl [HA HB HC]
    · isplitl [HA]; · iexact HA
      isplitl [HB]; · iexact HB
      iexact HC
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m H 0 c) (defs₀ (F := F)) Variants.none () Set.univ := fun t => by
  rw [bigSep_W0, bigSep_W0, defs₀_row]
  exact triple_restated (sound_body m H c t) rfl .rfl fun _ => .rfl

/-! ## The run and the frame -/

set_option backward.isDefEq.respectTransparency.types false in
set_option maxHeartbeats 800000 in
/-- The launch: every array ends at what the proof data say, and every semaphore counter at zero. -/
theorem run_main_quiescent : θ_run defs (onTc (τ := τ) (main (F := F))) (s₀ m ρ) (fun r => (Pipeline.FramePost cfgs (dats m H) 0 (Pipeline.afterTail₀ cfgs (dats m H) 0 (V0 m) [hostOps1])) r ∧ r.2.sem = fun _ => 0) :=
  Pipeline.θ_run_frame_around (Q' := _) cfgs (dats m H) (0 : Fin 1) launch0 defs₀ Variants.none m ρ main
    (hbody := fun c => (body_obligation m H c).loose) (hshare := fun c => (dats m H 0 c).share_full fun _ => rfl)
    (howed := fun _ _ => rfl) (V₀ := V0 m) (opss := [hostOps1]) (hsub := sfx_sub) (hfresh := sfx_fresh) (hkeep := sfx_keeps)
    (hmain := hmain m Variants.none) (hA := A_eq m H) (hΦ := fun _ _ => rfl)

theorem run_main : θ_run defs (onTc (τ := τ) (main (F := F))) (s₀ m ρ) (Pipeline.FramePost cfgs (dats m H) 0 (Pipeline.afterTail₀ cfgs (dats m H) 0 (V0 m) [hostOps1])) :=
  (θ_run defs _ _).mono (fun _ h => h.1) (run_main_quiescent m ρ H)

/-- The frame: the run ends with the argument arrays unchanged and every counter at zero. -/
theorem frame (h : Starts m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m (words_of_starts m h)) (A_eq m (words_of_starts m h)) (run_main m ρ (words_of_starts m h)))
    ((θ_run defs _ _).mono (fun _ h => h.2) (run_main_quiescent m ρ (words_of_starts m h)))

end Cert.Proof.Kernel

end
-- ==== Proof.OuterIdeal.lean ====
/-
  The outer counted loop of the kernel (`k0_t1_loop`, one trip per block of 256 query lanes): its trip run once at a
  symbolic trip number, and the invariant the run of the whole body goes through the loop by. The two inner loops are
  gone through by their generated invariants.
-/
module

public import proofs.«01_k».proof.Proof.Gen.KernelIdeal.Frame
public import proofs.«01_k».proof.Proof.Gen.KernelIdeal.Loops
public import proofs.«01_k».proof.Proof.Gen.KernelIdeal.Skeleton

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The word an outer trip `k` reads at its own place of a table of bounds (`arg6` the first chunks, `arg7` the ends). -/
abbrev word (i : grid0.Coords) (M : Memref sig .tc .smem S24x8 .i32) (X : BufTy.Contents (Elt F) M.view.ty)
    (k : Fin k0_t1_loop.trips) : BitVec 32 :=
  View.readAt (Elt F) M.view (Rect.unit (s := S24x8) (k0_off7 i k) S1x1.size (k0_off7_inb i k)).toLoadRect X
    (Shape.Idx.first (numel1_S1x1.symm ▸ Nat.one_pos))

/-- One outer trip's resources: what the region reads at its contents, what it writes at any. -/
abbrev OTrip (c : Dev nD) (arg6 : Memref sig .tc .smem S24x8 .i32) (arg7 : Memref sig .tc .smem S24x8 .i32) (arg8 : Memref sig .tc .vmem S1x1x8x256x256 .fp8e4m3) (arg9 : Memref sig .tc .vmem S1x1x1024x256 .fp8e4m3) (arg10 : Memref sig .tc .vmem S1x1x8x256x128 .fp8e4m3) (arg11 : Memref sig .tc .vmem S1x1x1024x256 .fp8e4m3) (arg12 : Memref sig .tc .vmem S1x1x8x256x256 .fp8e5m2) (arg13 : Memref sig .tc .vmem S1x1x8x256x256 .bf16) (arg14 : Memref sig .tc .vmem S1x1x8x1x256 .f32) (arg15 : Memref sig .tc .vmem S1x8x1x256 .i32) (arg16 : Memref sig .tc .vmem S1x8x1x256 .i32) (arg17 : Memref sig .tc .vmem S1x1x8x256x256 .bf16) (arg20 : Memref sig .tc .vmem S1024x256 .f32) (arg21 : Memref sig .tc .vmem S1024x256 .f32) (arg22 : Memref sig .tc .vmem S256x256 .f32) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (f17 : BufTy.Contents (Elt F) arg17.view.ty) (f20 : BufTy.Contents (Elt F) arg20.view.ty) (f21 : BufTy.Contents (Elt F) arg21.view.ty) : sProp 𝕄G :=
  iprop((arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} f17) ∗ (arg20.view.loc (c : Thread nD τ) ↦[arg20.view.set]{fullShare} f20) ∗ (arg21.view.loc (c : Thread nD τ) ↦[arg21.view.set]{fullShare} f21) ∗ (∃ f22, arg22.view.loc (c : Thread nD τ) ↦[arg22.view.set]{fullShare} f22))

/-- One outer trip at a symbolic trip number, under the side condition the body assumes of the two words it reads: the
    pieces it writes into the result window and the three scratch buffers, as functions of what it finds there. -/
@[irreducible] def otrip (c : Dev nD) (i : grid0.Coords)
  (arg2 : Memref sig .tc .smem S8 .f32) (harg2 : arg2.IsWhole) (arg3 : Memref sig .tc .smem S4 .f32) (harg3 : arg3.IsWhole)
  (arg4 : Memref sig .tc .smem S4 .f32) (harg4 : arg4.IsWhole) (arg5 : Memref sig .tc .smem S8 .f32) (harg5 : arg5.IsWhole)
  (arg6 : Memref sig .tc .smem S24x8 .i32) (harg6 : arg6.IsWhole) (arg7 : Memref sig .tc .smem S24x8 .i32) (harg7 : arg7.IsWhole)
  (arg8 : Memref sig .tc .vmem S1x1x8x256x256 .fp8e4m3) (harg8 : arg8.IsWhole) (arg9 : Memref sig .tc .vmem S1x1x1024x256 .fp8e4m3) (harg9 : arg9.IsWhole)
  (arg10 : Memref sig .tc .vmem S1x1x8x256x128 .fp8e4m3) (harg10 : arg10.IsWhole) (arg11 : Memref sig .tc .vmem S1x1x1024x256 .fp8e4m3) (harg11 : arg11.IsWhole)
  (arg12 : Memref sig .tc .vmem S1x1x8x256x256 .fp8e5m2) (harg12 : arg12.IsWhole) (arg13 : Memref sig .tc .vmem S1x1x8x256x256 .bf16) (harg13 : arg13.IsWhole)
  (arg14 : Memref sig .tc .vmem S1x1x8x1x256 .f32) (harg14 : arg14.IsWhole) (arg15 : Memref sig .tc .vmem S1x8x1x256 .i32) (harg15 : arg15.IsWhole)
  (arg16 : Memref sig .tc .vmem S1x8x1x256 .i32) (harg16 : arg16.IsWhole) (arg17 : Memref sig .tc .vmem S1x1x8x256x256 .bf16) (harg17 : arg17.IsWhole)
  (arg18 : Memref sig .tc .vmem S1x1x1024x256 .bf16) (harg18 : arg18.IsWhole) (arg19 : Memref sig .tc .vmem S1x1x1024x256 .bf16) (harg19 : arg19.IsWhole)
  (arg20 : Memref sig .tc .vmem S1024x256 .f32) (harg20 : arg20.IsWhole) (arg21 : Memref sig .tc .vmem S1024x256 .f32) (harg21 : arg21.IsWhole)
  (arg22 : Memref sig .tc .vmem S256x256 .f32) (harg22 : arg22.IsWhole)
  (v9 : Elt F .f32) (v11 : Elt F .f32) (v24 : FVec F S1x256 .f32) (v36 : FVec F S1x256 .f32) (v40 : FVec F S1x256 .f32)
  (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (k : Fin k0_t1_loop.trips) (hk : k0_chk1 (word i arg6 X6 k) (word i arg7 X7 k)) :
    Σ' (L17 : (BufTy.Contents (Elt F) arg17.view.ty → BufTy.Contents (Elt F) arg20.view.ty → BufTy.Contents (Elt F) arg21.view.ty → List (View.Piece (Elt F) S1x1x8x256x256 .bf16))) (L20 : (BufTy.Contents (Elt F) arg17.view.ty → BufTy.Contents (Elt F) arg20.view.ty → BufTy.Contents (Elt F) arg21.view.ty → List (View.Piece (Elt F) S1024x256 .f32))), { L21 : (BufTy.Contents (Elt F) arg17.view.ty → BufTy.Contents (Elt F) arg20.view.ty → BufTy.Contents (Elt F) arg21.view.ty → List (View.Piece (Elt F) S1024x256 .f32)) // ∀ (E : Set ℕ) (f17 : BufTy.Contents (Elt F) arg17.view.ty) (f20 : BufTy.Contents (Elt F) arg20.view.ty) (f21 : BufTy.Contents (Elt F) arg21.view.ty),
      OTrip (F := F) c arg6 arg7 arg8 arg9 arg10 arg11 arg12 arg13 arg14 arg15 arg16 arg17 arg20 arg21 arg22 X6 X7 X8 X9 X10 X11 X12 X13 X14 X15 X16 f17 f20 f21
      ⊢ wp frame (wpE (defs₀ (F := F)) Variants.none (c : Thread nD τ) none) E
          (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 k PUnit.unit)
          (fun _ => OTrip (F := F) c arg6 arg7 arg8 arg9 arg10 arg11 arg12 arg13 arg14 arg15 arg16 arg17 arg20 arg21 arg22 X6 X7 X8 X9 X10 X11 X12 X13 X14 X15 X16 (arg17.view.writes (Elt F) f17 (L17 f17 f20 f21)) (arg20.view.writes (Elt F) f20 (L20 f17 f20 f21)) (arg21.view.writes (Elt F) f21 (L21 f17 f20 f21))) } := by
  refine ⟨?_, ?_, ?_, fun E f17 f20 f21 => ?run⟩
  case run =>
    unfold k0_t1_body
    iintro ⟨HR6, HR7, HR8, HR9, HR10, HR11, HR12, HR13, HR14, HR15, HR16, HW17, HW20, HW21, ⟨%f22, HW22⟩⟩
    sl_exec
    sl_step
    sl_close

/-- The piece lists an outer trip writes, at the contents it finds. -/
abbrev otripL (c : Dev nD) (i : grid0.Coords)
  (arg2 : Memref sig .tc .smem S8 .f32) (harg2 : arg2.IsWhole) (arg3 : Memref sig .tc .smem S4 .f32) (harg3 : arg3.IsWhole)
  (arg4 : Memref sig .tc .smem S4 .f32) (harg4 : arg4.IsWhole) (arg5 : Memref sig .tc .smem S8 .f32) (harg5 : arg5.IsWhole)
  (arg6 : Memref sig .tc .smem S24x8 .i32) (harg6 : arg6.IsWhole) (arg7 : Memref sig .tc .smem S24x8 .i32) (harg7 : arg7.IsWhole)
  (arg8 : Memref sig .tc .vmem S1x1x8x256x256 .fp8e4m3) (harg8 : arg8.IsWhole) (arg9 : Memref sig .tc .vmem S1x1x1024x256 .fp8e4m3) (harg9 : arg9.IsWhole)
  (arg10 : Memref sig .tc .vmem S1x1x8x256x128 .fp8e4m3) (harg10 : arg10.IsWhole) (arg11 : Memref sig .tc .vmem S1x1x1024x256 .fp8e4m3) (harg11 : arg11.IsWhole)
  (arg12 : Memref sig .tc .vmem S1x1x8x256x256 .fp8e5m2) (harg12 : arg12.IsWhole) (arg13 : Memref sig .tc .vmem S1x1x8x256x256 .bf16) (harg13 : arg13.IsWhole)
  (arg14 : Memref sig .tc .vmem S1x1x8x1x256 .f32) (harg14 : arg14.IsWhole) (arg15 : Memref sig .tc .vmem S1x8x1x256 .i32) (harg15 : arg15.IsWhole)
  (arg16 : Memref sig .tc .vmem S1x8x1x256 .i32) (harg16 : arg16.IsWhole) (arg17 : Memref sig .tc .vmem S1x1x8x256x256 .bf16) (harg17 : arg17.IsWhole)
  (arg18 : Memref sig .tc .vmem S1x1x1024x256 .bf16) (harg18 : arg18.IsWhole) (arg19 : Memref sig .tc .vmem S1x1x1024x256 .bf16) (harg19 : arg19.IsWhole)
  (arg20 : Memref sig .tc .vmem S1024x256 .f32) (harg20 : arg20.IsWhole) (arg21 : Memref sig .tc .vmem S1024x256 .f32) (harg21 : arg21.IsWhole)
  (arg22 : Memref sig .tc .vmem S256x256 .f32) (harg22 : arg22.IsWhole)
  (v9 : Elt F .f32) (v11 : Elt F .f32) (v24 : FVec F S1x256 .f32) (v36 : FVec F S1x256 .f32) (v40 : FVec F S1x256 .f32)
  (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (hw : ∀ k, k0_chk1 (word i arg6 X6 k) (word i arg7 X7 k)) (k : Fin k0_t1_loop.trips) (f17 : BufTy.Contents (Elt F) arg17.view.ty) (f20 : BufTy.Contents (Elt F) arg20.view.ty) (f21 : BufTy.Contents (Elt F) arg21.view.ty) :
    List (View.Piece (Elt F) S1x1x8x256x256 .bf16) × List (View.Piece (Elt F) S1024x256 .f32) × List (View.Piece (Elt F) S1024x256 .f32) :=
  ((otrip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 k (hw k)).1 f17 f20 f21, (otrip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 k (hw k)).2.1 f17 f20 f21, (otrip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 k (hw k)).2.2.1 f17 f20 f21)

/-- Trip `k`'s contribution to the pieces written before it. -/
@[irreducible] def opbStep (c : Dev nD) (i : grid0.Coords)
  (arg2 : Memref sig .tc .smem S8 .f32) (harg2 : arg2.IsWhole) (arg3 : Memref sig .tc .smem S4 .f32) (harg3 : arg3.IsWhole)
  (arg4 : Memref sig .tc .smem S4 .f32) (harg4 : arg4.IsWhole) (arg5 : Memref sig .tc .smem S8 .f32) (harg5 : arg5.IsWhole)
  (arg6 : Memref sig .tc .smem S24x8 .i32) (harg6 : arg6.IsWhole) (arg7 : Memref sig .tc .smem S24x8 .i32) (harg7 : arg7.IsWhole)
  (arg8 : Memref sig .tc .vmem S1x1x8x256x256 .fp8e4m3) (harg8 : arg8.IsWhole) (arg9 : Memref sig .tc .vmem S1x1x1024x256 .fp8e4m3) (harg9 : arg9.IsWhole)
  (arg10 : Memref sig .tc .vmem S1x1x8x256x128 .fp8e4m3) (harg10 : arg10.IsWhole) (arg11 : Memref sig .tc .vmem S1x1x1024x256 .fp8e4m3) (harg11 : arg11.IsWhole)
  (arg12 : Memref sig .tc .vmem S1x1x8x256x256 .fp8e5m2) (harg12 : arg12.IsWhole) (arg13 : Memref sig .tc .vmem S1x1x8x256x256 .bf16) (harg13 : arg13.IsWhole)
  (arg14 : Memref sig .tc .vmem S1x1x8x1x256 .f32) (harg14 : arg14.IsWhole) (arg15 : Memref sig .tc .vmem S1x8x1x256 .i32) (harg15 : arg15.IsWhole)
  (arg16 : Memref sig .tc .vmem S1x8x1x256 .i32) (harg16 : arg16.IsWhole) (arg17 : Memref sig .tc .vmem S1x1x8x256x256 .bf16) (harg17 : arg17.IsWhole)
  (arg18 : Memref sig .tc .vmem S1x1x1024x256 .bf16) (harg18 : arg18.IsWhole) (arg19 : Memref sig .tc .vmem S1x1x1024x256 .bf16) (harg19 : arg19.IsWhole)
  (arg20 : Memref sig .tc .vmem S1024x256 .f32) (harg20 : arg20.IsWhole) (arg21 : Memref sig .tc .vmem S1024x256 .f32) (harg21 : arg21.IsWhole)
  (arg22 : Memref sig .tc .vmem S256x256 .f32) (harg22 : arg22.IsWhole)
  (v9 : Elt F .f32) (v11 : Elt F .f32) (v24 : FVec F S1x256 .f32) (v36 : FVec F S1x256 .f32) (v40 : FVec F S1x256 .f32)
  (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (hw : ∀ k, k0_chk1 (word i arg6 X6 k) (word i arg7 X7 k)) (G17 : BufTy.Contents (Elt F) arg17.view.ty) (G20 : BufTy.Contents (Elt F) arg20.view.ty) (G21 : BufTy.Contents (Elt F) arg21.view.ty) (k : ℕ)
    (prev : List (View.Piece (Elt F) S1x1x8x256x256 .bf16) × List (View.Piece (Elt F) S1024x256 .f32) × List (View.Piece (Elt F) S1024x256 .f32)) : List (View.Piece (Elt F) S1x1x8x256x256 .bf16) × List (View.Piece (Elt F) S1024x256 .f32) × List (View.Piece (Elt F) S1024x256 .f32) :=
  if h : k < k0_t1_loop.trips then
    ((otripL (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw ⟨k, h⟩ (arg17.view.writes (Elt F) G17 prev.1) (arg20.view.writes (Elt F) G20 prev.2.1) (arg21.view.writes (Elt F) G21 prev.2.2)).1 ++ prev.1, (otripL (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw ⟨k, h⟩ (arg17.view.writes (Elt F) G17 prev.1) (arg20.view.writes (Elt F) G20 prev.2.1) (arg21.view.writes (Elt F) G21 prev.2.2)).2.1 ++ prev.2.1, (otripL (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw ⟨k, h⟩ (arg17.view.writes (Elt F) G17 prev.1) (arg20.view.writes (Elt F) G20 prev.2.1) (arg21.view.writes (Elt F) G21 prev.2.2)).2.2 ++ prev.2.2)
  else prev

/-- The pieces of the outer trips before `k` (last first), over the contents at loop entry. -/
def opb (c : Dev nD) (i : grid0.Coords)
  (arg2 : Memref sig .tc .smem S8 .f32) (harg2 : arg2.IsWhole) (arg3 : Memref sig .tc .smem S4 .f32) (harg3 : arg3.IsWhole)
  (arg4 : Memref sig .tc .smem S4 .f32) (harg4 : arg4.IsWhole) (arg5 : Memref sig .tc .smem S8 .f32) (harg5 : arg5.IsWhole)
  (arg6 : Memref sig .tc .smem S24x8 .i32) (harg6 : arg6.IsWhole) (arg7 : Memref sig .tc .smem S24x8 .i32) (harg7 : arg7.IsWhole)
  (arg8 : Memref sig .tc .vmem S1x1x8x256x256 .fp8e4m3) (harg8 : arg8.IsWhole) (arg9 : Memref sig .tc .vmem S1x1x1024x256 .fp8e4m3) (harg9 : arg9.IsWhole)
  (arg10 : Memref sig .tc .vmem S1x1x8x256x128 .fp8e4m3) (harg10 : arg10.IsWhole) (arg11 : Memref sig .tc .vmem S1x1x1024x256 .fp8e4m3) (harg11 : arg11.IsWhole)
  (arg12 : Memref sig .tc .vmem S1x1x8x256x256 .fp8e5m2) (harg12 : arg12.IsWhole) (arg13 : Memref sig .tc .vmem S1x1x8x256x256 .bf16) (harg13 : arg13.IsWhole)
  (arg14 : Memref sig .tc .vmem S1x1x8x1x256 .f32) (harg14 : arg14.IsWhole) (arg15 : Memref sig .tc .vmem S1x8x1x256 .i32) (harg15 : arg15.IsWhole)
  (arg16 : Memref sig .tc .vmem S1x8x1x256 .i32) (harg16 : arg16.IsWhole) (arg17 : Memref sig .tc .vmem S1x1x8x256x256 .bf16) (harg17 : arg17.IsWhole)
  (arg18 : Memref sig .tc .vmem S1x1x1024x256 .bf16) (harg18 : arg18.IsWhole) (arg19 : Memref sig .tc .vmem S1x1x1024x256 .bf16) (harg19 : arg19.IsWhole)
  (arg20 : Memref sig .tc .vmem S1024x256 .f32) (harg20 : arg20.IsWhole) (arg21 : Memref sig .tc .vmem S1024x256 .f32) (harg21 : arg21.IsWhole)
  (arg22 : Memref sig .tc .vmem S256x256 .f32) (harg22 : arg22.IsWhole)
  (v9 : Elt F .f32) (v11 : Elt F .f32) (v24 : FVec F S1x256 .f32) (v36 : FVec F S1x256 .f32) (v40 : FVec F S1x256 .f32)
  (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (hw : ∀ k, k0_chk1 (word i arg6 X6 k) (word i arg7 X7 k)) (G17 : BufTy.Contents (Elt F) arg17.view.ty) (G20 : BufTy.Contents (Elt F) arg20.view.ty) (G21 : BufTy.Contents (Elt F) arg21.view.ty) : ℕ → List (View.Piece (Elt F) S1x1x8x256x256 .bf16) × List (View.Piece (Elt F) S1024x256 .f32) × List (View.Piece (Elt F) S1024x256 .f32)
  | 0 => ([], [], [])
  | k + 1 => opbStep c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k (opb c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k)

/-- One more trip puts its own pieces in front. -/
theorem opb_succ (c : Dev nD) (i : grid0.Coords)
  (arg2 : Memref sig .tc .smem S8 .f32) (harg2 : arg2.IsWhole) (arg3 : Memref sig .tc .smem S4 .f32) (harg3 : arg3.IsWhole)
  (arg4 : Memref sig .tc .smem S4 .f32) (harg4 : arg4.IsWhole) (arg5 : Memref sig .tc .smem S8 .f32) (harg5 : arg5.IsWhole)
  (arg6 : Memref sig .tc .smem S24x8 .i32) (harg6 : arg6.IsWhole) (arg7 : Memref sig .tc .smem S24x8 .i32) (harg7 : arg7.IsWhole)
  (arg8 : Memref sig .tc .vmem S1x1x8x256x256 .fp8e4m3) (harg8 : arg8.IsWhole) (arg9 : Memref sig .tc .vmem S1x1x1024x256 .fp8e4m3) (harg9 : arg9.IsWhole)
  (arg10 : Memref sig .tc .vmem S1x1x8x256x128 .fp8e4m3) (harg10 : arg10.IsWhole) (arg11 : Memref sig .tc .vmem S1x1x1024x256 .fp8e4m3) (harg11 : arg11.IsWhole)
  (arg12 : Memref sig .tc .vmem S1x1x8x256x256 .fp8e5m2) (harg12 : arg12.IsWhole) (arg13 : Memref sig .tc .vmem S1x1x8x256x256 .bf16) (harg13 : arg13.IsWhole)
  (arg14 : Memref sig .tc .vmem S1x1x8x1x256 .f32) (harg14 : arg14.IsWhole) (arg15 : Memref sig .tc .vmem S1x8x1x256 .i32) (harg15 : arg15.IsWhole)
  (arg16 : Memref sig .tc .vmem S1x8x1x256 .i32) (harg16 : arg16.IsWhole) (arg17 : Memref sig .tc .vmem S1x1x8x256x256 .bf16) (harg17 : arg17.IsWhole)
  (arg18 : Memref sig .tc .vmem S1x1x1024x256 .bf16) (harg18 : arg18.IsWhole) (arg19 : Memref sig .tc .vmem S1x1x1024x256 .bf16) (harg19 : arg19.IsWhole)
  (arg20 : Memref sig .tc .vmem S1024x256 .f32) (harg20 : arg20.IsWhole) (arg21 : Memref sig .tc .vmem S1024x256 .f32) (harg21 : arg21.IsWhole)
  (arg22 : Memref sig .tc .vmem S256x256 .f32) (harg22 : arg22.IsWhole)
  (v9 : Elt F .f32) (v11 : Elt F .f32) (v24 : FVec F S1x256 .f32) (v36 : FVec F S1x256 .f32) (v40 : FVec F S1x256 .f32)
  (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (hw : ∀ k, k0_chk1 (word i arg6 X6 k) (word i arg7 X7 k)) (G17 : BufTy.Contents (Elt F) arg17.view.ty) (G20 : BufTy.Contents (Elt F) arg20.view.ty) (G21 : BufTy.Contents (Elt F) arg21.view.ty) (k : Fin k0_t1_loop.trips) :
    opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 (k.val + 1) =
      ((otripL (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw k (arg17.view.writes (Elt F) G17 (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).1) (arg20.view.writes (Elt F) G20 (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).2.1) (arg21.view.writes (Elt F) G21 (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).2.2)).1 ++ (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).1, (otripL (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw k (arg17.view.writes (Elt F) G17 (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).1) (arg20.view.writes (Elt F) G20 (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).2.1) (arg21.view.writes (Elt F) G21 (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).2.2)).2.1 ++ (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).2.1, (otripL (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw k (arg17.view.writes (Elt F) G17 (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).1) (arg20.view.writes (Elt F) G20 (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).2.1) (arg21.view.writes (Elt F) G21 (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).2.2)).2.2 ++ (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).2.2) := by
  rw [opb.eq_2]; unfold opbStep; exact dif_pos k.isLt

/-- The invariant before outer trip `k`: the inputs at their contents, the result window and the two accumulators at the
    pieces written so far, the third scratch buffer at anything. -/
abbrev oinv (c : Dev nD) (i : grid0.Coords)
  (arg2 : Memref sig .tc .smem S8 .f32) (harg2 : arg2.IsWhole) (arg3 : Memref sig .tc .smem S4 .f32) (harg3 : arg3.IsWhole)
  (arg4 : Memref sig .tc .smem S4 .f32) (harg4 : arg4.IsWhole) (arg5 : Memref sig .tc .smem S8 .f32) (harg5 : arg5.IsWhole)
  (arg6 : Memref sig .tc .smem S24x8 .i32) (harg6 : arg6.IsWhole) (arg7 : Memref sig .tc .smem S24x8 .i32) (harg7 : arg7.IsWhole)
  (arg8 : Memref sig .tc .vmem S1x1x8x256x256 .fp8e4m3) (harg8 : arg8.IsWhole) (arg9 : Memref sig .tc .vmem S1x1x1024x256 .fp8e4m3) (harg9 : arg9.IsWhole)
  (arg10 : Memref sig .tc .vmem S1x1x8x256x128 .fp8e4m3) (harg10 : arg10.IsWhole) (arg11 : Memref sig .tc .vmem S1x1x1024x256 .fp8e4m3) (harg11 : arg11.IsWhole)
  (arg12 : Memref sig .tc .vmem S1x1x8x256x256 .fp8e5m2) (harg12 : arg12.IsWhole) (arg13 : Memref sig .tc .vmem S1x1x8x256x256 .bf16) (harg13 : arg13.IsWhole)
  (arg14 : Memref sig .tc .vmem S1x1x8x1x256 .f32) (harg14 : arg14.IsWhole) (arg15 : Memref sig .tc .vmem S1x8x1x256 .i32) (harg15 : arg15.IsWhole)
  (arg16 : Memref sig .tc .vmem S1x8x1x256 .i32) (harg16 : arg16.IsWhole) (arg17 : Memref sig .tc .vmem S1x1x8x256x256 .bf16) (harg17 : arg17.IsWhole)
  (arg18 : Memref sig .tc .vmem S1x1x1024x256 .bf16) (harg18 : arg18.IsWhole) (arg19 : Memref sig .tc .vmem S1x1x1024x256 .bf16) (harg19 : arg19.IsWhole)
  (arg20 : Memref sig .tc .vmem S1024x256 .f32) (harg20 : arg20.IsWhole) (arg21 : Memref sig .tc .vmem S1024x256 .f32) (harg21 : arg21.IsWhole)
  (arg22 : Memref sig .tc .vmem S256x256 .f32) (harg22 : arg22.IsWhole)
  (v9 : Elt F .f32) (v11 : Elt F .f32) (v24 : FVec F S1x256 .f32) (v36 : FVec F S1x256 .f32) (v40 : FVec F S1x256 .f32)
  (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (hw : ∀ k, k0_chk1 (word i arg6 X6 k) (word i arg7 X7 k)) (G17 : BufTy.Contents (Elt F) arg17.view.ty) (G20 : BufTy.Contents (Elt F) arg20.view.ty) (G21 : BufTy.Contents (Elt F) arg21.view.ty) (k : ℕ) (_u : PUnit) : sProp 𝕄G :=
  iprop((arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (∃ f, (arg17.view.loc (c : Thread nD τ) ↦[arg17.view.set]{fullShare} f) ∗ ⌜f = arg17.view.writes (Elt F) G17 (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k).1⌝) ∗ (∃ f, (arg20.view.loc (c : Thread nD τ) ↦[arg20.view.set]{fullShare} f) ∗ ⌜f = arg20.view.writes (Elt F) G20 (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k).2.1⌝) ∗ (∃ f, (arg21.view.loc (c : Thread nD τ) ↦[arg21.view.set]{fullShare} f) ∗ ⌜f = arg21.view.writes (Elt F) G21 (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k).2.2⌝) ∗ (∃ f22, arg22.view.loc (c : Thread nD τ) ↦[arg22.view.set]{fullShare} f22))

set_option warn.classDefReducibility false in
/-- The outer loop by its invariant. -/
@[sl_loop] def loopInv_k0_t1 (c : Dev nD) (i : grid0.Coords)
  (arg2 : Memref sig .tc .smem S8 .f32) (harg2 : arg2.IsWhole) (arg3 : Memref sig .tc .smem S4 .f32) (harg3 : arg3.IsWhole)
  (arg4 : Memref sig .tc .smem S4 .f32) (harg4 : arg4.IsWhole) (arg5 : Memref sig .tc .smem S8 .f32) (harg5 : arg5.IsWhole)
  (arg6 : Memref sig .tc .smem S24x8 .i32) (harg6 : arg6.IsWhole) (arg7 : Memref sig .tc .smem S24x8 .i32) (harg7 : arg7.IsWhole)
  (arg8 : Memref sig .tc .vmem S1x1x8x256x256 .fp8e4m3) (harg8 : arg8.IsWhole) (arg9 : Memref sig .tc .vmem S1x1x1024x256 .fp8e4m3) (harg9 : arg9.IsWhole)
  (arg10 : Memref sig .tc .vmem S1x1x8x256x128 .fp8e4m3) (harg10 : arg10.IsWhole) (arg11 : Memref sig .tc .vmem S1x1x1024x256 .fp8e4m3) (harg11 : arg11.IsWhole)
  (arg12 : Memref sig .tc .vmem S1x1x8x256x256 .fp8e5m2) (harg12 : arg12.IsWhole) (arg13 : Memref sig .tc .vmem S1x1x8x256x256 .bf16) (harg13 : arg13.IsWhole)
  (arg14 : Memref sig .tc .vmem S1x1x8x1x256 .f32) (harg14 : arg14.IsWhole) (arg15 : Memref sig .tc .vmem S1x8x1x256 .i32) (harg15 : arg15.IsWhole)
  (arg16 : Memref sig .tc .vmem S1x8x1x256 .i32) (harg16 : arg16.IsWhole) (arg17 : Memref sig .tc .vmem S1x1x8x256x256 .bf16) (harg17 : arg17.IsWhole)
  (arg18 : Memref sig .tc .vmem S1x1x1024x256 .bf16) (harg18 : arg18.IsWhole) (arg19 : Memref sig .tc .vmem S1x1x1024x256 .bf16) (harg19 : arg19.IsWhole)
  (arg20 : Memref sig .tc .vmem S1024x256 .f32) (harg20 : arg20.IsWhole) (arg21 : Memref sig .tc .vmem S1024x256 .f32) (harg21 : arg21.IsWhole)
  (arg22 : Memref sig .tc .vmem S256x256 .f32) (harg22 : arg22.IsWhole)
  (v9 : Elt F .f32) (v11 : Elt F .f32) (v24 : FVec F S1x256 .f32) (v36 : FVec F S1x256 .f32) (v40 : FVec F S1x256 .f32)
  (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (hw : ∀ k, k0_chk1 (word i arg6 X6 k) (word i arg7 X7 k)) (G17 : BufTy.Contents (Elt F) arg17.view.ty) (G20 : BufTy.Contents (Elt F) arg20.view.ty) (G21 : BufTy.Contents (Elt F) arg21.view.ty) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 where
  inv := oinv (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21
  step k acc := by
    iintro ⟨HR6, HR7, HR8, HR9, HR10, HR11, HR12, HR13, HR14, HR15, HR16, ⟨%f17, HW17, %h17⟩, ⟨%f20, HW20, %h20⟩, ⟨%f21, HW21, %h21⟩, HW22⟩
    iapply (wp_wand_r Idealize.ShloMosaic.frame (wpE (defs₀ (F := F)) Variants.none (c : Thread nD τ) none) Set.univ)
    isplitl [HR6 HR7 HR8 HR9 HR10 HR11 HR12 HR13 HR14 HR15 HR16 HW17 HW20 HW21 HW22]
    · iapply ((otrip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 k (hw k)).2.2.2 Set.univ f17 f20 f21)
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HW17]; · iexact HW17
      isplitl [HW20]; · iexact HW20
      isplitl [HW21]; · iexact HW21
      iexact HW22
    · iintro %_ ⟨HR6, HR7, HR8, HR9, HR10, HR11, HR12, HR13, HR14, HR15, HR16, HW17, HW20, HW21, HW22⟩
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      rw [opb_succ]
      isplitl [HW17]
      · iexists _; isplitl [HW17]; · iexact HW17
        ipureintro; rw [h17, h20, h21, ← View.writes_append]
      isplitl [HW20]
      · iexists _; isplitl [HW20]; · iexact HW20
        ipureintro; rw [h17, h20, h21, ← View.writes_append]
      isplitl [HW21]
      · iexists _; isplitl [HW21]; · iexact HW21
        ipureintro; rw [h17, h20, h21, ← View.writes_append]
      iexact HW22

end Cert.Proof.KernelIdeal

end
-- ==== Proof.BodyIdeal.lean ====
/-
  The region's body run once: what it writes into its three result windows, as functions of what it reads, under the
  side condition on the words of the two tables of bounds.
-/
module

public import proofs.«01_k».proof.Proof.OuterIdeal

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The body's resources: what it reads at its contents, its three result windows at some, its scratch at any. -/
abbrev BodyRes (c : Dev nD)
  (arg2 : Memref sig .tc .smem S8 .f32) (arg3 : Memref sig .tc .smem S4 .f32) (arg4 : Memref sig .tc .smem S4 .f32) (arg5 : Memref sig .tc .smem S8 .f32) (arg6 : Memref sig .tc .smem S24x8 .i32) (arg7 : Memref sig .tc .smem S24x8 .i32) (arg8 : Memref sig .tc .vmem S1x1x8x256x256 .fp8e4m3) (arg9 : Memref sig .tc .vmem S1x1x1024x256 .fp8e4m3) (arg10 : Memref sig .tc .vmem S1x1x8x256x128 .fp8e4m3) (arg11 : Memref sig .tc .vmem S1x1x1024x256 .fp8e4m3) (arg12 : Memref sig .tc .vmem S1x1x8x256x256 .fp8e5m2) (arg13 : Memref sig .tc .vmem S1x1x8x256x256 .bf16) (arg14 : Memref sig .tc .vmem S1x1x8x1x256 .f32) (arg15 : Memref sig .tc .vmem S1x8x1x256 .i32) (arg16 : Memref sig .tc .vmem S1x8x1x256 .i32) (arg17 : Memref sig .tc .vmem S1x1x8x256x256 .bf16) (arg18 : Memref sig .tc .vmem S1x1x1024x256 .bf16) (arg19 : Memref sig .tc .vmem S1x1x1024x256 .bf16) (arg20 : Memref sig .tc .vmem S1024x256 .f32) (arg21 : Memref sig .tc .vmem S1024x256 .f32) (arg22 : Memref sig .tc .vmem S256x256 .f32)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (f17 : BufTy.Contents (Elt F) arg17.view.ty) (f18 : BufTy.Contents (Elt F) arg18.view.ty) (f19 : BufTy.Contents (Elt F) arg19.view.ty) : sProp 𝕄G :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (∃ f20, (arg20.view.loc (c : Thread nD τ) ↦[arg20.view.set]{fullShare} f20)) ∗ (∃ f21, (arg21.view.loc (c : Thread nD τ) ↦[arg21.view.set]{fullShare} f21)) ∗ (∃ f22, (arg22.view.loc (c : Thread nD τ) ↦[arg22.view.set]{fullShare} f22)))

/-- The body's run: the pieces of the first result window over the contents found there, and those of the other two. -/
@[irreducible] def bodyRun (c : Dev nD) (i : grid0.Coords)
  (arg2 : Memref sig .tc .smem S8 .f32) (harg2 : arg2.IsWhole) (arg3 : Memref sig .tc .smem S4 .f32) (harg3 : arg3.IsWhole)
  (arg4 : Memref sig .tc .smem S4 .f32) (harg4 : arg4.IsWhole) (arg5 : Memref sig .tc .smem S8 .f32) (harg5 : arg5.IsWhole)
  (arg6 : Memref sig .tc .smem S24x8 .i32) (harg6 : arg6.IsWhole) (arg7 : Memref sig .tc .smem S24x8 .i32) (harg7 : arg7.IsWhole)
  (arg8 : Memref sig .tc .vmem S1x1x8x256x256 .fp8e4m3) (harg8 : arg8.IsWhole) (arg9 : Memref sig .tc .vmem S1x1x1024x256 .fp8e4m3) (harg9 : arg9.IsWhole)
  (arg10 : Memref sig .tc .vmem S1x1x8x256x128 .fp8e4m3) (harg10 : arg10.IsWhole) (arg11 : Memref sig .tc .vmem S1x1x1024x256 .fp8e4m3) (harg11 : arg11.IsWhole)
  (arg12 : Memref sig .tc .vmem S1x1x8x256x256 .fp8e5m2) (harg12 : arg12.IsWhole) (arg13 : Memref sig .tc .vmem S1x1x8x256x256 .bf16) (harg13 : arg13.IsWhole)
  (arg14 : Memref sig .tc .vmem S1x1x8x1x256 .f32) (harg14 : arg14.IsWhole) (arg15 : Memref sig .tc .vmem S1x8x1x256 .i32) (harg15 : arg15.IsWhole)
  (arg16 : Memref sig .tc .vmem S1x8x1x256 .i32) (harg16 : arg16.IsWhole) (arg17 : Memref sig .tc .vmem S1x1x8x256x256 .bf16) (harg17 : arg17.IsWhole)
  (arg18 : Memref sig .tc .vmem S1x1x1024x256 .bf16) (harg18 : arg18.IsWhole) (arg19 : Memref sig .tc .vmem S1x1x1024x256 .bf16) (harg19 : arg19.IsWhole)
  (arg20 : Memref sig .tc .vmem S1024x256 .f32) (harg20 : arg20.IsWhole) (arg21 : Memref sig .tc .vmem S1024x256 .f32) (harg21 : arg21.IsWhole)
  (arg22 : Memref sig .tc .vmem S256x256 .f32) (harg22 : arg22.IsWhole)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty)
  (hw : ∀ k, k0_chk1 (word i arg6 X6 k) (word i arg7 X7 k)) :
    Σ' (L17 : BufTy.Contents (Elt F) arg17.view.ty → List (View.Piece (Elt F) S1x1x8x256x256 .bf16))
       (L18 : BufTy.Contents (Elt F) arg17.view.ty → List (View.Piece (Elt F) S1x1x1024x256 .bf16)),
      { L19 : BufTy.Contents (Elt F) arg17.view.ty → List (View.Piece (Elt F) S1x1x1024x256 .bf16) //
      ∀ (f17 : BufTy.Contents (Elt F) arg17.view.ty) (f18 : BufTy.Contents (Elt F) arg18.view.ty) (f19 : BufTy.Contents (Elt F) arg19.view.ty), BodyRes (F := F) c arg2 arg3 arg4 arg5 arg6 arg7 arg8 arg9 arg10 arg11 arg12 arg13 arg14 arg15 arg16 arg17 arg18 arg19 arg20 arg21 arg22 X2 X3 X4 X5 X6 X7 X8 X9 X10 X11 X12 X13 X14 X15 X16 f17 f18 f19
      ⊢ wp frame (wpE (defs₀ (F := F)) Variants.none (c : Thread nD τ) none) Set.univ
          (cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
          (fun _ => BodyRes (F := F) c arg2 arg3 arg4 arg5 arg6 arg7 arg8 arg9 arg10 arg11 arg12 arg13 arg14 arg15 arg16 arg17 arg18 arg19 arg20 arg21 arg22 X2 X3 X4 X5 X6 X7 X8 X9 X10 X11 X12 X13 X14 X15 X16 (arg17.view.writes (Elt F) f17 (L17 f17)) (arg18.view.writes (Elt F) f18 (L18 f17)) (arg19.view.writes (Elt F) f19 (L19 f17))) } := by
  refine ⟨?_, ?_, ?_, fun f17 f18 f19 => ?run⟩
  case run =>
    simp only [cc0_attn_bwd_eq_skeleton]
    unfold cc0_attn_bwd_skel
    iintro ⟨HR2, HR3, HR4, HR5, HR6, HR7, HR8, HR9, HR10, HR11, HR12, HR13, HR14, HR15, HR16, HW17, HW18, HW19, ⟨%f20, HW20⟩, ⟨%f21, HW21⟩, ⟨%f22, HW22⟩⟩
    sl_exec
    sl_step
    sl_close

end Cert.Proof.KernelIdeal

end
-- ==== Proof.SoundIdeal.lean ====
/-
  What the body leaves in its three result windows, as functions of the blocks it reads, and the body's triple.
-/
module

public import proofs.«01_k».proof.Proof.BodyIdeal

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What an outer trip writes does not depend on what the first result window held. -/
theorem otrip_congr (c : Dev nD) (i : grid0.Coords)
  (arg2 : Memref sig .tc .smem S8 .f32) (harg2 : arg2.IsWhole) (arg3 : Memref sig .tc .smem S4 .f32) (harg3 : arg3.IsWhole)
  (arg4 : Memref sig .tc .smem S4 .f32) (harg4 : arg4.IsWhole) (arg5 : Memref sig .tc .smem S8 .f32) (harg5 : arg5.IsWhole)
  (arg6 : Memref sig .tc .smem S24x8 .i32) (harg6 : arg6.IsWhole) (arg7 : Memref sig .tc .smem S24x8 .i32) (harg7 : arg7.IsWhole)
  (arg8 : Memref sig .tc .vmem S1x1x8x256x256 .fp8e4m3) (harg8 : arg8.IsWhole) (arg9 : Memref sig .tc .vmem S1x1x1024x256 .fp8e4m3) (harg9 : arg9.IsWhole)
  (arg10 : Memref sig .tc .vmem S1x1x8x256x128 .fp8e4m3) (harg10 : arg10.IsWhole) (arg11 : Memref sig .tc .vmem S1x1x1024x256 .fp8e4m3) (harg11 : arg11.IsWhole)
  (arg12 : Memref sig .tc .vmem S1x1x8x256x256 .fp8e5m2) (harg12 : arg12.IsWhole) (arg13 : Memref sig .tc .vmem S1x1x8x256x256 .bf16) (harg13 : arg13.IsWhole)
  (arg14 : Memref sig .tc .vmem S1x1x8x1x256 .f32) (harg14 : arg14.IsWhole) (arg15 : Memref sig .tc .vmem S1x8x1x256 .i32) (harg15 : arg15.IsWhole)
  (arg16 : Memref sig .tc .vmem S1x8x1x256 .i32) (harg16 : arg16.IsWhole) (arg17 : Memref sig .tc .vmem S1x1x8x256x256 .bf16) (harg17 : arg17.IsWhole)
  (arg18 : Memref sig .tc .vmem S1x1x1024x256 .bf16) (harg18 : arg18.IsWhole) (arg19 : Memref sig .tc .vmem S1x1x1024x256 .bf16) (harg19 : arg19.IsWhole)
  (arg20 : Memref sig .tc .vmem S1024x256 .f32) (harg20 : arg20.IsWhole) (arg21 : Memref sig .tc .vmem S1024x256 .f32) (harg21 : arg21.IsWhole)
  (arg22 : Memref sig .tc .vmem S256x256 .f32) (harg22 : arg22.IsWhole)
  (v9 : Elt F .f32) (v11 : Elt F .f32) (v24 : FVec F S1x256 .f32) (v36 : FVec F S1x256 .f32) (v40 : FVec F S1x256 .f32)
  (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (k : Fin k0_t1_loop.trips) (hk : k0_chk1 (word i arg6 X6 k) (word i arg7 X7 k)) (f17 : BufTy.Contents (Elt F) arg17.view.ty) (f20 : BufTy.Contents (Elt F) arg20.view.ty) (f21 : BufTy.Contents (Elt F) arg21.view.ty) (f17' : BufTy.Contents (Elt F) arg17.view.ty) :
    (otrip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 k hk).1 f17 f20 f21 = (otrip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 k hk).1 f17' f20 f21
    ∧ (otrip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 k hk).2.1 f17 f20 f21 = (otrip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 k hk).2.1 f17' f20 f21
    ∧ (otrip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 k hk).2.2.1 f17 f20 f21 = (otrip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 k hk).2.2.1 f17' f20 f21 := by
  unfold otrip; exact ⟨rfl, rfl, rfl⟩

/-- Nor do the pieces of all the trips before `n`. -/
theorem opb_congr (c : Dev nD) (i : grid0.Coords)
  (arg2 : Memref sig .tc .smem S8 .f32) (harg2 : arg2.IsWhole) (arg3 : Memref sig .tc .smem S4 .f32) (harg3 : arg3.IsWhole)
  (arg4 : Memref sig .tc .smem S4 .f32) (harg4 : arg4.IsWhole) (arg5 : Memref sig .tc .smem S8 .f32) (harg5 : arg5.IsWhole)
  (arg6 : Memref sig .tc .smem S24x8 .i32) (harg6 : arg6.IsWhole) (arg7 : Memref sig .tc .smem S24x8 .i32) (harg7 : arg7.IsWhole)
  (arg8 : Memref sig .tc .vmem S1x1x8x256x256 .fp8e4m3) (harg8 : arg8.IsWhole) (arg9 : Memref sig .tc .vmem S1x1x1024x256 .fp8e4m3) (harg9 : arg9.IsWhole)
  (arg10 : Memref sig .tc .vmem S1x1x8x256x128 .fp8e4m3) (harg10 : arg10.IsWhole) (arg11 : Memref sig .tc .vmem S1x1x1024x256 .fp8e4m3) (harg11 : arg11.IsWhole)
  (arg12 : Memref sig .tc .vmem S1x1x8x256x256 .fp8e5m2) (harg12 : arg12.IsWhole) (arg13 : Memref sig .tc .vmem S1x1x8x256x256 .bf16) (harg13 : arg13.IsWhole)
  (arg14 : Memref sig .tc .vmem S1x1x8x1x256 .f32) (harg14 : arg14.IsWhole) (arg15 : Memref sig .tc .vmem S1x8x1x256 .i32) (harg15 : arg15.IsWhole)
  (arg16 : Memref sig .tc .vmem S1x8x1x256 .i32) (harg16 : arg16.IsWhole) (arg17 : Memref sig .tc .vmem S1x1x8x256x256 .bf16) (harg17 : arg17.IsWhole)
  (arg18 : Memref sig .tc .vmem S1x1x1024x256 .bf16) (harg18 : arg18.IsWhole) (arg19 : Memref sig .tc .vmem S1x1x1024x256 .bf16) (harg19 : arg19.IsWhole)
  (arg20 : Memref sig .tc .vmem S1024x256 .f32) (harg20 : arg20.IsWhole) (arg21 : Memref sig .tc .vmem S1024x256 .f32) (harg21 : arg21.IsWhole)
  (arg22 : Memref sig .tc .vmem S256x256 .f32) (harg22 : arg22.IsWhole)
  (v9 : Elt F .f32) (v11 : Elt F .f32) (v24 : FVec F S1x256 .f32) (v36 : FVec F S1x256 .f32) (v40 : FVec F S1x256 .f32)
  (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (hw : ∀ k, k0_chk1 (word i arg6 X6 k) (word i arg7 X7 k)) (G17 : BufTy.Contents (Elt F) arg17.view.ty) (G20 : BufTy.Contents (Elt F) arg20.view.ty) (G21 : BufTy.Contents (Elt F) arg21.view.ty) (G17' : BufTy.Contents (Elt F) arg17.view.ty) (n : ℕ) :
    opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 n = opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17' G20 G21 n := by
  induction n with
  | zero => rfl
  | succ n ih =>
    rw [opb.eq_2, opb.eq_2, ih]
    unfold opbStep
    split
    · rename_i h
      obtain ⟨h1, h2, h3⟩ := otrip_congr c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 ⟨n, h⟩ (hw _)
        (arg17.view.writes (Elt F) G17 (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17' G20 G21 n).1)
        (arg20.view.writes (Elt F) G20 (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17' G20 G21 n).2.1)
        (arg21.view.writes (Elt F) G21 (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17' G20 G21 n).2.2)
        (arg17.view.writes (Elt F) G17' (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17' G20 G21 n).1)
      dsimp only
      rw [h1, h2, h3]
    · rfl

/-- The piece an outer trip writes into the first result window covers the trip's block. -/
theorem otrip_rect (c : Dev nD) (i : grid0.Coords)
  (arg2 : Memref sig .tc .smem S8 .f32) (harg2 : arg2.IsWhole) (arg3 : Memref sig .tc .smem S4 .f32) (harg3 : arg3.IsWhole)
  (arg4 : Memref sig .tc .smem S4 .f32) (harg4 : arg4.IsWhole) (arg5 : Memref sig .tc .smem S8 .f32) (harg5 : arg5.IsWhole)
  (arg6 : Memref sig .tc .smem S24x8 .i32) (harg6 : arg6.IsWhole) (arg7 : Memref sig .tc .smem S24x8 .i32) (harg7 : arg7.IsWhole)
  (arg8 : Memref sig .tc .vmem S1x1x8x256x256 .fp8e4m3) (harg8 : arg8.IsWhole) (arg9 : Memref sig .tc .vmem S1x1x1024x256 .fp8e4m3) (harg9 : arg9.IsWhole)
  (arg10 : Memref sig .tc .vmem S1x1x8x256x128 .fp8e4m3) (harg10 : arg10.IsWhole) (arg11 : Memref sig .tc .vmem S1x1x1024x256 .fp8e4m3) (harg11 : arg11.IsWhole)
  (arg12 : Memref sig .tc .vmem S1x1x8x256x256 .fp8e5m2) (harg12 : arg12.IsWhole) (arg13 : Memref sig .tc .vmem S1x1x8x256x256 .bf16) (harg13 : arg13.IsWhole)
  (arg14 : Memref sig .tc .vmem S1x1x8x1x256 .f32) (harg14 : arg14.IsWhole) (arg15 : Memref sig .tc .vmem S1x8x1x256 .i32) (harg15 : arg15.IsWhole)
  (arg16 : Memref sig .tc .vmem S1x8x1x256 .i32) (harg16 : arg16.IsWhole) (arg17 : Memref sig .tc .vmem S1x1x8x256x256 .bf16) (harg17 : arg17.IsWhole)
  (arg18 : Memref sig .tc .vmem S1x1x1024x256 .bf16) (harg18 : arg18.IsWhole) (arg19 : Memref sig .tc .vmem S1x1x1024x256 .bf16) (harg19 : arg19.IsWhole)
  (arg20 : Memref sig .tc .vmem S1024x256 .f32) (harg20 : arg20.IsWhole) (arg21 : Memref sig .tc .vmem S1024x256 .f32) (harg21 : arg21.IsWhole)
  (arg22 : Memref sig .tc .vmem S256x256 .f32) (harg22 : arg22.IsWhole)
  (v9 : Elt F .f32) (v11 : Elt F .f32) (v24 : FVec F S1x256 .f32) (v36 : FVec F S1x256 .f32) (v40 : FVec F S1x256 .f32)
  (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (k : Fin k0_t1_loop.trips) (hk : k0_chk1 (word i arg6 X6 k) (word i arg7 X7 k)) (f17 : BufTy.Contents (Elt F) arg17.view.ty) (f20 : BufTy.Contents (Elt F) arg20.view.ty) (f21 : BufTy.Contents (Elt F) arg21.view.ty) :
    ∃ w, (otrip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 k hk).1 f17 f20 f21
      = [⟨Rect.unit (s := S1x1x8x256x256) (k0_off14 k) S1x1x1x256x256.size (k0_off14_inb k), w⟩] := by
  unfold otrip; exact ⟨_, rfl⟩

/-- Each trip's piece is among the pieces. -/
theorem opb_mem (c : Dev nD) (i : grid0.Coords)
  (arg2 : Memref sig .tc .smem S8 .f32) (harg2 : arg2.IsWhole) (arg3 : Memref sig .tc .smem S4 .f32) (harg3 : arg3.IsWhole)
  (arg4 : Memref sig .tc .smem S4 .f32) (harg4 : arg4.IsWhole) (arg5 : Memref sig .tc .smem S8 .f32) (harg5 : arg5.IsWhole)
  (arg6 : Memref sig .tc .smem S24x8 .i32) (harg6 : arg6.IsWhole) (arg7 : Memref sig .tc .smem S24x8 .i32) (harg7 : arg7.IsWhole)
  (arg8 : Memref sig .tc .vmem S1x1x8x256x256 .fp8e4m3) (harg8 : arg8.IsWhole) (arg9 : Memref sig .tc .vmem S1x1x1024x256 .fp8e4m3) (harg9 : arg9.IsWhole)
  (arg10 : Memref sig .tc .vmem S1x1x8x256x128 .fp8e4m3) (harg10 : arg10.IsWhole) (arg11 : Memref sig .tc .vmem S1x1x1024x256 .fp8e4m3) (harg11 : arg11.IsWhole)
  (arg12 : Memref sig .tc .vmem S1x1x8x256x256 .fp8e5m2) (harg12 : arg12.IsWhole) (arg13 : Memref sig .tc .vmem S1x1x8x256x256 .bf16) (harg13 : arg13.IsWhole)
  (arg14 : Memref sig .tc .vmem S1x1x8x1x256 .f32) (harg14 : arg14.IsWhole) (arg15 : Memref sig .tc .vmem S1x8x1x256 .i32) (harg15 : arg15.IsWhole)
  (arg16 : Memref sig .tc .vmem S1x8x1x256 .i32) (harg16 : arg16.IsWhole) (arg17 : Memref sig .tc .vmem S1x1x8x256x256 .bf16) (harg17 : arg17.IsWhole)
  (arg18 : Memref sig .tc .vmem S1x1x1024x256 .bf16) (harg18 : arg18.IsWhole) (arg19 : Memref sig .tc .vmem S1x1x1024x256 .bf16) (harg19 : arg19.IsWhole)
  (arg20 : Memref sig .tc .vmem S1024x256 .f32) (harg20 : arg20.IsWhole) (arg21 : Memref sig .tc .vmem S1024x256 .f32) (harg21 : arg21.IsWhole)
  (arg22 : Memref sig .tc .vmem S256x256 .f32) (harg22 : arg22.IsWhole)
  (v9 : Elt F .f32) (v11 : Elt F .f32) (v24 : FVec F S1x256 .f32) (v36 : FVec F S1x256 .f32) (v40 : FVec F S1x256 .f32)
  (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (hw : ∀ k, k0_chk1 (word i arg6 X6 k) (word i arg7 X7 k)) (G17 : BufTy.Contents (Elt F) arg17.view.ty) (G20 : BufTy.Contents (Elt F) arg20.view.ty) (G21 : BufTy.Contents (Elt F) arg21.view.ty) (n : ℕ) (j : Fin k0_t1_loop.trips) (hj : j.val < n) :
    ∃ w, (⟨Rect.unit (s := S1x1x8x256x256) (k0_off14 j) S1x1x1x256x256.size (k0_off14_inb j), w⟩ : View.Piece (Elt F) S1x1x8x256x256 .bf16)
      ∈ (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 n).1 := by
  induction n with
  | zero => omega
  | succ n ih =>
    rw [opb.eq_2]
    unfold opbStep
    split
    · rename_i h
      by_cases hjn : j.val = n
      · have hjj : j = ⟨n, h⟩ := Fin.ext hjn
        subst hjj
        obtain ⟨w, h1⟩ := otrip_rect c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 ⟨n, h⟩ (hw _)
          (arg17.view.writes (Elt F) G17 (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 n).1)
          (arg20.view.writes (Elt F) G20 (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 n).2.1)
          (arg21.view.writes (Elt F) G21 (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 n).2.2)
        dsimp only
        rw [h1]
        exact ⟨w, List.mem_append_left _ (List.mem_singleton.2 rfl)⟩
      · obtain ⟨w, h1⟩ := ih (by omega)
        exact ⟨w, List.mem_append_right _ h1⟩
    · rename_i h; exact ih (by have := j.isLt; omega)

/-- The eight trips' pieces cover the first result window. -/
theorem opb_cover (c : Dev nD) (i : grid0.Coords)
  (arg2 : Memref sig .tc .smem S8 .f32) (harg2 : arg2.IsWhole) (arg3 : Memref sig .tc .smem S4 .f32) (harg3 : arg3.IsWhole)
  (arg4 : Memref sig .tc .smem S4 .f32) (harg4 : arg4.IsWhole) (arg5 : Memref sig .tc .smem S8 .f32) (harg5 : arg5.IsWhole)
  (arg6 : Memref sig .tc .smem S24x8 .i32) (harg6 : arg6.IsWhole) (arg7 : Memref sig .tc .smem S24x8 .i32) (harg7 : arg7.IsWhole)
  (arg8 : Memref sig .tc .vmem S1x1x8x256x256 .fp8e4m3) (harg8 : arg8.IsWhole) (arg9 : Memref sig .tc .vmem S1x1x1024x256 .fp8e4m3) (harg9 : arg9.IsWhole)
  (arg10 : Memref sig .tc .vmem S1x1x8x256x128 .fp8e4m3) (harg10 : arg10.IsWhole) (arg11 : Memref sig .tc .vmem S1x1x1024x256 .fp8e4m3) (harg11 : arg11.IsWhole)
  (arg12 : Memref sig .tc .vmem S1x1x8x256x256 .fp8e5m2) (harg12 : arg12.IsWhole) (arg13 : Memref sig .tc .vmem S1x1x8x256x256 .bf16) (harg13 : arg13.IsWhole)
  (arg14 : Memref sig .tc .vmem S1x1x8x1x256 .f32) (harg14 : arg14.IsWhole) (arg15 : Memref sig .tc .vmem S1x8x1x256 .i32) (harg15 : arg15.IsWhole)
  (arg16 : Memref sig .tc .vmem S1x8x1x256 .i32) (harg16 : arg16.IsWhole) (arg17 : Memref sig .tc .vmem S1x1x8x256x256 .bf16) (harg17 : arg17.IsWhole)
  (arg18 : Memref sig .tc .vmem S1x1x1024x256 .bf16) (harg18 : arg18.IsWhole) (arg19 : Memref sig .tc .vmem S1x1x1024x256 .bf16) (harg19 : arg19.IsWhole)
  (arg20 : Memref sig .tc .vmem S1024x256 .f32) (harg20 : arg20.IsWhole) (arg21 : Memref sig .tc .vmem S1024x256 .f32) (harg21 : arg21.IsWhole)
  (arg22 : Memref sig .tc .vmem S256x256 .f32) (harg22 : arg22.IsWhole)
  (v9 : Elt F .f32) (v11 : Elt F .f32) (v24 : FVec F S1x256 .f32) (v36 : FVec F S1x256 .f32) (v40 : FVec F S1x256 .f32)
  (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (hw : ∀ k, k0_chk1 (word i arg6 X6 k) (word i arg7 X7 k)) (G17 : BufTy.Contents (Elt F) arg17.view.ty) (G20 : BufTy.Contents (Elt F) arg20.view.ty) (G21 : BufTy.Contents (Elt F) arg21.view.ty) (y : S1x1x8x256x256.Idx) :
    ∃ p ∈ (opb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k0_t1_loop.trips).1, y ∈ p.1.set := by
  have h8 : k0_t1_loop.trips = 8 := by decide
  have y2 : (y 2).val < 8 := (y 2).isLt
  obtain ⟨w, h⟩ := opb_mem c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k0_t1_loop.trips ⟨(y 2).val, by omega⟩ (by show (y 2).val < _; omega)
  refine ⟨_, h, ?_⟩
  rw [Rect.mem_set_unit, k0_off14_eq]
  intro a
  have := (y a).isLt
  fin_cases a
  · exact ⟨Nat.zero_le _, by simpa using this⟩
  · exact ⟨Nat.zero_le _, by simpa using this⟩
  · exact ⟨le_rfl, Nat.lt_succ_self _⟩
  · exact ⟨Nat.zero_le _, by simpa using this⟩
  · exact ⟨Nat.zero_le _, by simpa using this⟩

/-- What the body leaves in result window `arg17`. -/
def out17 (c : Dev nD) (i : grid0.Coords)
  (arg2 : Memref sig .tc .smem S8 .f32) (harg2 : arg2.IsWhole) (arg3 : Memref sig .tc .smem S4 .f32) (harg3 : arg3.IsWhole)
  (arg4 : Memref sig .tc .smem S4 .f32) (harg4 : arg4.IsWhole) (arg5 : Memref sig .tc .smem S8 .f32) (harg5 : arg5.IsWhole)
  (arg6 : Memref sig .tc .smem S24x8 .i32) (harg6 : arg6.IsWhole) (arg7 : Memref sig .tc .smem S24x8 .i32) (harg7 : arg7.IsWhole)
  (arg8 : Memref sig .tc .vmem S1x1x8x256x256 .fp8e4m3) (harg8 : arg8.IsWhole) (arg9 : Memref sig .tc .vmem S1x1x1024x256 .fp8e4m3) (harg9 : arg9.IsWhole)
  (arg10 : Memref sig .tc .vmem S1x1x8x256x128 .fp8e4m3) (harg10 : arg10.IsWhole) (arg11 : Memref sig .tc .vmem S1x1x1024x256 .fp8e4m3) (harg11 : arg11.IsWhole)
  (arg12 : Memref sig .tc .vmem S1x1x8x256x256 .fp8e5m2) (harg12 : arg12.IsWhole) (arg13 : Memref sig .tc .vmem S1x1x8x256x256 .bf16) (harg13 : arg13.IsWhole)
  (arg14 : Memref sig .tc .vmem S1x1x8x1x256 .f32) (harg14 : arg14.IsWhole) (arg15 : Memref sig .tc .vmem S1x8x1x256 .i32) (harg15 : arg15.IsWhole)
  (arg16 : Memref sig .tc .vmem S1x8x1x256 .i32) (harg16 : arg16.IsWhole) (arg17 : Memref sig .tc .vmem S1x1x8x256x256 .bf16) (harg17 : arg17.IsWhole)
  (arg18 : Memref sig .tc .vmem S1x1x1024x256 .bf16) (harg18 : arg18.IsWhole) (arg19 : Memref sig .tc .vmem S1x1x1024x256 .bf16) (harg19 : arg19.IsWhole)
  (arg20 : Memref sig .tc .vmem S1024x256 .f32) (harg20 : arg20.IsWhole) (arg21 : Memref sig .tc .vmem S1024x256 .f32) (harg21 : arg21.IsWhole)
  (arg22 : Memref sig .tc .vmem S256x256 .f32) (harg22 : arg22.IsWhole)
  (x2 : Vec F S8 .f32) (x3 : Vec F S4 .f32) (x4 : Vec F S4 .f32) (x5 : Vec F S8 .f32) (x6 : Vec F S24x8 .i32) (x7 : Vec F S24x8 .i32) (x8 : Vec F S1x1x8x256x256 .fp8e4m3) (x9 : Vec F S1x1x1024x256 .fp8e4m3) (x10 : Vec F S1x1x8x256x128 .fp8e4m3) (x11 : Vec F S1x1x1024x256 .fp8e4m3) (x12 : Vec F S1x1x8x256x256 .fp8e5m2) (x13 : Vec F S1x1x8x256x256 .bf16) (x14 : Vec F S1x1x8x1x256 .f32) (x15 : Vec F S1x8x1x256 .i32) (x16 : Vec F S1x8x1x256 .i32)
  (hw : ∀ k, k0_chk1 (word i arg6 (harg6.unread x6) k) (word i arg7 (harg7.unread x7) k)) : Vec F S1x1x8x256x256 .bf16 :=
  arg17.view.read (Elt F) (arg17.view.writes (Elt F) arg17.view.junk ((bodyRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) hw).1 arg17.view.junk))

/-- Whatever the windows held. -/
theorem read_out17 (c : Dev nD) (i : grid0.Coords)
  (arg2 : Memref sig .tc .smem S8 .f32) (harg2 : arg2.IsWhole) (arg3 : Memref sig .tc .smem S4 .f32) (harg3 : arg3.IsWhole)
  (arg4 : Memref sig .tc .smem S4 .f32) (harg4 : arg4.IsWhole) (arg5 : Memref sig .tc .smem S8 .f32) (harg5 : arg5.IsWhole)
  (arg6 : Memref sig .tc .smem S24x8 .i32) (harg6 : arg6.IsWhole) (arg7 : Memref sig .tc .smem S24x8 .i32) (harg7 : arg7.IsWhole)
  (arg8 : Memref sig .tc .vmem S1x1x8x256x256 .fp8e4m3) (harg8 : arg8.IsWhole) (arg9 : Memref sig .tc .vmem S1x1x1024x256 .fp8e4m3) (harg9 : arg9.IsWhole)
  (arg10 : Memref sig .tc .vmem S1x1x8x256x128 .fp8e4m3) (harg10 : arg10.IsWhole) (arg11 : Memref sig .tc .vmem S1x1x1024x256 .fp8e4m3) (harg11 : arg11.IsWhole)
  (arg12 : Memref sig .tc .vmem S1x1x8x256x256 .fp8e5m2) (harg12 : arg12.IsWhole) (arg13 : Memref sig .tc .vmem S1x1x8x256x256 .bf16) (harg13 : arg13.IsWhole)
  (arg14 : Memref sig .tc .vmem S1x1x8x1x256 .f32) (harg14 : arg14.IsWhole) (arg15 : Memref sig .tc .vmem S1x8x1x256 .i32) (harg15 : arg15.IsWhole)
  (arg16 : Memref sig .tc .vmem S1x8x1x256 .i32) (harg16 : arg16.IsWhole) (arg17 : Memref sig .tc .vmem S1x1x8x256x256 .bf16) (harg17 : arg17.IsWhole)
  (arg18 : Memref sig .tc .vmem S1x1x1024x256 .bf16) (harg18 : arg18.IsWhole) (arg19 : Memref sig .tc .vmem S1x1x1024x256 .bf16) (harg19 : arg19.IsWhole)
  (arg20 : Memref sig .tc .vmem S1024x256 .f32) (harg20 : arg20.IsWhole) (arg21 : Memref sig .tc .vmem S1024x256 .f32) (harg21 : arg21.IsWhole)
  (arg22 : Memref sig .tc .vmem S256x256 .f32) (harg22 : arg22.IsWhole)
  (x2 : Vec F S8 .f32) (x3 : Vec F S4 .f32) (x4 : Vec F S4 .f32) (x5 : Vec F S8 .f32) (x6 : Vec F S24x8 .i32) (x7 : Vec F S24x8 .i32) (x8 : Vec F S1x1x8x256x256 .fp8e4m3) (x9 : Vec F S1x1x1024x256 .fp8e4m3) (x10 : Vec F S1x1x8x256x128 .fp8e4m3) (x11 : Vec F S1x1x1024x256 .fp8e4m3) (x12 : Vec F S1x1x8x256x256 .fp8e5m2) (x13 : Vec F S1x1x8x256x256 .bf16) (x14 : Vec F S1x1x8x1x256 .f32) (x15 : Vec F S1x8x1x256 .i32) (x16 : Vec F S1x8x1x256 .i32)
  (hw : ∀ k, k0_chk1 (word i arg6 (harg6.unread x6) k) (word i arg7 (harg7.unread x7) k)) (f17 : BufTy.Contents (Elt F) arg17.view.ty) (f : BufTy.Contents (Elt F) arg17.view.ty) :
    arg17.view.read (Elt F) (arg17.view.writes (Elt F) f ((bodyRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) hw).1 f17)) = out17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x2 x3 x4 x5 x6 x7 x8 x9 x10 x11 x12 x13 x14 x15 x16 hw := by
  unfold out17
  rw [show (bodyRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) hw).1 f17 = (bodyRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) hw).1 arg17.view.junk from by
    unfold bodyRun; exact congrArg Prod.fst (opb_congr (F := F) (G17' := arg17.view.junk) ..)]
  refine View.read_writes_of_cover _ _ _ _ _ ?_
  unfold bodyRun
  intro y
  exact opb_cover (F := F) ..

/-- What the body leaves in result window `arg18`. -/
def out18 (c : Dev nD) (i : grid0.Coords)
  (arg2 : Memref sig .tc .smem S8 .f32) (harg2 : arg2.IsWhole) (arg3 : Memref sig .tc .smem S4 .f32) (harg3 : arg3.IsWhole)
  (arg4 : Memref sig .tc .smem S4 .f32) (harg4 : arg4.IsWhole) (arg5 : Memref sig .tc .smem S8 .f32) (harg5 : arg5.IsWhole)
  (arg6 : Memref sig .tc .smem S24x8 .i32) (harg6 : arg6.IsWhole) (arg7 : Memref sig .tc .smem S24x8 .i32) (harg7 : arg7.IsWhole)
  (arg8 : Memref sig .tc .vmem S1x1x8x256x256 .fp8e4m3) (harg8 : arg8.IsWhole) (arg9 : Memref sig .tc .vmem S1x1x1024x256 .fp8e4m3) (harg9 : arg9.IsWhole)
  (arg10 : Memref sig .tc .vmem S1x1x8x256x128 .fp8e4m3) (harg10 : arg10.IsWhole) (arg11 : Memref sig .tc .vmem S1x1x1024x256 .fp8e4m3) (harg11 : arg11.IsWhole)
  (arg12 : Memref sig .tc .vmem S1x1x8x256x256 .fp8e5m2) (harg12 : arg12.IsWhole) (arg13 : Memref sig .tc .vmem S1x1x8x256x256 .bf16) (harg13 : arg13.IsWhole)
  (arg14 : Memref sig .tc .vmem S1x1x8x1x256 .f32) (harg14 : arg14.IsWhole) (arg15 : Memref sig .tc .vmem S1x8x1x256 .i32) (harg15 : arg15.IsWhole)
  (arg16 : Memref sig .tc .vmem S1x8x1x256 .i32) (harg16 : arg16.IsWhole) (arg17 : Memref sig .tc .vmem S1x1x8x256x256 .bf16) (harg17 : arg17.IsWhole)
  (arg18 : Memref sig .tc .vmem S1x1x1024x256 .bf16) (harg18 : arg18.IsWhole) (arg19 : Memref sig .tc .vmem S1x1x1024x256 .bf16) (harg19 : arg19.IsWhole)
  (arg20 : Memref sig .tc .vmem S1024x256 .f32) (harg20 : arg20.IsWhole) (arg21 : Memref sig .tc .vmem S1024x256 .f32) (harg21 : arg21.IsWhole)
  (arg22 : Memref sig .tc .vmem S256x256 .f32) (harg22 : arg22.IsWhole)
  (x2 : Vec F S8 .f32) (x3 : Vec F S4 .f32) (x4 : Vec F S4 .f32) (x5 : Vec F S8 .f32) (x6 : Vec F S24x8 .i32) (x7 : Vec F S24x8 .i32) (x8 : Vec F S1x1x8x256x256 .fp8e4m3) (x9 : Vec F S1x1x1024x256 .fp8e4m3) (x10 : Vec F S1x1x8x256x128 .fp8e4m3) (x11 : Vec F S1x1x1024x256 .fp8e4m3) (x12 : Vec F S1x1x8x256x256 .fp8e5m2) (x13 : Vec F S1x1x8x256x256 .bf16) (x14 : Vec F S1x1x8x1x256 .f32) (x15 : Vec F S1x8x1x256 .i32) (x16 : Vec F S1x8x1x256 .i32)
  (hw : ∀ k, k0_chk1 (word i arg6 (harg6.unread x6) k) (word i arg7 (harg7.unread x7) k)) : Vec F S1x1x1024x256 .bf16 :=
  arg18.view.read (Elt F) (arg18.view.writes (Elt F) arg18.view.junk ((bodyRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) hw).2.1 arg17.view.junk))

/-- Whatever the windows held. -/
theorem read_out18 (c : Dev nD) (i : grid0.Coords)
  (arg2 : Memref sig .tc .smem S8 .f32) (harg2 : arg2.IsWhole) (arg3 : Memref sig .tc .smem S4 .f32) (harg3 : arg3.IsWhole)
  (arg4 : Memref sig .tc .smem S4 .f32) (harg4 : arg4.IsWhole) (arg5 : Memref sig .tc .smem S8 .f32) (harg5 : arg5.IsWhole)
  (arg6 : Memref sig .tc .smem S24x8 .i32) (harg6 : arg6.IsWhole) (arg7 : Memref sig .tc .smem S24x8 .i32) (harg7 : arg7.IsWhole)
  (arg8 : Memref sig .tc .vmem S1x1x8x256x256 .fp8e4m3) (harg8 : arg8.IsWhole) (arg9 : Memref sig .tc .vmem S1x1x1024x256 .fp8e4m3) (harg9 : arg9.IsWhole)
  (arg10 : Memref sig .tc .vmem S1x1x8x256x128 .fp8e4m3) (harg10 : arg10.IsWhole) (arg11 : Memref sig .tc .vmem S1x1x1024x256 .fp8e4m3) (harg11 : arg11.IsWhole)
  (arg12 : Memref sig .tc .vmem S1x1x8x256x256 .fp8e5m2) (harg12 : arg12.IsWhole) (arg13 : Memref sig .tc .vmem S1x1x8x256x256 .bf16) (harg13 : arg13.IsWhole)
  (arg14 : Memref sig .tc .vmem S1x1x8x1x256 .f32) (harg14 : arg14.IsWhole) (arg15 : Memref sig .tc .vmem S1x8x1x256 .i32) (harg15 : arg15.IsWhole)
  (arg16 : Memref sig .tc .vmem S1x8x1x256 .i32) (harg16 : arg16.IsWhole) (arg17 : Memref sig .tc .vmem S1x1x8x256x256 .bf16) (harg17 : arg17.IsWhole)
  (arg18 : Memref sig .tc .vmem S1x1x1024x256 .bf16) (harg18 : arg18.IsWhole) (arg19 : Memref sig .tc .vmem S1x1x1024x256 .bf16) (harg19 : arg19.IsWhole)
  (arg20 : Memref sig .tc .vmem S1024x256 .f32) (harg20 : arg20.IsWhole) (arg21 : Memref sig .tc .vmem S1024x256 .f32) (harg21 : arg21.IsWhole)
  (arg22 : Memref sig .tc .vmem S256x256 .f32) (harg22 : arg22.IsWhole)
  (x2 : Vec F S8 .f32) (x3 : Vec F S4 .f32) (x4 : Vec F S4 .f32) (x5 : Vec F S8 .f32) (x6 : Vec F S24x8 .i32) (x7 : Vec F S24x8 .i32) (x8 : Vec F S1x1x8x256x256 .fp8e4m3) (x9 : Vec F S1x1x1024x256 .fp8e4m3) (x10 : Vec F S1x1x8x256x128 .fp8e4m3) (x11 : Vec F S1x1x1024x256 .fp8e4m3) (x12 : Vec F S1x1x8x256x256 .fp8e5m2) (x13 : Vec F S1x1x8x256x256 .bf16) (x14 : Vec F S1x1x8x1x256 .f32) (x15 : Vec F S1x8x1x256 .i32) (x16 : Vec F S1x8x1x256 .i32)
  (hw : ∀ k, k0_chk1 (word i arg6 (harg6.unread x6) k) (word i arg7 (harg7.unread x7) k)) (f17 : BufTy.Contents (Elt F) arg17.view.ty) (f : BufTy.Contents (Elt F) arg18.view.ty) :
    arg18.view.read (Elt F) (arg18.view.writes (Elt F) f ((bodyRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) hw).2.1 f17)) = out18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x2 x3 x4 x5 x6 x7 x8 x9 x10 x11 x12 x13 x14 x15 x16 hw := by
  unfold out18
  rw [show (bodyRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) hw).2.1 f17 = (bodyRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) hw).2.1 arg17.view.junk from by
    unfold bodyRun; dsimp only; unfold bodyRun.sl.v45; rw [opb_congr _ _ _ _ _ _ _ _ _ _ _ _ _ _ _ _ _ _ _ _ _ _ _ _ _ _ _ _ _ _ _ _ _ _ _ _ _ _ _ _ _ _ _ _ _ _ _ _ _ _ _ _ _ _ _ _ _ _ _ _ _ f17 _ _ arg17.view.junk]]
  unfold bodyRun
  exact View.read_writes_of_cover_last _ _ _ _ _ _ _ fun y => by
    rw [Rect.mem_set_unit]
    intro a
    have := (y a).isLt
    fin_cases a <;> exact ⟨Nat.zero_le _, by simpa using this⟩

/-- What the body leaves in result window `arg19`. -/
def out19 (c : Dev nD) (i : grid0.Coords)
  (arg2 : Memref sig .tc .smem S8 .f32) (harg2 : arg2.IsWhole) (arg3 : Memref sig .tc .smem S4 .f32) (harg3 : arg3.IsWhole)
  (arg4 : Memref sig .tc .smem S4 .f32) (harg4 : arg4.IsWhole) (arg5 : Memref sig .tc .smem S8 .f32) (harg5 : arg5.IsWhole)
  (arg6 : Memref sig .tc .smem S24x8 .i32) (harg6 : arg6.IsWhole) (arg7 : Memref sig .tc .smem S24x8 .i32) (harg7 : arg7.IsWhole)
  (arg8 : Memref sig .tc .vmem S1x1x8x256x256 .fp8e4m3) (harg8 : arg8.IsWhole) (arg9 : Memref sig .tc .vmem S1x1x1024x256 .fp8e4m3) (harg9 : arg9.IsWhole)
  (arg10 : Memref sig .tc .vmem S1x1x8x256x128 .fp8e4m3) (harg10 : arg10.IsWhole) (arg11 : Memref sig .tc .vmem S1x1x1024x256 .fp8e4m3) (harg11 : arg11.IsWhole)
  (arg12 : Memref sig .tc .vmem S1x1x8x256x256 .fp8e5m2) (harg12 : arg12.IsWhole) (arg13 : Memref sig .tc .vmem S1x1x8x256x256 .bf16) (harg13 : arg13.IsWhole)
  (arg14 : Memref sig .tc .vmem S1x1x8x1x256 .f32) (harg14 : arg14.IsWhole) (arg15 : Memref sig .tc .vmem S1x8x1x256 .i32) (harg15 : arg15.IsWhole)
  (arg16 : Memref sig .tc .vmem S1x8x1x256 .i32) (harg16 : arg16.IsWhole) (arg17 : Memref sig .tc .vmem S1x1x8x256x256 .bf16) (harg17 : arg17.IsWhole)
  (arg18 : Memref sig .tc .vmem S1x1x1024x256 .bf16) (harg18 : arg18.IsWhole) (arg19 : Memref sig .tc .vmem S1x1x1024x256 .bf16) (harg19 : arg19.IsWhole)
  (arg20 : Memref sig .tc .vmem S1024x256 .f32) (harg20 : arg20.IsWhole) (arg21 : Memref sig .tc .vmem S1024x256 .f32) (harg21 : arg21.IsWhole)
  (arg22 : Memref sig .tc .vmem S256x256 .f32) (harg22 : arg22.IsWhole)
  (x2 : Vec F S8 .f32) (x3 : Vec F S4 .f32) (x4 : Vec F S4 .f32) (x5 : Vec F S8 .f32) (x6 : Vec F S24x8 .i32) (x7 : Vec F S24x8 .i32) (x8 : Vec F S1x1x8x256x256 .fp8e4m3) (x9 : Vec F S1x1x1024x256 .fp8e4m3) (x10 : Vec F S1x1x8x256x128 .fp8e4m3) (x11 : Vec F S1x1x1024x256 .fp8e4m3) (x12 : Vec F S1x1x8x256x256 .fp8e5m2) (x13 : Vec F S1x1x8x256x256 .bf16) (x14 : Vec F S1x1x8x1x256 .f32) (x15 : Vec F S1x8x1x256 .i32) (x16 : Vec F S1x8x1x256 .i32)
  (hw : ∀ k, k0_chk1 (word i arg6 (harg6.unread x6) k) (word i arg7 (harg7.unread x7) k)) : Vec F S1x1x1024x256 .bf16 :=
  arg19.view.read (Elt F) (arg19.view.writes (Elt F) arg19.view.junk ((bodyRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) hw).2.2.1 arg17.view.junk))

/-- Whatever the windows held. -/
theorem read_out19 (c : Dev nD) (i : grid0.Coords)
  (arg2 : Memref sig .tc .smem S8 .f32) (harg2 : arg2.IsWhole) (arg3 : Memref sig .tc .smem S4 .f32) (harg3 : arg3.IsWhole)
  (arg4 : Memref sig .tc .smem S4 .f32) (harg4 : arg4.IsWhole) (arg5 : Memref sig .tc .smem S8 .f32) (harg5 : arg5.IsWhole)
  (arg6 : Memref sig .tc .smem S24x8 .i32) (harg6 : arg6.IsWhole) (arg7 : Memref sig .tc .smem S24x8 .i32) (harg7 : arg7.IsWhole)
  (arg8 : Memref sig .tc .vmem S1x1x8x256x256 .fp8e4m3) (harg8 : arg8.IsWhole) (arg9 : Memref sig .tc .vmem S1x1x1024x256 .fp8e4m3) (harg9 : arg9.IsWhole)
  (arg10 : Memref sig .tc .vmem S1x1x8x256x128 .fp8e4m3) (harg10 : arg10.IsWhole) (arg11 : Memref sig .tc .vmem S1x1x1024x256 .fp8e4m3) (harg11 : arg11.IsWhole)
  (arg12 : Memref sig .tc .vmem S1x1x8x256x256 .fp8e5m2) (harg12 : arg12.IsWhole) (arg13 : Memref sig .tc .vmem S1x1x8x256x256 .bf16) (harg13 : arg13.IsWhole)
  (arg14 : Memref sig .tc .vmem S1x1x8x1x256 .f32) (harg14 : arg14.IsWhole) (arg15 : Memref sig .tc .vmem S1x8x1x256 .i32) (harg15 : arg15.IsWhole)
  (arg16 : Memref sig .tc .vmem S1x8x1x256 .i32) (harg16 : arg16.IsWhole) (arg17 : Memref sig .tc .vmem S1x1x8x256x256 .bf16) (harg17 : arg17.IsWhole)
  (arg18 : Memref sig .tc .vmem S1x1x1024x256 .bf16) (harg18 : arg18.IsWhole) (arg19 : Memref sig .tc .vmem S1x1x1024x256 .bf16) (harg19 : arg19.IsWhole)
  (arg20 : Memref sig .tc .vmem S1024x256 .f32) (harg20 : arg20.IsWhole) (arg21 : Memref sig .tc .vmem S1024x256 .f32) (harg21 : arg21.IsWhole)
  (arg22 : Memref sig .tc .vmem S256x256 .f32) (harg22 : arg22.IsWhole)
  (x2 : Vec F S8 .f32) (x3 : Vec F S4 .f32) (x4 : Vec F S4 .f32) (x5 : Vec F S8 .f32) (x6 : Vec F S24x8 .i32) (x7 : Vec F S24x8 .i32) (x8 : Vec F S1x1x8x256x256 .fp8e4m3) (x9 : Vec F S1x1x1024x256 .fp8e4m3) (x10 : Vec F S1x1x8x256x128 .fp8e4m3) (x11 : Vec F S1x1x1024x256 .fp8e4m3) (x12 : Vec F S1x1x8x256x256 .fp8e5m2) (x13 : Vec F S1x1x8x256x256 .bf16) (x14 : Vec F S1x1x8x1x256 .f32) (x15 : Vec F S1x8x1x256 .i32) (x16 : Vec F S1x8x1x256 .i32)
  (hw : ∀ k, k0_chk1 (word i arg6 (harg6.unread x6) k) (word i arg7 (harg7.unread x7) k)) (f17 : BufTy.Contents (Elt F) arg17.view.ty) (f : BufTy.Contents (Elt F) arg19.view.ty) :
    arg19.view.read (Elt F) (arg19.view.writes (Elt F) f ((bodyRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) hw).2.2.1 f17)) = out19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x2 x3 x4 x5 x6 x7 x8 x9 x10 x11 x12 x13 x14 x15 x16 hw := by
  unfold out19
  rw [show (bodyRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) hw).2.2.1 f17 = (bodyRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) hw).2.2.1 arg17.view.junk from by
    unfold bodyRun; dsimp only; unfold bodyRun.sl.v52; rw [opb_congr _ _ _ _ _ _ _ _ _ _ _ _ _ _ _ _ _ _ _ _ _ _ _ _ _ _ _ _ _ _ _ _ _ _ _ _ _ _ _ _ _ _ _ _ _ _ _ _ _ _ _ _ _ _ _ _ _ _ _ _ _ f17 _ _ arg17.view.junk]]
  unfold bodyRun
  exact View.read_writes_of_cover_last _ _ _ _ _ _ _ fun y => by
    rw [Rect.mem_set_unit]
    intro a
    have := (y a).isLt
    fin_cases a <;> exact ⟨Nat.zero_le _, by simpa using this⟩

/-- THE BODY'S TRIPLE: the inputs come back as found, each result window holds its named contents. -/
theorem sound_kernel (c : Dev nD) (i : grid0.Coords)
  (arg2 : Memref sig .tc .smem S8 .f32) (harg2 : arg2.IsWhole) (arg3 : Memref sig .tc .smem S4 .f32) (harg3 : arg3.IsWhole)
  (arg4 : Memref sig .tc .smem S4 .f32) (harg4 : arg4.IsWhole) (arg5 : Memref sig .tc .smem S8 .f32) (harg5 : arg5.IsWhole)
  (arg6 : Memref sig .tc .smem S24x8 .i32) (harg6 : arg6.IsWhole) (arg7 : Memref sig .tc .smem S24x8 .i32) (harg7 : arg7.IsWhole)
  (arg8 : Memref sig .tc .vmem S1x1x8x256x256 .fp8e4m3) (harg8 : arg8.IsWhole) (arg9 : Memref sig .tc .vmem S1x1x1024x256 .fp8e4m3) (harg9 : arg9.IsWhole)
  (arg10 : Memref sig .tc .vmem S1x1x8x256x128 .fp8e4m3) (harg10 : arg10.IsWhole) (arg11 : Memref sig .tc .vmem S1x1x1024x256 .fp8e4m3) (harg11 : arg11.IsWhole)
  (arg12 : Memref sig .tc .vmem S1x1x8x256x256 .fp8e5m2) (harg12 : arg12.IsWhole) (arg13 : Memref sig .tc .vmem S1x1x8x256x256 .bf16) (harg13 : arg13.IsWhole)
  (arg14 : Memref sig .tc .vmem S1x1x8x1x256 .f32) (harg14 : arg14.IsWhole) (arg15 : Memref sig .tc .vmem S1x8x1x256 .i32) (harg15 : arg15.IsWhole)
  (arg16 : Memref sig .tc .vmem S1x8x1x256 .i32) (harg16 : arg16.IsWhole) (arg17 : Memref sig .tc .vmem S1x1x8x256x256 .bf16) (harg17 : arg17.IsWhole)
  (arg18 : Memref sig .tc .vmem S1x1x1024x256 .bf16) (harg18 : arg18.IsWhole) (arg19 : Memref sig .tc .vmem S1x1x1024x256 .bf16) (harg19 : arg19.IsWhole)
  (arg20 : Memref sig .tc .vmem S1024x256 .f32) (harg20 : arg20.IsWhole) (arg21 : Memref sig .tc .vmem S1024x256 .f32) (harg21 : arg21.IsWhole)
  (arg22 : Memref sig .tc .vmem S256x256 .f32) (harg22 : arg22.IsWhole)
  (x2 : Vec F S8 .f32) (x3 : Vec F S4 .f32) (x4 : Vec F S4 .f32) (x5 : Vec F S8 .f32) (x6 : Vec F S24x8 .i32) (x7 : Vec F S24x8 .i32) (x8 : Vec F S1x1x8x256x256 .fp8e4m3) (x9 : Vec F S1x1x1024x256 .fp8e4m3) (x10 : Vec F S1x1x8x256x128 .fp8e4m3) (x11 : Vec F S1x1x1024x256 .fp8e4m3) (x12 : Vec F S1x1x8x256x256 .fp8e5m2) (x13 : Vec F S1x1x8x256x256 .bf16) (x14 : Vec F S1x1x8x1x256 .f32) (x15 : Vec F S1x8x1x256 .i32) (x16 : Vec F S1x8x1x256 .i32)
  (hw : ∀ k, k0_chk1 (word i arg6 (harg6.unread x6) k) (word i arg7 (harg7.unread x7) k)) (K : PUnit → sProp 𝕄G) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare (out17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x2 x3 x4 x5 x6 x7 x8 x9 x10 x11 x12 x13 x14 x15 x16 hw) ∗ owns (c : Thread nD τ) arg18 fullShare (out18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x2 x3 x4 x5 x6 x7 x8 x9 x10 x11 x12 x13 x14 x15 x16 hw) ∗ owns (c : Thread nD τ) arg19 fullShare (out19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x2 x3 x4 x5 x6 x7 x8 x9 x10 x11 x12 x13 x14 x15 x16 hw) ∗ (∃ d, owns (c : Thread nD τ) arg20 fullShare d) ∗ (∃ d, owns (c : Thread nD τ) arg21 fullShare d) ∗ (∃ d, owns (c : Thread nD τ) arg22 fullShare d)) -∗ K ⟨⟩))
      ⊢ wp frame (wpE (defs₀ (F := F)) Variants.none (c : Thread nD τ) none) Set.univ (cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  obtain rfl := harg2.eq_unread h2
  obtain rfl := harg3.eq_unread h3
  obtain rfl := harg4.eq_unread h4
  obtain rfl := harg5.eq_unread h5
  obtain rfl := harg6.eq_unread h6
  obtain rfl := harg7.eq_unread h7
  obtain rfl := harg8.eq_unread h8
  obtain rfl := harg9.eq_unread h9
  obtain rfl := harg10.eq_unread h10
  obtain rfl := harg11.eq_unread h11
  obtain rfl := harg12.eq_unread h12
  obtain rfl := harg13.eq_unread h13
  obtain rfl := harg14.eq_unread h14
  obtain rfl := harg15.eq_unread h15
  obtain rfl := harg16.eq_unread h16
  iapply (wp_wand_r Idealize.ShloMosaic.frame (wpE (defs₀ (F := F)) Variants.none (c : Thread nD τ) none) Set.univ)
  isplitl [H2 H3 H4 H5 H6 H7 H8 H9 H10 H11 H12 H13 H14 H15 H16 H17 H18 H19 H20 H21 H22]
  · iapply ((bodyRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) hw).2.2.2 f17 f18 f19)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexists _; iexact H20
    isplitl [H21]; · iexists _; iexact H21
    iexists _; iexact H22
  · iintro %_ ⟨H2, H3, H4, H5, H6, H7, H8, H9, H10, H11, H12, H13, H14, H15, H16, H17, H18, H19, ⟨%g20, H20⟩, ⟨%g21, H21⟩, ⟨%g22, H22⟩⟩
    iapply Hk
    isplitl [H2]
    · iexists _; isplitr; swap
      · iexact H2
      · ipureintro; exact harg2.read_unread _
    isplitl [H3]
    · iexists _; isplitr; swap
      · iexact H3
      · ipureintro; exact harg3.read_unread _
    isplitl [H4]
    · iexists _; isplitr; swap
      · iexact H4
      · ipureintro; exact harg4.read_unread _
    isplitl [H5]
    · iexists _; isplitr; swap
      · iexact H5
      · ipureintro; exact harg5.read_unread _
    isplitl [H6]
    · iexists _; isplitr; swap
      · iexact H6
      · ipureintro; exact harg6.read_unread _
    isplitl [H7]
    · iexists _; isplitr; swap
      · iexact H7
      · ipureintro; exact harg7.read_unread _
    isplitl [H8]
    · iexists _; isplitr; swap
      · iexact H8
      · ipureintro; exact harg8.read_unread _
    isplitl [H9]
    · iexists _; isplitr; swap
      · iexact H9
      · ipureintro; exact harg9.read_unread _
    isplitl [H10]
    · iexists _; isplitr; swap
      · iexact H10
      · ipureintro; exact harg10.read_unread _
    isplitl [H11]
    · iexists _; isplitr; swap
      · iexact H11
      · ipureintro; exact harg11.read_unread _
    isplitl [H12]
    · iexists _; isplitr; swap
      · iexact H12
      · ipureintro; exact harg12.read_unread _
    isplitl [H13]
    · iexists _; isplitr; swap
      · iexact H13
      · ipureintro; exact harg13.read_unread _
    isplitl [H14]
    · iexists _; isplitr; swap
      · iexact H14
      · ipureintro; exact harg14.read_unread _
    isplitl [H15]
    · iexists _; isplitr; swap
      · iexact H15
      · ipureintro; exact harg15.read_unread _
    isplitl [H16]
    · iexists _; isplitr; swap
      · iexact H16
      · ipureintro; exact harg16.read_unread _
    isplitl [H17]
    · iexists _; isplitr; swap
      · iexact H17
      · ipureintro; exact read_out17 ..
    isplitl [H18]
    · iexists _; isplitr; swap
      · iexact H18
      · ipureintro; exact read_out18 ..
    isplitl [H19]
    · iexists _; isplitr; swap
      · iexact H19
      · ipureintro; exact read_out19 ..
    isplitl [H20]
    · iexists _; iexists _; isplitr; swap
      · iexact H20
      · ipureintro; rfl
    isplitl [H21]
    · iexists _; iexists _; isplitr; swap
      · iexact H21
      · ipureintro; rfl
    iexists _; iexists _; isplitr; swap
    · iexact H22
    · ipureintro; rfl

end Cert.Proof.KernelIdeal

end
-- ==== Proof.BoundsIdeal.lean ====
/-
  The two tables of chunk bounds as the kernel's region finds them, and the side condition on the words read off them.
-/
module

public import proofs.«01_k».proof.Proof.Gen.KernelIdeal.Frame
public import Idealize.ShloMosaic.Lib.Claim
public import Idealize.ShloMosaic.Lib.StableHlo.Run
public import proofs.«01_k».proof.Proof.Tables

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Cert.Proof.Tables
open Idealize.SL Idealize.SL.RA Idealize.SL.BI

variable {F : FTy → Type} [FloatOps F] (m : (ℓ : Loc nD τ sig) → Buf (Elt F) ℓ)

/-- The table of first chunks the region reads. -/
theorem V_v29 (c : Dev nD) : V m c main_v29 = csW (m ((c : Thread nD τ).loc main_arg10)) := by
  entry_read
  simp only [hostOps0, hostOps0_1, hostOps0_2, hostOps0_3, hostOps0_4, hostOps0_5, hostOps0_6, hostOps0_7, hostOps0_8, List.flatten_cons, List.flatten_nil, List.cons_append, List.nil_append, List.append_nil]
  after_results_simp
  simp -implicitDefEqProofs only [StableHlo.TRef.ofBuf, StableHlo.TRef.toBuf, cast_cast, cast_eq, id]
  rfl

/-- The table of chunk ends the region reads. -/
theorem V_v35 (c : Dev nD) : V m c main_v35 = ceW (m ((c : Thread nD τ).loc main_arg10)) := by
  entry_read
  simp only [hostOps0, hostOps0_1, hostOps0_2, hostOps0_3, hostOps0_4, hostOps0_5, hostOps0_6, hostOps0_7, hostOps0_8, List.flatten_cons, List.flatten_nil, List.cons_append, List.nil_append, List.append_nil]
  after_results_simp
  simp -implicitDefEqProofs only [StableHlo.TRef.ofBuf, StableHlo.TRef.toBuf, cast_cast, cast_eq, id]
  rfl

/-- Chunk bounds of at most 8 meet the body's side condition. -/
theorem chk1_of_le : ∀ a b : Fin 9, k0_chk1 (BitVec.ofNat 32 a.val) (BitVec.ofNat 32 b.val) := by
  decide +kernel

end Cert.Proof.KernelIdeal

end
-- ==== Proof.FrameIdeal.lean ====
/-
  The kernel's frame: from a memory whose rows of document boundaries start at 0, every execution ends, without a fault,
  with the argument arrays unchanged.
-/
module

public import proofs.«01_k».proof.Proof.SoundIdeal
public import proofs.«01_k».proof.Proof.BoundsIdeal
public import Idealize.ShloMosaic.Lib.Pipeline.ValueKit

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Proof.Tables
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The words an outer trip reads -/

theorem off7_aux : ∀ (a : Fin 24) (k : Fin k0_t1_loop.trips),
    (BitVec.ofNat 32 a.val).toNat = a.val ∧ (IntOp.addi 0#32 (IntOp.muli (Scf.iv 0#32 1#32 k.val) 1#32)).toNat = k.val := by
  decide +kernel

/-- An outer trip reads its tables at the grid's row and its own number. -/
theorem off7_eq (i : grid0.Coords) (k : Fin k0_t1_loop.trips) : k0_off7 i k = ![(i 0).val, k.val] := by
  obtain ⟨h1, h2⟩ := off7_aux (i 0) k
  unfold k0_off7
  exact congrArg₂ (fun x y : ℕ => ![x, y]) h1 h2

theorem word_eq (i : grid0.Coords) (M : Memref sig .tc .smem S24x8 .i32) (hM : M.IsWhole) (x : Vec F S24x8 .i32)
    (k : Fin k0_t1_loop.trips) (u : Fin 8) (hu : u.val = k.val) : word i M (hM.unread x) k = x (ix2 (n0 := 24) (i 0) u) := by
  unfold word
  rw [View.readAt_apply, hM.read_unread]
  congr 1
  funext a
  apply Fin.ext
  have e0 : k0_off7 i k 0 = (i 0).val := by rw [off7_eq]; rfl
  have e1 : k0_off7 i k 1 = k.val := by rw [off7_eq]; rfl
  fin_cases a
  · show k0_off7 i k 0 + 1 * 0 = (i 0).val
    omega
  · show k0_off7 i k 1 + 1 * 0 = u.val
    omega

/-- The blocks of the two tables are the whole tables. -/
theorem iblk4 (c : Dev nD) (t : Fin cfg0.N) : iblk m c 4 t = csW (m ((c : Thread nD τ).loc main_arg10)) := by
  rw [← V_v29 m c]
  funext y
  blk_ext [iblk, show win0_4.index t 0 = 0 from rfl, show win0_4.index t 1 = 0 from rfl]

theorem iblk5 (c : Dev nD) (t : Fin cfg0.N) : iblk m c 5 t = ceW (m ((c : Thread nD τ).loc main_arg10)) := by
  rw [← V_v35 m c]
  funext y
  blk_ext [iblk, show win0_5.index t 0 = 0 from rfl, show win0_5.index t 1 = 0 from rfl]

/-- Every row of the document boundaries starts at 0. -/
def Starts : Prop := ∀ (c : Dev nD) (b : Fin 24), (m ((c : Thread nD τ).loc main_arg10) : IVec S24x19 32) (ix2 b 0) = 0#32

/-- The side condition the body assumes of the words it reads, at every point. -/
def Words : Prop := ∀ (c : Dev nD) (t : Fin cfg0.N) (k : Fin k0_t1_loop.trips),
  k0_chk1 (word (grid0.coords t) (win0_4.stage (cfg0.slots t 4)) ((hstage0_4 ((cfg0.slots t 4).cast nbuf0_4)).unread (iblk m c 4 t)) k)
    (word (grid0.coords t) (win0_5.stage (cfg0.slots t 5)) ((hstage0_5 ((cfg0.slots t 5).cast nbuf0_5)).unread (iblk m c 5 t)) k)

theorem words_of_starts (h : Starts m) : Words m := by
  intro c t k
  have hk : k.val < 8 := k.isLt
  rw [word_eq _ _ _ _ k ⟨k.val, hk⟩ rfl, word_eq _ _ _ _ k ⟨k.val, hk⟩ rfl, iblk4, iblk5]
  obtain ⟨n, hn, e⟩ := loW_bound (m ((c : Thread nD τ).loc main_arg10)) (grid0.coords t 0) ⟨128 * k.val, by omega⟩ (h c _)
  obtain ⟨n', -, hn', e'⟩ := hiW_bound (m ((c : Thread nD τ).loc main_arg10)) (grid0.coords t 0) ⟨127 + 128 * k.val, by omega⟩ (h c _)
  simp only at hn
  rw [csW_eq _ _ ⟨k.val, hk⟩ n hn e, ceW_eq _ _ ⟨k.val, hk⟩ n' hn' e']
  exact chk1_of_le ⟨n / 128, by omega⟩ ⟨(n' + 127) / 128, by omega⟩

variable (H : Words m)

/-! ## The pipeline's proof data -/

/-- What the body leaves in its three result windows at point `t`. -/
def res15 (c : Dev nD) (t : Fin cfg0.N) : Vec F S1x1x8x256x256 .bf16 := out17 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (H c t)
def res16 (c : Dev nD) (t : Fin cfg0.N) : Vec F S1x1x1024x256 .bf16 := out18 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (H c t)
def res17 (c : Dev nD) (t : Fin cfg0.N) : Vec F S1x1x1024x256 .bf16 := out19 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (H c t)

/-- The proof data of the one pipeline: the arrays as the region finds them; after the body each input's buffer at its
    block and each output's at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => res15 m H c t
    | ⟨16, _⟩ => res16 m H c t
    | ⟨17, _⟩ => res17 m H c t
    | ⟨n + 18, h⟩ => absurd (show n + 18 < 18 from h) (by omega)
  Φ _ := Pipeline.ΦA spec0 c
  q _ := fullShare
  owed _ := 0

theorem A_eq (c : Dev nD) (w : Fin cfg0.W) : (dats m H 0 c).A w = V m c (Pipeline.arrRef spec0 w) := by
  dsimp only [dats]

theorem after0_0 (c : Dev nD) (t : Fin cfg0.N) : (dats m H 0 c).after 0 t = iblk m c 0 t := by dsimp only [dats]
theorem after0_1 (c : Dev nD) (t : Fin cfg0.N) : (dats m H 0 c).after 1 t = iblk m c 1 t := by dsimp only [dats]
theorem after0_2 (c : Dev nD) (t : Fin cfg0.N) : (dats m H 0 c).after 2 t = iblk m c 2 t := by dsimp only [dats]
theorem after0_3 (c : Dev nD) (t : Fin cfg0.N) : (dats m H 0 c).after 3 t = iblk m c 3 t := by dsimp only [dats]
theorem after0_4 (c : Dev nD) (t : Fin cfg0.N) : (dats m H 0 c).after 4 t = iblk m c 4 t := by dsimp only [dats]
theorem after0_5 (c : Dev nD) (t : Fin cfg0.N) : (dats m H 0 c).after 5 t = iblk m c 5 t := by dsimp only [dats]
theorem after0_6 (c : Dev nD) (t : Fin cfg0.N) : (dats m H 0 c).after 6 t = iblk m c 6 t := by dsimp only [dats]
theorem after0_7 (c : Dev nD) (t : Fin cfg0.N) : (dats m H 0 c).after 7 t = iblk m c 7 t := by dsimp only [dats]
theorem after0_8 (c : Dev nD) (t : Fin cfg0.N) : (dats m H 0 c).after 8 t = iblk m c 8 t := by dsimp only [dats]
theorem after0_9 (c : Dev nD) (t : Fin cfg0.N) : (dats m H 0 c).after 9 t = iblk m c 9 t := by dsimp only [dats]
theorem after0_10 (c : Dev nD) (t : Fin cfg0.N) : (dats m H 0 c).after 10 t = iblk m c 10 t := by dsimp only [dats]
theorem after0_11 (c : Dev nD) (t : Fin cfg0.N) : (dats m H 0 c).after 11 t = iblk m c 11 t := by dsimp only [dats]
theorem after0_12 (c : Dev nD) (t : Fin cfg0.N) : (dats m H 0 c).after 12 t = iblk m c 12 t := by dsimp only [dats]
theorem after0_13 (c : Dev nD) (t : Fin cfg0.N) : (dats m H 0 c).after 13 t = iblk m c 13 t := by dsimp only [dats]
theorem after0_14 (c : Dev nD) (t : Fin cfg0.N) : (dats m H 0 c).after 14 t = iblk m c 14 t := by dsimp only [dats]
theorem after0_15 (c : Dev nD) (t : Fin cfg0.N) : (dats m H 0 c).after 15 t = res15 m H c t := by dsimp only [dats]
theorem after0_16 (c : Dev nD) (t : Fin cfg0.N) : (dats m H 0 c).after 16 t = res16 m H c t := by dsimp only [dats]
theorem after0_17 (c : Dev nD) (t : Fin cfg0.N) : (dats m H 0 c).after 17 t = res17 m H c t := by dsimp only [dats]

theorem before0_0 (c : Dev nD) (t : Fin cfg0.N) (d) : (dats m H 0 c).before 0 t d = iblk m c 0 t := before0_0_of m (dats m H 0 c) (A_eq m H c 0) (after0_0 m H c) t d
theorem before0_1 (c : Dev nD) (t : Fin cfg0.N) (d) : (dats m H 0 c).before 1 t d = iblk m c 1 t := before0_1_of m (dats m H 0 c) (A_eq m H c 1) (after0_1 m H c) t d
theorem before0_2 (c : Dev nD) (t : Fin cfg0.N) (d) : (dats m H 0 c).before 2 t d = iblk m c 2 t := before0_2_of m (dats m H 0 c) (A_eq m H c 2) (after0_2 m H c) t d
theorem before0_3 (c : Dev nD) (t : Fin cfg0.N) (d) : (dats m H 0 c).before 3 t d = iblk m c 3 t := before0_3_of m (dats m H 0 c) (A_eq m H c 3) (after0_3 m H c) t d
theorem before0_4 (c : Dev nD) (t : Fin cfg0.N) (d) : (dats m H 0 c).before 4 t d = iblk m c 4 t := before0_4_of m (dats m H 0 c) (A_eq m H c 4) (after0_4 m H c) t d
theorem before0_5 (c : Dev nD) (t : Fin cfg0.N) (d) : (dats m H 0 c).before 5 t d = iblk m c 5 t := before0_5_of m (dats m H 0 c) (A_eq m H c 5) (after0_5 m H c) t d
theorem before0_6 (c : Dev nD) (t : Fin cfg0.N) (d) : (dats m H 0 c).before 6 t d = iblk m c 6 t := before0_6_of m (dats m H 0 c) (A_eq m H c 6) (after0_6 m H c) t d
theorem before0_7 (c : Dev nD) (t : Fin cfg0.N) (d) : (dats m H 0 c).before 7 t d = iblk m c 7 t := before0_7_of m (dats m H 0 c) (A_eq m H c 7) (after0_7 m H c) t d
theorem before0_8 (c : Dev nD) (t : Fin cfg0.N) (d) : (dats m H 0 c).before 8 t d = iblk m c 8 t := before0_8_of m (dats m H 0 c) (A_eq m H c 8) (after0_8 m H c) t d
theorem before0_9 (c : Dev nD) (t : Fin cfg0.N) (d) : (dats m H 0 c).before 9 t d = iblk m c 9 t := before0_9_of m (dats m H 0 c) (A_eq m H c 9) (after0_9 m H c) t d
theorem before0_10 (c : Dev nD) (t : Fin cfg0.N) (d) : (dats m H 0 c).before 10 t d = iblk m c 10 t := before0_10_of m (dats m H 0 c) (A_eq m H c 10) (after0_10 m H c) t d
theorem before0_11 (c : Dev nD) (t : Fin cfg0.N) (d) : (dats m H 0 c).before 11 t d = iblk m c 11 t := before0_11_of m (dats m H 0 c) (A_eq m H c 11) (after0_11 m H c) t d
theorem before0_12 (c : Dev nD) (t : Fin cfg0.N) (d) : (dats m H 0 c).before 12 t d = iblk m c 12 t := before0_12_of m (dats m H 0 c) (A_eq m H c 12) (after0_12 m H c) t d
theorem before0_13 (c : Dev nD) (t : Fin cfg0.N) (d) : (dats m H 0 c).before 13 t d = iblk m c 13 t := before0_13_of m (dats m H 0 c) (A_eq m H c 13) (after0_13 m H c) t d
theorem before0_14 (c : Dev nD) (t : Fin cfg0.N) (d) : (dats m H 0 c).before 14 t d = iblk m c 14 t := before0_14_of m (dats m H 0 c) (A_eq m H c 14) (after0_14 m H c) t d

/-! ## The body obligation, at a generic point -/

/-- What the body is called with at point `t`, -/
def bodyPre (c : Dev nD) (t : Fin cfg0.N) : sProp 𝕄 :=
  iprop((dats m H 0 c).Φ t.castSucc ∗ (dats m H 0 c).owesAt () t.castSucc
    ∗ (∃ d, owns (c : Thread nD τ) (st0_0 t) fullShare ((dats m H 0 c).before 0 t d))
    ∗ (∃ d, owns (c : Thread nD τ) (st0_1 t) fullShare ((dats m H 0 c).before 1 t d))
    ∗ (∃ d, owns (c : Thread nD τ) (st0_2 t) fullShare ((dats m H 0 c).before 2 t d))
    ∗ (∃ d, owns (c : Thread nD τ) (st0_3 t) fullShare ((dats m H 0 c).before 3 t d))
    ∗ (∃ d, owns (c : Thread nD τ) (st0_4 t) fullShare ((dats m H 0 c).before 4 t d))
    ∗ (∃ d, owns (c : Thread nD τ) (st0_5 t) fullShare ((dats m H 0 c).before 5 t d))
    ∗ (∃ d, owns (c : Thread nD τ) (st0_6 t) fullShare ((dats m H 0 c).before 6 t d))
    ∗ (∃ d, owns (c : Thread nD τ) (st0_7 t) fullShare ((dats m H 0 c).before 7 t d))
    ∗ (∃ d, owns (c : Thread nD τ) (st0_8 t) fullShare ((dats m H 0 c).before 8 t d))
    ∗ (∃ d, owns (c : Thread nD τ) (st0_9 t) fullShare ((dats m H 0 c).before 9 t d))
    ∗ (∃ d, owns (c : Thread nD τ) (st0_10 t) fullShare ((dats m H 0 c).before 10 t d))
    ∗ (∃ d, owns (c : Thread nD τ) (st0_11 t) fullShare ((dats m H 0 c).before 11 t d))
    ∗ (∃ d, owns (c : Thread nD τ) (st0_12 t) fullShare ((dats m H 0 c).before 12 t d))
    ∗ (∃ d, owns (c : Thread nD τ) (st0_13 t) fullShare ((dats m H 0 c).before 13 t d))
    ∗ (∃ d, owns (c : Thread nD τ) (st0_14 t) fullShare ((dats m H 0 c).before 14 t d))
    ∗ (∃ d, owns (c : Thread nD τ) (st0_15 t) fullShare ((dats m H 0 c).before 15 t d))
    ∗ (∃ d, owns (c : Thread nD τ) (st0_16 t) fullShare ((dats m H 0 c).before 16 t d))
    ∗ (∃ d, owns (c : Thread nD τ) (st0_17 t) fullShare ((dats m H 0 c).before 17 t d)))

/-- and what it returns. -/
def bodyPost (c : Dev nD) (t : Fin cfg0.N) : sProp 𝕄 :=
  iprop((dats m H 0 c).Φ t.succ ∗ (dats m H 0 c).owesAt () t.succ
    ∗ owns (c : Thread nD τ) (st0_0 t) fullShare ((dats m H 0 c).after 0 t)
    ∗ owns (c : Thread nD τ) (st0_1 t) fullShare ((dats m H 0 c).after 1 t)
    ∗ owns (c : Thread nD τ) (st0_2 t) fullShare ((dats m H 0 c).after 2 t)
    ∗ owns (c : Thread nD τ) (st0_3 t) fullShare ((dats m H 0 c).after 3 t)
    ∗ owns (c : Thread nD τ) (st0_4 t) fullShare ((dats m H 0 c).after 4 t)
    ∗ owns (c : Thread nD τ) (st0_5 t) fullShare ((dats m H 0 c).after 5 t)
    ∗ owns (c : Thread nD τ) (st0_6 t) fullShare ((dats m H 0 c).after 6 t)
    ∗ owns (c : Thread nD τ) (st0_7 t) fullShare ((dats m H 0 c).after 7 t)
    ∗ owns (c : Thread nD τ) (st0_8 t) fullShare ((dats m H 0 c).after 8 t)
    ∗ owns (c : Thread nD τ) (st0_9 t) fullShare ((dats m H 0 c).after 9 t)
    ∗ owns (c : Thread nD τ) (st0_10 t) fullShare ((dats m H 0 c).after 10 t)
    ∗ owns (c : Thread nD τ) (st0_11 t) fullShare ((dats m H 0 c).after 11 t)
    ∗ owns (c : Thread nD τ) (st0_12 t) fullShare ((dats m H 0 c).after 12 t)
    ∗ owns (c : Thread nD τ) (st0_13 t) fullShare ((dats m H 0 c).after 13 t)
    ∗ owns (c : Thread nD τ) (st0_14 t) fullShare ((dats m H 0 c).after 14 t)
    ∗ owns (c : Thread nD τ) (st0_15 t) fullShare ((dats m H 0 c).after 15 t)
    ∗ owns (c : Thread nD τ) (st0_16 t) fullShare ((dats m H 0 c).after 16 t)
    ∗ owns (c : Thread nD τ) (st0_17 t) fullShare ((dats m H 0 c).after 17 t))

/-- The body at any point. -/
theorem sound_body (c : Dev nD) (t : Fin cfg0.N) :
    bodyPre m H c t ⊢ wp frame (wpE (defs₀ (F := F)) Variants.none c none) Set.univ (bodyAt0 t) (fun _ => bodyPost m H c t) := by
  unfold bodyPre bodyPost bodyAt0
  simp only [before0_0, before0_1, before0_2, before0_3, before0_4, before0_5, before0_6, before0_7, before0_8, before0_9, before0_10, before0_11, before0_12, before0_13, before0_14]
  rw [show (dats m H 0 c).Φ t.succ = (dats m H 0 c).Φ t.castSucc from rfl,
    show (dats m H 0 c).owesAt () t.succ = (dats m H 0 c).owesAt () t.castSucc from rfl,
    after0_0, after0_1, after0_2, after0_3, after0_4, after0_5, after0_6, after0_7, after0_8, after0_9, after0_10, after0_11, after0_12, after0_13, after0_14, after0_15, after0_16, after0_17]
  rw [show (dats m H 0 c).Φ t.castSucc = Pipeline.ΦA spec0 c from rfl]
  unfold Pipeline.ΦA
  rw [scopedRest0_eq]
  simp only [← owns_whole]
  iintro ⟨⟨⟨HA, HB, HC⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (sound_kernel c (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (H c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [HA]; · iexact HA
  isplitl [HB]; · iexact HB
  isplitl [HC]; · iexact HC
  iintro ⟨H0, H1, H2, H3, H4, H5, H6, H7, H8, H9, H10, H11, H12, H13, H14, H15, H16, H17, HA, HB, HC⟩
  isplitl [HA HB HC Hr]
  · isplitl [HA HB HC]
    · isplitl [HA]; · iexact HA
      isplitl [HB]; · iexact HB
      iexact HC
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m H 0 c) (defs₀ (F := F)) Variants.none () Set.univ := fun t => by
  rw [bigSep_W0, bigSep_W0, defs₀_row]
  exact triple_restated (sound_body m H c t) rfl .rfl fun _ => .rfl

/-! ## The run and the frame -/

set_option backward.isDefEq.respectTransparency.types false in
set_option maxHeartbeats 800000 in
/-- The launch: every array ends at what the proof data say, and every semaphore counter at zero. -/
theorem run_main_quiescent : θ_run defs (onTc (τ := τ) (main (F := F))) (s₀ m ρ) (fun r => (Pipeline.FramePost cfgs (dats m H) 0 (Pipeline.afterTail₀ cfgs (dats m H) 0 (V0 m) [hostOps1])) r ∧ r.2.sem = fun _ => 0) :=
  Pipeline.θ_run_frame_around (Q' := _) cfgs (dats m H) (0 : Fin 1) launch0 defs₀ Variants.none m ρ main
    (hbody := fun c => (body_obligation m H c).loose) (hshare := fun c => (dats m H 0 c).share_full fun _ => rfl)
    (howed := fun _ _ => rfl) (V₀ := V0 m) (opss := [hostOps1]) (hsub := sfx_sub) (hfresh := sfx_fresh) (hkeep := sfx_keeps)
    (hmain := hmain m Variants.none) (hA := A_eq m H) (hΦ := fun _ _ => rfl)

theorem run_main : θ_run defs (onTc (τ := τ) (main (F := F))) (s₀ m ρ) (Pipeline.FramePost cfgs (dats m H) 0 (Pipeline.afterTail₀ cfgs (dats m H) 0 (V0 m) [hostOps1])) :=
  (θ_run defs _ _).mono (fun _ h => h.1) (run_main_quiescent m ρ H)

/-- The frame: the run ends with the argument arrays unchanged and every counter at zero. -/
theorem frame (h : Starts m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m (words_of_starts m h)) (A_eq m (words_of_starts m h)) (run_main m ρ (words_of_starts m h)))
    ((θ_run defs _ _).mono (fun _ h => h.2) (run_main_quiescent m ρ (words_of_starts m h)))

end Cert.Proof.KernelIdeal

end
-- ==== Proof.Pre.lean ====
/-
  What the frames' precondition says of the arguments: each row of document boundaries starts at 0.
-/
module

public import proofs.«01_k».proof.Proof.Gen.Pre_starts_at_zero
public import Idealize.ShloMosaic.Lib.Claim
public import Idealize.ShloMosaic.Lib.Affine
public import Idealize.ShloMosaic.Lib.ValueIdxCore
public import Idealize.ShloMosaic.Lib.Pointwise

@[expose] public section

set_option maxRecDepth 16384

noncomputable section

namespace Cert.Proof.Pre

open Idealize.ShloMosaic Idealize.ShloMosaic.TcCoe Idealize.ShloMosaic.Tactic

section
open Cert.Pre_starts_at_zero Cert.Pre_starts_at_zero.Gen
variable {F : FTy → Type} [FloatOps F]

theorem fn_apply (a0 : FVec F S24x1024x8x256 .fp8e4m3) (a1 : FVec F S8 .f32) (a2 : FVec F S24x1024x4x256 .fp8e4m3) (a3 : FVec F S4 .f32)
    (a4 : FVec F S24x1024x4x256 .fp8e4m3) (a5 : FVec F S4 .f32) (a6 : FVec F S24x1024x8x256 .bf16) (a7 : FVec F S24x1024x8x256 .fp8e5m2)
    (a8 : FVec F S8 .f32) (a9 : FVec F S24x8x1024 .f32) (a10 : IVec S24x19 32) (b : Fin 24) :
    fn a0 a1 a2 a3 a4 a5 a6 a7 a8 a9 a10 (ix1 b) = IntOp.cmpi .eq (a10 (ix2 b 0)) 0#32 := by
  unfold fn
  pointwise

theorem eq_zero_of_cmpi {x : BitVec 32} (h : IntOp.cmpi .eq x 0#32 = 1#1) : x = 0#32 := by
  exact (IntOp.cmpi_eq).mp h

/-- `starts_at_zero` says that each row's first boundary is 0. -/
theorem starts (a0 : FVec F S24x1024x8x256 .fp8e4m3) (a1 : FVec F S8 .f32) (a2 : FVec F S24x1024x4x256 .fp8e4m3) (a3 : FVec F S4 .f32)
    (a4 : FVec F S24x1024x4x256 .fp8e4m3) (a5 : FVec F S4 .f32) (a6 : FVec F S24x1024x8x256 .bf16) (a7 : FVec F S24x1024x8x256 .fp8e5m2)
    (a8 : FVec F S8 .f32) (a9 : FVec F S24x8x1024 .f32) (a10 : IVec S24x19 32)
    (h : fn a0 a1 a2 a3 a4 a5 a6 a7 a8 a9 a10 = fun _ => 1#1) (b : Fin 24) : a10 (ix2 b 0) = 0#32 :=
  eq_zero_of_cmpi ((fn_apply a0 a1 a2 a3 a4 a5 a6 a7 a8 a9 a10 b).symm.trans (congrFun h (ix1 b)))
end

end Cert.Proof.Pre

end
-- ==== Proof.PreScaled.lean ====
/-
  What the value claim's precondition says of the arguments: each row of document boundaries starts at 0, and the scales of the
  output gradient are neither negative nor infinite.
-/
module

public import proofs.«01_k».proof.Proof.Pre
public import proofs.«01_k».proof.Proof.Gen.Pre_starts_at_zero_and_scaled
public import Idealize.ShloMosaic.Lib.Claim
public import Idealize.ShloMosaic.Lib.Affine
public import Idealize.ShloMosaic.Lib.ValueIdxCore
public import Idealize.ShloMosaic.Lib.Pointwise

@[expose] public section

set_option maxRecDepth 16384

noncomputable section

namespace Cert.Proof.Pre

open Idealize.ShloMosaic Idealize.ShloMosaic.TcCoe Idealize.ShloMosaic.Tactic

section
open Cert.Pre_starts_at_zero_and_scaled Cert.Pre_starts_at_zero_and_scaled.Gen

theorem fn_scaled_apply (a0 : FVec Ideal S24x1024x8x256 .fp8e4m3) (a1 : FVec Ideal S8 .f32) (a2 : FVec Ideal S24x1024x4x256 .fp8e4m3) (a3 : FVec Ideal S4 .f32)
    (a4 : FVec Ideal S24x1024x4x256 .fp8e4m3) (a5 : FVec Ideal S4 .f32) (a6 : FVec Ideal S24x1024x8x256 .bf16) (a7 : FVec Ideal S24x1024x8x256 .fp8e5m2)
    (a8 : FVec Ideal S8 .f32) (a9 : FVec Ideal S24x8x1024 .f32) (a10 : IVec S24x19 32) (b : Fin 24) (q : Fin 8) :
    fn a0 a1 a2 a3 a4 a5 a6 a7 a8 a9 a10 (ix2 b q) = IntOp.andi (IntOp.cmpi .eq (a10 (ix2 b 0)) 0#32)
      (IntOp.andi (FloatOps.cmpf .oge (a8 (ix1 q)) (FloatOps.ofBits .f32 0x00000000#32)) (FloatOps.cmpf .olt (a8 (ix1 q)) (FloatOps.ofBits .f32 0x7F800000#32))) := by
  unfold fn
  pointwise

/-- `starts_at_zero_and_scaled` says that each row's first boundary is 0 and each scale lies in `[0, ∞)`. -/
theorem scaled (a0 : FVec Ideal S24x1024x8x256 .fp8e4m3) (a1 : FVec Ideal S8 .f32) (a2 : FVec Ideal S24x1024x4x256 .fp8e4m3) (a3 : FVec Ideal S4 .f32)
    (a4 : FVec Ideal S24x1024x4x256 .fp8e4m3) (a5 : FVec Ideal S4 .f32) (a6 : FVec Ideal S24x1024x8x256 .bf16) (a7 : FVec Ideal S24x1024x8x256 .fp8e5m2)
    (a8 : FVec Ideal S8 .f32) (a9 : FVec Ideal S24x8x1024 .f32) (a10 : IVec S24x19 32)
    (h : fn a0 a1 a2 a3 a4 a5 a6 a7 a8 a9 a10 = fun _ => 1#1) :
    (∀ b : Fin 24, a10 (ix2 b 0) = 0#32) ∧ ∀ q : Fin 8, (0 : EReal) ≤ a8 (ix1 q) ∧ (a8 (ix1 q) : EReal) ≠ ⊤ := by
  have key : ∀ (b : Fin 24) (q : Fin 8), _ := fun b q => (fn_scaled_apply a0 a1 a2 a3 a4 a5 a6 a7 a8 a9 a10 b q).symm.trans (congrFun h (ix2 b q))
  have and1 : ∀ x y : BitVec 1, IntOp.andi x y = 1#1 → x = 1#1 ∧ y = 1#1 := by decide
  refine ⟨fun b => eq_zero_of_cmpi (and1 _ _ (key b 0)).1, fun q => ?_⟩
  obtain ⟨h1, h2⟩ := and1 _ _ (and1 _ _ (key 0 q)).2
  have h1' : Ideal.cmp .oge (a8 (ix1 q)) (Ideal.ofBits .f32 0x00000000#32) = 1#1 := h1
  have h2' : Ideal.cmp .olt (a8 (ix1 q)) (Ideal.ofBits .f32 0x7F800000#32) = 1#1 := h2
  rw [show Ideal.ofBits .f32 0x00000000#32 = (0 : EReal) by simp [Ideal.ofBits, Ideal.ieee]] at h1'
  rw [show Ideal.ofBits .f32 0x7F800000#32 = (⊤ : EReal) by simp [Ideal.ofBits, Ideal.ieee]] at h2'
  have one : ∀ b : Bool, BitVec.ofBool b = 1#1 → b = true := by decide
  exact ⟨of_decide_eq_true (one _ h1'), ne_of_lt (of_decide_eq_true (one _ h2'))⟩
end

end Cert.Proof.Pre

end
-- ==== Proof.Cells.lean ====
/-
  What the kernel's payloads hold at an index, over the extended reals: the masked weight of a key row and a query lane,
  the gradient of the score, and the terms added to the three accumulators.
-/
module

public import proofs.«01_k».proof.Proof.Gen.KernelIdeal.Skeleton
public import Idealize.ShloMosaic.Lib.Pointwise
public import Idealize.ShloMosaic.Lib.Affine
public import Idealize.ShloMosaic.Lib.WordCmp

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic

/-- What one block of 256 query lanes (two heads of 128 positions) brings: the codes of the queries and of the output
    gradient, the scales of each lane, the row sum `dl`, the log-sum-exp, and the half-open range of key positions that
    lie in the lane's document. -/
structure Lanes where
  q : Fin 256 → Fin 256 → EReal
  g : Fin 256 → Fin 256 → EReal
  qs : Fin 256 → EReal
  gs : Fin 256 → EReal
  sc : Fin 256 → EReal
  vs : Fin 256 → EReal
  dl : Fin 256 → EReal
  ls : Fin 256 → EReal
  lo : Fin 256 → BitVec 32
  hi : Fin 256 → BitVec 32

/-- The lanes whose parts are the vectors the kernel holds at an inner trip. -/
def lanesOf (v24 v36 v40 v42 v73 v76 : FVec Ideal S1x256 .f32) (v61 : FVec Ideal S256x256 .fp8e4m3)
    (v64 : FVec Ideal S256x256 .fp8e5m2) (v79 v82 : IVec S1x256 32) : Lanes where
  q l e := v61 (ix2 l e)
  g l e := v64 (ix2 l e)
  qs l := v24 (ix2 0 l)
  gs l := v36 (ix2 0 l)
  sc l := v40 (ix2 0 l)
  vs l := v42 (ix2 0 l)
  dl l := v73 (ix2 0 l)
  ls l := v76 (ix2 0 l)
  lo l := v79 (ix2 0 l)
  hi l := v82 (ix2 0 l)

/-- The weight of key row `j` for lane `l`: the exponential of the scaled score less the log-sum-exp where the row lies
    in the lane's range, zero elsewhere. -/
def cellP (kk : Fin 1024 → Fin 256 → EReal) (L : Lanes) (j : Fin 1024) (l : Fin 256) : EReal :=
  if (L.lo l).toInt ≤ (j.val : ℤ) ∧ (j.val : ℤ) < (L.hi l).toInt then
    Ideal.exp ((∑ e : Fin 256, kk j e * L.q l e) * L.sc l - L.ls l)
  else 0

/-- The gradient of the score of key row `j` and lane `l`. -/
def cellD (kk vv : Fin 1024 → Fin 256 → EReal) (L : Lanes) (j : Fin 1024) (l : Fin 256) : EReal :=
  cellP kk L j l * ((∑ e : Fin 256, vv j e * L.g l e) * L.vs l - L.dl l)

/-- What the lanes add to the value gradient's row `r`. -/
def dvC (kk : Fin 1024 → Fin 256 → EReal) (L : Lanes) (r : Fin 1024) (d : Fin 256) : EReal :=
  ∑ l : Fin 256, cellP kk L r l * L.gs l * L.g l d

/-- What the lanes add to the key gradient's row `r`. -/
def dkC (kk vv : Fin 1024 → Fin 256 → EReal) (L : Lanes) (r : Fin 1024) (d : Fin 256) : EReal :=
  ∑ l : Fin 256, cellD kk vv L r l * L.qs l * L.q l d

/-- What chunk `t` of 128 key rows adds to the transposed query gradient. -/
def dqC (kk vv : Fin 1024 → Fin 256 → EReal) (L : Lanes) (t : ℕ) (d l : Fin 256) : EReal :=
  if h : t < 8 then ∑ p : Fin 128, kk ⟨t * 128 + p.val, by omega⟩ d * cellD kk vv L ⟨t * 128 + p.val, by omega⟩ l else 0

/-- The word of row `p` of chunk `a + k` is the row's number. -/
theorem row_word (a k p : ℕ) (ha : a + k < 8) (hp : p < 128) :
    (IntOp.addi (Scalar.muli (Scalar.addi (BitVec.ofNat 32 a) (Scalar.muli (Scf.iv 0#32 1#32 k) 1#32)) 128#32)
      (BitVec.ofNat 32 p)).toInt = (((a + k) * 128 + p : ℕ) : ℤ) := by
  have e : IntOp.addi (Scalar.muli (Scalar.addi (BitVec.ofNat 32 a) (Scalar.muli (Scf.iv 0#32 1#32 k) 1#32)) 128#32)
      (BitVec.ofNat 32 p) = BitVec.ofNat 32 ((a + k) * 128 + p) := by
    apply BitVec.eq_of_toNat_eq
    simp only [IntOp.addi, Scalar.muli, Scalar.addi, IntOp.muli, Scf.iv, BitVec.toNat_add, BitVec.toNat_mul, BitVec.toNat_ofNat]
    omega
  rw [e, BitVec.toInt_eq_toNat_of_lt (by rw [BitVec.toNat_ofNat]; omega), BitVec.toNat_ofNat]
  omega

/-- The masked weights an inner trip computes. -/
theorem pay12_apply (a : ℕ) (v92 : BitVec 32) (k : Fin (k0_t2_loop (BitVec.ofNat 32 a) v92).trips) (ha : a + k.val < 8)
    (v24 v36 v40 v42 v73 v76 : FVec Ideal S1x256 .f32) (v61 : FVec Ideal S256x256 .fp8e4m3) (v64 : FVec Ideal S256x256 .fp8e5m2)
    (v79 v82 : IVec S1x256 32) (v117 : Vec Ideal S1x1x128x256 .fp8e4m3) (kk : Fin 1024 → Fin 256 → EReal)
    (p : Fin 128) (l : Fin 256) (hk : ∀ e, v117 (ix4 0 0 p e) = kk ⟨(a + k.val) * 128 + p.val, by omega⟩ e) :
    k0_pay12 (F := Ideal) v40 v61 v76 v79 v82 (BitVec.ofNat 32 a) v92 1#32 0#32 1#32 k v117 (ix2 p l)
      = cellP kk (lanesOf v24 v36 v40 v42 v73 v76 v61 v64 v79 v82) ⟨(a + k.val) * 128 + p.val, by omega⟩ l := by
  pointwise [k0_pay12]
  unfold Scalar.select cellP
  have hm := row_word a k.val p.val ha p.isLt
  refine if_congr ?_ ?_ rfl
  · rw [show (1 : BitVec 1) = 1#1 from rfl, IntOp.andi_eq_one, IntOp.cmpi_sge, IntOp.cmpi_slt, hm]; rfl
  · simp only [hk]; rfl

/-- The score gradients an inner trip computes from its weights. -/
theorem pay13_apply (v40 v42 v73 v76 : FVec Ideal S1x256 .f32) (v61 : FVec Ideal S256x256 .fp8e4m3) (v64 : FVec Ideal S256x256 .fp8e5m2) (v79 v82 : IVec S1x256 32)
    (v89 v92 : BitVec 32) (k : Fin (k0_t2_loop v89 v92).trips)
    (v117 v120 : Vec Ideal S1x1x128x256 .fp8e4m3) (p : Fin 128) (l : Fin 256) :
    k0_pay13 (F := Ideal) v40 v42 v61 v64 v73 v76 v79 v82 v89 v92 1#32 0#32 1#32 k v117 v120 (ix2 p l)
      = k0_pay12 (F := Ideal) v40 v61 v76 v79 v82 v89 v92 1#32 0#32 1#32 k v117 (ix2 p l)
        * ((∑ e : Fin 256, v120 (ix4 0 0 p e) * v64 (ix2 l e)) * v42 (ix2 0 l) - v73 (ix2 0 l)) := by
  pointwise [k0_pay13]

/-- The value accumulator's rows after an inner trip. -/
theorem pay14_apply (v36 v40 v76 : FVec Ideal S1x256 .f32) (v61 : FVec Ideal S256x256 .fp8e4m3) (v64 : FVec Ideal S256x256 .fp8e5m2) (v79 v82 : IVec S1x256 32)
    (v89 v92 : BitVec 32) (k : Fin (k0_t2_loop v89 v92).trips)
    (v117 : Vec Ideal S1x1x128x256 .fp8e4m3) (v147 : Vec Ideal S128x256 .f32) (p : Fin 128) (d : Fin 256) :
    k0_pay3 (k0_pay14 (F := Ideal) v36 v40 v61 v64 v76 v79 v82 v89 v92 1#32 0#32 1#32 k v117 v147) (ix2 p d)
      = v147 (ix2 p d) + ∑ l : Fin 256, k0_pay12 (F := Ideal) v40 v61 v76 v79 v82 v89 v92 1#32 0#32 1#32 k v117 (ix2 p l)
        * v36 (ix2 0 l) * v64 (ix2 l d) := by
  pointwise [k0_pay3, k0_pay14]

/-- The key accumulator's rows after an inner trip. -/
theorem pay4_apply (v24 : FVec Ideal S1x256 .f32) (v61 : FVec Ideal S256x256 .fp8e4m3) (v145 v159 : Vec Ideal S128x256 .f32) (p : Fin 128) (d : Fin 256) :
    k0_pay4 (F := Ideal) v24 v61 v145 v159 (ix2 p d)
      = v159 (ix2 p d) + ∑ l : Fin 256, v145 (ix2 p l) * v24 (ix2 0 l) * v61 (ix2 l d) := by
  pointwise [k0_pay4]

/-- The transposed query accumulator after an inner trip. -/
theorem pay5_apply (v145 : Vec Ideal S128x256 .f32) (v170 : Vec Ideal S256x256 .f32) (v172 : Vec Ideal S1x1x1x256x128 .fp8e4m3) (d l : Fin 256) :
    k0_pay5 (F := Ideal) v145 v170 v172 (ix2 d l)
      = v170 (ix2 d l) + ∑ p : Fin 128, v172 (ix5 0 0 0 d p) * v145 (ix2 p l) := by
  pointwise [k0_pay5]

/-- The row sums of the output gradient with the output, scaled. -/
theorem pay20_apply (v36 : FVec Ideal S1x256 .f32) (v63 : Vec Ideal S1x1x1x256x256 .fp8e5m2) (v67 : Vec Ideal S1x1x1x256x256 .bf16) (l : Fin 256) :
    k0_pay20 (F := Ideal) v36 k0_pay2 v63 v67 (ix2 0 l)
      = (∑ e : Fin 256, v63 (ix5 0 0 0 l e) * v67 (ix5 0 0 0 l e)) * v36 (ix2 0 l) := by
  pointwise [k0_pay20, k0_pay2, k0_pay19]

/-- A block of the query gradient from the transposed accumulator. -/
theorem pay9_apply (v9 : EReal) (v102 : Vec Ideal S256x256 .f32) (l d : Fin 256) :
    k0_pay9 (F := Ideal) v9 v102 (ix5 0 0 0 l d) = v102 (ix2 d l) * (v9 * Ideal.ofBits .f32 0x3D800000#32) := by
  pointwise [k0_pay9]

/-- The key gradient from its accumulator. -/
theorem pay10_apply (v : Vec Ideal S1024x256 .f32) (r : Fin 1024) (d : Fin 256) :
    k0_pay10 (F := Ideal) v (ix4 0 0 r d) = v (ix2 r d) * Ideal.ofBits .f32 0x3D800000#32 := by
  pointwise [k0_pay10]

/-- The value gradient from its accumulator. -/
theorem pay11_apply (v : Vec Ideal S1024x256 .f32) (r : Fin 1024) (d : Fin 256) :
    k0_pay11 (F := Ideal) v (ix4 0 0 r d) = v (ix2 r d) := by
  pointwise [k0_pay11]

/-- A per-head pair of scales laid out over the lanes. -/
theorem pay27_apply (x y : EReal) (l : Fin 256) : k0_pay27 (F := Ideal) x y (ix2 0 l) = if l.val < 128 then x else y := by
  pointwise [k0_pay27]
  unfold Scalar.select
  refine if_congr ?_ rfl rfl
  rw [show (1 : BitVec 1) = 1#1 from rfl, IntOp.cmpi_slt, BitVec.toInt_eq_toNat_of_lt (by rw [BitVec.toNat_ofNat]; omega),
    BitVec.toNat_ofNat]
  have : (128#32).toInt = 128 := by decide
  omega

/-- The output gradient's scales are laid out as the queries' are. -/
theorem pay28_eq : k0_pay28 (F := Ideal) = k0_pay27 := rfl

/-- The scale of the scores. -/
theorem pay29_apply (v x y : EReal) (l : Fin 256) : k0_pay29 (F := Ideal) v x y (ix2 0 l) = k0_pay27 (F := Ideal) x y (ix2 0 l) * v * Ideal.ofBits .f32 0x3D800000#32 := by
  pointwise [k0_pay29]

end Cert.Proof.KernelIdeal

end
-- ==== Proof.Rows.lean ====
/-
  What an accumulator holds after trips of a loop that each load some of it, add to what they loaded and store it back:
  once for chunks of 128 whole rows of a 1024-row accumulator, once for an accumulator loaded and stored whole.
-/
module

public import proofs.«01_k».proof.Proof.Cells
public import Idealize.ShloMosaic.Lib.WritesUnit

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic

/-- Trip `k` adds `C` to the 128 rows from `(a + k) * 128`: after `k` trips the rows from `a * 128` up to
    `(a + k) * 128` have had `C` added once. -/
theorem read_rows (v : View sig .tc .vmem S1024x256 .f32) (f : v.ty.Contents (Elt Ideal)) (n a : ℕ)
    (L : ℕ → List (View.Piece (Elt Ideal) S1024x256 .f32)) (C : Fin 1024 → Fin 256 → EReal) (hn : a + n ≤ 8) (h0 : L 0 = [])
    (hs : ∀ k (hk : k < n), ∃ (off : Fin 2 → ℕ) (inb : ∀ x : Fin 2, off x + S128x256.size x ≤ S1024x256.size x)
      (w : (Rect.unit (s := S1024x256) off S128x256.size inb).shape.Idx → Elt Ideal .f32), off = ![(a + k) * 128, 0]
        ∧ L (k + 1) = ⟨Rect.unit (s := S1024x256) off S128x256.size inb, w⟩ :: L k
        ∧ ∀ (p : Fin 128) (d : Fin 256), w (ix2 p d)
          = (v.readAt (Elt Ideal) (Rect.unit (s := S1024x256) off S128x256.size inb).toLoadRect (v.writes (Elt Ideal) f (L k)) (ix2 p d) : EReal)
            + C ⟨(a + k) * 128 + p.val, by omega⟩ d) :
    ∀ k ≤ n, ∀ (r : Fin 1024) (d : Fin 256), v.read (Elt Ideal) (v.writes (Elt Ideal) f (L k)) (ix2 r d)
      = (v.read (Elt Ideal) f (ix2 r d) : EReal) + if a * 128 ≤ r.val ∧ r.val < (a + k) * 128 then C r d else 0 := by
  intro k
  induction k with
  | zero =>
    intro _ r d
    rw [h0, if_neg (by omega), add_zero]
    rfl
  | succ k ih =>
    intro hk r d
    obtain ⟨off, inb, w, ho, hL, hw⟩ := hs k hk
    have ih := ih (by omega) r d
    rw [hL]
    by_cases hr : (a + k) * 128 ≤ r.val ∧ r.val < (a + k) * 128 + 128
    · have hx := View.read_writes_cons_rows_of_mem v f (d := S1024x256.size) (o := (a + k) * 128) inb w (L k) (ix2 r d)
        (ix2 (⟨r.val - (a + k) * 128, by omega⟩ : Fin 128) d) ho
        (by show r.val = (a + k) * 128 + (r.val - (a + k) * 128); omega) rfl
      rw [if_neg (by omega), add_zero] at ih
      refine hx.trans ?_
      rw [hw, View.readAt_apply, if_pos (by omega)]
      have e1 : (Rect.unit (s := S1024x256) off S128x256.size inb).toLoadRect.idx
          (ix2 (⟨r.val - (a + k) * 128, by omega⟩ : Fin 128) d) = (ix2 r d : S1024x256.Idx) := by
        subst ho
        funext x
        apply Fin.ext
        fin_cases x
        · show (a + k) * 128 + 1 * (r.val - (a + k) * 128) = r.val; omega
        · show 0 + 1 * d.val = d.val; omega
      have e2 : (⟨(a + k) * 128 + (r.val - (a + k) * 128), by omega⟩ : Fin 1024) = r := Fin.ext (by show _ + (_ - _) = _; omega)
      exact congr (congrArg HAdd.hAdd ((congrArg _ e1).trans ih)) (congrArg (C · d) e2)
    · have hx := View.read_writes_cons_rows_of_not_mem v f (d := S1024x256.size) (o := (a + k) * 128) (W := 128) inb w (L k) (ix2 r d) ho rfl
        (by show r.val < (a + k) * 128 ∨ (a + k) * 128 + 128 ≤ r.val; omega)
      refine hx.trans (ih.trans ?_)
      exact congrArg _ (if_congr (by omega) rfl rfl)

/-- Trip `k` adds `C k` to the whole accumulator: after `k` trips it has had the terms of the trips before added. -/
theorem read_whole (v : View sig .tc .vmem S256x256 .f32) (f : v.ty.Contents (Elt Ideal)) (n : ℕ)
    (L : ℕ → List (View.Piece (Elt Ideal) S256x256 .f32)) (C : ℕ → Fin 256 → Fin 256 → EReal) (h0 : L 0 = [])
    (hs : ∀ k (hk : k < n), ∃ (inb : ∀ x : Fin 2, (![0, 0] : Fin 2 → ℕ) x + S256x256.size x ≤ S256x256.size x)
      (w : (Rect.unit (s := S256x256) ![0, 0] S256x256.size inb).shape.Idx → Elt Ideal .f32),
        L (k + 1) = ⟨Rect.unit (s := S256x256) ![0, 0] S256x256.size inb, w⟩ :: L k
        ∧ ∀ (d l : Fin 256), w (ix2 d l)
          = (v.readAt (Elt Ideal) (Rect.unit (s := S256x256) ![0, 0] S256x256.size inb).toLoadRect (v.writes (Elt Ideal) f (L k)) (ix2 d l) : EReal)
            + C k d l) :
    ∀ k ≤ n, ∀ (d l : Fin 256), v.read (Elt Ideal) (v.writes (Elt Ideal) f (L k)) (ix2 d l)
      = (v.read (Elt Ideal) f (ix2 d l) : EReal) + ∑ t ∈ Finset.range k, C t d l := by
  intro k
  induction k with
  | zero =>
    intro _ d l
    rw [h0, Finset.range_zero, Finset.sum_empty, add_zero]
    rfl
  | succ k ih =>
    intro hk d l
    obtain ⟨inb, w, hL, hw⟩ := hs k hk
    have ih := ih (by omega) d l
    rw [hL]
    have hx := View.read_writes_cons_rows_of_mem v f (d := S256x256.size) (o := 0) inb w (L k) (ix2 d l) (ix2 d l) rfl
      (by show d.val = 0 + d.val; omega) rfl
    refine hx.trans ?_
    rw [hw, View.readAt_apply, Finset.sum_range_succ, ← add_assoc]
    have e1 : (Rect.unit (s := S256x256) ![0, 0] S256x256.size inb).toLoadRect.idx (ix2 d l) = (ix2 d l : S256x256.Idx) := by
      funext x
      apply Fin.ext
      fin_cases x
      · show 0 + 1 * d.val = d.val; omega
      · show 0 + 1 * l.val = l.val; omega
    exact congrArg (· + C k d l) ((congrArg _ e1).trans ih)

end Cert.Proof.KernelIdeal

end
-- ==== Proof.Trip.lean ====
/-
  One trip of the inner loop, over the extended reals, and what the three accumulators hold after the loop: each chunk
  of key rows of the loop's range has had the lanes' terms added once.
-/
module

public import proofs.«01_k».proof.Proof.Rows
public import proofs.«01_k».proof.Proof.Gen.KernelIdeal.Loops

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic

/-- The inner loop runs once per chunk from `a` up to `b`. -/
theorem t2_trips : ∀ a b : Fin 9, (k0_t2_loop (BitVec.ofNat 32 a) (BitVec.ofNat 32 b)).trips = b.val - a.val := by decide +kernel

/-- The remainder loop does not run. -/
theorem t3_trips : ∀ a b : Fin 9, (k0_t3_loop (BitVec.ofNat 32 a) (BitVec.ofNat 32 b)).trips = 0 := by decide +kernel

/-- Where a trip loads its key and value rows. -/
theorem off8_eq : ∀ (a b : Fin 9) (k : Fin (k0_t2_loop (BitVec.ofNat 32 a) (BitVec.ofNat 32 b)).trips),
    k0_off8 (BitVec.ofNat 32 a) (BitVec.ofNat 32 b) k = ![0, 0, (a.val + k.val) * 128, 0] := by decide +kernel

/-- Where a trip loads and stores its accumulator rows. -/
theorem off9_eq : ∀ (a b : Fin 9) (k : Fin (k0_t2_loop (BitVec.ofNat 32 a) (BitVec.ofNat 32 b)).trips),
    k0_off9 (BitVec.ofNat 32 a) (BitVec.ofNat 32 b) k = ![(a.val + k.val) * 128, 0] := by decide +kernel

/-- Where a trip loads its transposed key chunk. -/
theorem off10_eq : ∀ (a b : Fin 9) (k : Fin (k0_t2_loop (BitVec.ofNat 32 a) (BitVec.ofNat 32 b)).trips),
    k0_off10 (BitVec.ofNat 32 a) (BitVec.ofNat 32 b) k = ![0, 0, a.val + k.val, 0, 0] := by decide +kernel

/-- The pieces one inner trip writes. -/
theorem tripL_eq (c : Dev nD) (i : grid0.Coords)
  (arg2 : Memref sig .tc .smem S8 .f32) (harg2 : arg2.IsWhole) (arg3 : Memref sig .tc .smem S4 .f32) (harg3 : arg3.IsWhole)
  (arg4 : Memref sig .tc .smem S4 .f32) (harg4 : arg4.IsWhole) (arg5 : Memref sig .tc .smem S8 .f32) (harg5 : arg5.IsWhole)
  (arg6 : Memref sig .tc .smem S24x8 .i32) (harg6 : arg6.IsWhole) (arg7 : Memref sig .tc .smem S24x8 .i32) (harg7 : arg7.IsWhole)
  (arg8 : Memref sig .tc .vmem S1x1x8x256x256 .fp8e4m3) (harg8 : arg8.IsWhole) (arg9 : Memref sig .tc .vmem S1x1x1024x256 .fp8e4m3) (harg9 : arg9.IsWhole)
  (arg10 : Memref sig .tc .vmem S1x1x8x256x128 .fp8e4m3) (harg10 : arg10.IsWhole) (arg11 : Memref sig .tc .vmem S1x1x1024x256 .fp8e4m3) (harg11 : arg11.IsWhole)
  (arg12 : Memref sig .tc .vmem S1x1x8x256x256 .fp8e5m2) (harg12 : arg12.IsWhole) (arg13 : Memref sig .tc .vmem S1x1x8x256x256 .bf16) (harg13 : arg13.IsWhole)
  (arg14 : Memref sig .tc .vmem S1x1x8x1x256 .f32) (harg14 : arg14.IsWhole) (arg15 : Memref sig .tc .vmem S1x8x1x256 .i32) (harg15 : arg15.IsWhole)
  (arg16 : Memref sig .tc .vmem S1x8x1x256 .i32) (harg16 : arg16.IsWhole) (arg17 : Memref sig .tc .vmem S1x1x8x256x256 .bf16) (harg17 : arg17.IsWhole)
  (arg18 : Memref sig .tc .vmem S1x1x1024x256 .bf16) (harg18 : arg18.IsWhole) (arg19 : Memref sig .tc .vmem S1x1x1024x256 .bf16) (harg19 : arg19.IsWhole)
  (arg20 : Memref sig .tc .vmem S1024x256 .f32) (harg20 : arg20.IsWhole) (arg21 : Memref sig .tc .vmem S1024x256 .f32) (harg21 : arg21.IsWhole)
  (arg22 : Memref sig .tc .vmem S256x256 .f32) (harg22 : arg22.IsWhole)
  (v11 : EReal) (v24 v36 v40 : FVec Ideal S1x256 .f32) (v61 : FVec Ideal S256x256 .fp8e4m3) (v64 : FVec Ideal S256x256 .fp8e5m2)
  (v73 v76 : FVec Ideal S1x256 .f32) (v79 v82 : IVec S1x256 32) (v89 v92 : BitVec 32) (hw : k0_chk1 v89 v92)
  (X9 : BufTy.Contents (Elt Ideal) arg9.view.ty) (X10 : BufTy.Contents (Elt Ideal) arg10.view.ty) (X11 : BufTy.Contents (Elt Ideal) arg11.view.ty) (f20 : BufTy.Contents (Elt Ideal) arg20.view.ty) (f21 : BufTy.Contents (Elt Ideal) arg21.view.ty) (f22 : BufTy.Contents (Elt Ideal) arg22.view.ty) (k : Fin (k0_t2_loop v89 v92).trips) :
    tripL_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 v61 v64 v73 v76 v79 v82 v89 v92 hw X9 X10 X11 k f20 f21 f22
      = ([⟨Rect.unit (s := S1024x256) (k0_off9 v89 v92 k) S128x256.size (k0_off9_inb v89 v92 hw k), k0_pay4 (F := Ideal) v24 v61 (k0_pay13 (F := Ideal) v40 (k0_pay1 v11 v36) v61 v64 v73 v76 v79 v82 v89 v92 1#32 0#32 1#32 k (View.readAt (Elt Ideal) arg9.view (Rect.unit (s := S1x1x1024x256) (k0_off8 v89 v92 k) S1x1x128x256.size (k0_off8_inb v89 v92 hw k)).toLoadRect X9) (View.readAt (Elt Ideal) arg11.view (Rect.unit (s := S1x1x1024x256) (k0_off8 v89 v92 k) S1x1x128x256.size (k0_off8_inb v89 v92 hw k)).toLoadRect X11)) (View.readAt (Elt Ideal) arg20.view (Rect.unit (s := S1024x256) (k0_off9 v89 v92 k) S128x256.size (k0_off9_inb v89 v92 hw k)).toLoadRect f20)⟩],
        [⟨Rect.unit (s := S1024x256) (k0_off9 v89 v92 k) S128x256.size (k0_off9_inb v89 v92 hw k), k0_pay3 (k0_pay14 (F := Ideal) v36 v40 v61 v64 v76 v79 v82 v89 v92 1#32 0#32 1#32 k (View.readAt (Elt Ideal) arg9.view (Rect.unit (s := S1x1x1024x256) (k0_off8 v89 v92 k) S1x1x128x256.size (k0_off8_inb v89 v92 hw k)).toLoadRect X9) (View.readAt (Elt Ideal) arg21.view (Rect.unit (s := S1024x256) (k0_off9 v89 v92 k) S128x256.size (k0_off9_inb v89 v92 hw k)).toLoadRect f21))⟩],
        [⟨Rect.unit (s := S256x256) ![0, 0] S256x256.size inb_S256x256_S256x256_0_0, k0_pay5 (F := Ideal) (k0_pay13 (F := Ideal) v40 (k0_pay1 v11 v36) v61 v64 v73 v76 v79 v82 v89 v92 1#32 0#32 1#32 k (View.readAt (Elt Ideal) arg9.view (Rect.unit (s := S1x1x1024x256) (k0_off8 v89 v92 k) S1x1x128x256.size (k0_off8_inb v89 v92 hw k)).toLoadRect X9) (View.readAt (Elt Ideal) arg11.view (Rect.unit (s := S1x1x1024x256) (k0_off8 v89 v92 k) S1x1x128x256.size (k0_off8_inb v89 v92 hw k)).toLoadRect X11)) (View.readAt (Elt Ideal) arg22.view (Rect.unit (s := S256x256) ![0, 0] S256x256.size inb_S256x256_S256x256_0_0).toLoadRect f22) (View.readAt (Elt Ideal) arg10.view (Rect.unit (s := S1x1x8x256x128) (k0_off10 v89 v92 k) S1x1x1x256x128.size (k0_off10_inb v89 v92 hw k)).toLoadRect X10)⟩]) := by
  unfold tripL_k0_t2 trip_k0_t2
  rfl

/-- A row of a loaded chunk is the row of the whole block. -/
theorem read_chunk {τe : EltTy} (v : View sig .tc .vmem S1x1x1024x256 τe) (X : v.ty.Contents (Elt Ideal)) (a b : Fin 9)
    (k : Fin (k0_t2_loop (BitVec.ofNat 32 a) (BitVec.ofNat 32 b)).trips) (hw : k0_chk1 (BitVec.ofNat 32 a) (BitVec.ofNat 32 b))
    (hk : a.val + k.val < 8) (p : Fin 128) (e : Fin 256) :
    View.readAt (Elt Ideal) v (Rect.unit (s := S1x1x1024x256) (k0_off8 (BitVec.ofNat 32 a) (BitVec.ofNat 32 b) k) S1x1x128x256.size (k0_off8_inb (BitVec.ofNat 32 a) (BitVec.ofNat 32 b) hw k)).toLoadRect X (ix4 0 0 p e)
      = v.read (Elt Ideal) X (ix4 0 0 (⟨(a.val + k.val) * 128 + p.val, by omega⟩ : Fin 1024) e) := by
  rw [View.readAt_apply]
  refine congrArg _ (funext fun x => Fin.ext ?_)
  have ho := congrFun (off8_eq a b k) x
  show k0_off8 (BitVec.ofNat 32 a) (BitVec.ofNat 32 b) k x + 1 * _ = _
  rw [ho]
  fin_cases x
  · rfl
  · rfl
  · show (a.val + k.val) * 128 + 1 * p.val = (a.val + k.val) * 128 + p.val; omega
  · show 0 + 1 * e.val = e.val; omega

/-- A loaded transposed chunk is the chunk of the whole block. -/
theorem read_chunkT (v : View sig .tc .vmem S1x1x8x256x128 .fp8e4m3) (X : v.ty.Contents (Elt Ideal)) (a b : Fin 9)
    (k : Fin (k0_t2_loop (BitVec.ofNat 32 a) (BitVec.ofNat 32 b)).trips) (hw : k0_chk1 (BitVec.ofNat 32 a) (BitVec.ofNat 32 b))
    (hk : a.val + k.val < 8) (d : Fin 256) (p : Fin 128) :
    View.readAt (Elt Ideal) v (Rect.unit (s := S1x1x8x256x128) (k0_off10 (BitVec.ofNat 32 a) (BitVec.ofNat 32 b) k) S1x1x1x256x128.size (k0_off10_inb (BitVec.ofNat 32 a) (BitVec.ofNat 32 b) hw k)).toLoadRect X (ix5 0 0 0 d p)
      = v.read (Elt Ideal) X (ix5 0 0 (⟨a.val + k.val, hk⟩ : Fin 8) d p) := by
  rw [View.readAt_apply]
  refine congrArg _ (funext fun x => Fin.ext ?_)
  have ho := congrFun (off10_eq a b k) x
  show k0_off10 (BitVec.ofNat 32 a) (BitVec.ofNat 32 b) k x + 1 * _ = _
  rw [ho]
  fin_cases x
  · rfl
  · rfl
  · show a.val + k.val + 1 * 0 = a.val + k.val; omega
  · show 0 + 1 * d.val = d.val; omega
  · show 0 + 1 * p.val = p.val; omega

section Loop

variable (c : Dev nD) (i : grid0.Coords)
  (arg2 : Memref sig .tc .smem S8 .f32) (harg2 : arg2.IsWhole) (arg3 : Memref sig .tc .smem S4 .f32) (harg3 : arg3.IsWhole)
  (arg4 : Memref sig .tc .smem S4 .f32) (harg4 : arg4.IsWhole) (arg5 : Memref sig .tc .smem S8 .f32) (harg5 : arg5.IsWhole)
  (arg6 : Memref sig .tc .smem S24x8 .i32) (harg6 : arg6.IsWhole) (arg7 : Memref sig .tc .smem S24x8 .i32) (harg7 : arg7.IsWhole)
  (arg8 : Memref sig .tc .vmem S1x1x8x256x256 .fp8e4m3) (harg8 : arg8.IsWhole) (arg9 : Memref sig .tc .vmem S1x1x1024x256 .fp8e4m3) (harg9 : arg9.IsWhole)
  (arg10 : Memref sig .tc .vmem S1x1x8x256x128 .fp8e4m3) (harg10 : arg10.IsWhole) (arg11 : Memref sig .tc .vmem S1x1x1024x256 .fp8e4m3) (harg11 : arg11.IsWhole)
  (arg12 : Memref sig .tc .vmem S1x1x8x256x256 .fp8e5m2) (harg12 : arg12.IsWhole) (arg13 : Memref sig .tc .vmem S1x1x8x256x256 .bf16) (harg13 : arg13.IsWhole)
  (arg14 : Memref sig .tc .vmem S1x1x8x1x256 .f32) (harg14 : arg14.IsWhole) (arg15 : Memref sig .tc .vmem S1x8x1x256 .i32) (harg15 : arg15.IsWhole)
  (arg16 : Memref sig .tc .vmem S1x8x1x256 .i32) (harg16 : arg16.IsWhole) (arg17 : Memref sig .tc .vmem S1x1x8x256x256 .bf16) (harg17 : arg17.IsWhole)
  (arg18 : Memref sig .tc .vmem S1x1x1024x256 .bf16) (harg18 : arg18.IsWhole) (arg19 : Memref sig .tc .vmem S1x1x1024x256 .bf16) (harg19 : arg19.IsWhole)
  (arg20 : Memref sig .tc .vmem S1024x256 .f32) (harg20 : arg20.IsWhole) (arg21 : Memref sig .tc .vmem S1024x256 .f32) (harg21 : arg21.IsWhole)
  (arg22 : Memref sig .tc .vmem S256x256 .f32) (harg22 : arg22.IsWhole)
  (v11 : EReal) (v24 v36 v40 : FVec Ideal S1x256 .f32) (v61 : FVec Ideal S256x256 .fp8e4m3) (v64 : FVec Ideal S256x256 .fp8e5m2)
  (v73 v76 : FVec Ideal S1x256 .f32) (v79 v82 : IVec S1x256 32)
  (a b : Fin 9) (hw : k0_chk1 (BitVec.ofNat 32 a) (BitVec.ofNat 32 b))
  (X9 : BufTy.Contents (Elt Ideal) arg9.view.ty) (X10 : BufTy.Contents (Elt Ideal) arg10.view.ty) (X11 : BufTy.Contents (Elt Ideal) arg11.view.ty) (f20 : BufTy.Contents (Elt Ideal) arg20.view.ty) (f21 : BufTy.Contents (Elt Ideal) arg21.view.ty) (f22 : BufTy.Contents (Elt Ideal) arg22.view.ty)

/-- The score gradients of a trip, by key row. -/
theorem trip_D (k : Fin (k0_t2_loop (BitVec.ofNat 32 a) (BitVec.ofNat 32 b)).trips) (hk : a.val + k.val < 8) (p : Fin 128) (l : Fin 256) :
    (k0_pay13 (F := Ideal) v40 (k0_pay1 v11 v36) v61 v64 v73 v76 v79 v82 (BitVec.ofNat 32 a) (BitVec.ofNat 32 b) 1#32 0#32 1#32 k (View.readAt (Elt Ideal) arg9.view (Rect.unit (s := S1x1x1024x256) (k0_off8 (BitVec.ofNat 32 a) (BitVec.ofNat 32 b) k) S1x1x128x256.size (k0_off8_inb (BitVec.ofNat 32 a) (BitVec.ofNat 32 b) hw k)).toLoadRect X9) (View.readAt (Elt Ideal) arg11.view (Rect.unit (s := S1x1x1024x256) (k0_off8 (BitVec.ofNat 32 a) (BitVec.ofNat 32 b) k) S1x1x128x256.size (k0_off8_inb (BitVec.ofNat 32 a) (BitVec.ofNat 32 b) hw k)).toLoadRect X11)) (ix2 p l)
      = cellD (fun j e => arg9.view.read (Elt Ideal) X9 (ix4 0 0 j e)) (fun j e => arg11.view.read (Elt Ideal) X11 (ix4 0 0 j e)) (lanesOf v24 v36 v40 (k0_pay1 (F := Ideal) v11 v36) v73 v76 v61 v64 v79 v82) ⟨(a.val + k.val) * 128 + p.val, by omega⟩ l := by
  rw [pay13_apply, pay12_apply a.val _ k hk v24 v36 v40 (k0_pay1 v11 v36) v73 v76 v61 v64 v79 v82 _ (fun j e => arg9.view.read (Elt Ideal) X9 (ix4 0 0 j e)) p l (fun e => read_chunk arg9.view X9 a b k hw hk p e)]
  unfold cellD
  simp only [read_chunk arg11.view X11 a b k hw hk p]
  rfl

/-- The key accumulator after `k` trips. -/
theorem inner_dk : ∀ k ≤ (k0_t2_loop (BitVec.ofNat 32 a) (BitVec.ofNat 32 b)).trips, ∀ (r : Fin 1024) (d : Fin 256),
    arg20.view.read (Elt Ideal) (arg20.view.writes (Elt Ideal) f20 (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 v61 v64 v73 v76 v79 v82 (BitVec.ofNat 32 a) (BitVec.ofNat 32 b) hw X9 X10 X11 f20 f21 f22 k).1) (ix2 r d)
      = (arg20.view.read (Elt Ideal) f20 (ix2 r d) : EReal)
        + if a.val * 128 ≤ r.val ∧ r.val < (a.val + k) * 128 then dkC (fun j e => arg9.view.read (Elt Ideal) X9 (ix4 0 0 j e)) (fun j e => arg11.view.read (Elt Ideal) X11 (ix4 0 0 j e)) (lanesOf v24 v36 v40 (k0_pay1 (F := Ideal) v11 v36) v73 v76 v61 v64 v79 v82) r d else 0 := by
  have ht := t2_trips a b
  refine read_rows arg20.view f20 _ a.val (fun k => (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 v61 v64 v73 v76 v79 v82 (BitVec.ofNat 32 a) (BitVec.ofNat 32 b) hw X9 X10 X11 f20 f21 f22 k).1) (dkC (fun j e => arg9.view.read (Elt Ideal) X9 (ix4 0 0 j e)) (fun j e => arg11.view.read (Elt Ideal) X11 (ix4 0 0 j e)) (lanesOf v24 v36 v40 (k0_pay1 (F := Ideal) v11 v36) v73 v76 v61 v64 v79 v82)) (by rw [ht]; omega) rfl fun k hk => ?_
  have hk' : a.val + k < 8 := by rw [ht] at hk; omega
  refine ⟨_, k0_off9_inb _ _ hw ⟨k, hk⟩, k0_pay4 (F := Ideal) v24 v61 (k0_pay13 (F := Ideal) v40 (k0_pay1 v11 v36) v61 v64 v73 v76 v79 v82 (BitVec.ofNat 32 a) (BitVec.ofNat 32 b) 1#32 0#32 1#32 ⟨k, hk⟩ (View.readAt (Elt Ideal) arg9.view (Rect.unit (s := S1x1x1024x256) (k0_off8 (BitVec.ofNat 32 a) (BitVec.ofNat 32 b) ⟨k, hk⟩) S1x1x128x256.size (k0_off8_inb (BitVec.ofNat 32 a) (BitVec.ofNat 32 b) hw ⟨k, hk⟩)).toLoadRect X9) (View.readAt (Elt Ideal) arg11.view (Rect.unit (s := S1x1x1024x256) (k0_off8 (BitVec.ofNat 32 a) (BitVec.ofNat 32 b) ⟨k, hk⟩) S1x1x128x256.size (k0_off8_inb (BitVec.ofNat 32 a) (BitVec.ofNat 32 b) hw ⟨k, hk⟩)).toLoadRect X11)) (View.readAt (Elt Ideal) arg20.view (Rect.unit (s := S1024x256) (k0_off9 (BitVec.ofNat 32 a) (BitVec.ofNat 32 b) ⟨k, hk⟩) S128x256.size (k0_off9_inb (BitVec.ofNat 32 a) (BitVec.ofNat 32 b) hw ⟨k, hk⟩)).toLoadRect (arg20.view.writes (Elt Ideal) f20 (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 v61 v64 v73 v76 v79 v82 (BitVec.ofNat 32 a) (BitVec.ofNat 32 b) hw X9 X10 X11 f20 f21 f22 k).1)), off9_eq a b ⟨k, hk⟩, ?_, ?_⟩
  · show (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 v61 v64 v73 v76 v79 v82 (BitVec.ofNat 32 a) (BitVec.ofNat 32 b) hw X9 X10 X11 f20 f21 f22 (k + 1)).1 = _
    rw [pb_k0_t2_succ Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 v61 v64 v73 v76 v79 v82 _ _ hw X9 X10 X11 f20 f21 f22 ⟨k, hk⟩, tripL_eq]
    rfl
  · intro p d
    rw [pay4_apply]
    refine congrArg _ (Finset.sum_congr rfl fun l _ => ?_)
    rw [trip_D (hw := hw) (hk := hk')]
    rfl

/-- The value accumulator after `k` trips. -/
theorem inner_dv : ∀ k ≤ (k0_t2_loop (BitVec.ofNat 32 a) (BitVec.ofNat 32 b)).trips, ∀ (r : Fin 1024) (d : Fin 256),
    arg21.view.read (Elt Ideal) (arg21.view.writes (Elt Ideal) f21 (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 v61 v64 v73 v76 v79 v82 (BitVec.ofNat 32 a) (BitVec.ofNat 32 b) hw X9 X10 X11 f20 f21 f22 k).2.1) (ix2 r d)
      = (arg21.view.read (Elt Ideal) f21 (ix2 r d) : EReal)
        + if a.val * 128 ≤ r.val ∧ r.val < (a.val + k) * 128 then dvC (fun j e => arg9.view.read (Elt Ideal) X9 (ix4 0 0 j e)) (lanesOf v24 v36 v40 (k0_pay1 (F := Ideal) v11 v36) v73 v76 v61 v64 v79 v82) r d else 0 := by
  have ht := t2_trips a b
  refine read_rows arg21.view f21 _ a.val (fun k => (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 v61 v64 v73 v76 v79 v82 (BitVec.ofNat 32 a) (BitVec.ofNat 32 b) hw X9 X10 X11 f20 f21 f22 k).2.1) (dvC (fun j e => arg9.view.read (Elt Ideal) X9 (ix4 0 0 j e)) (lanesOf v24 v36 v40 (k0_pay1 (F := Ideal) v11 v36) v73 v76 v61 v64 v79 v82)) (by rw [ht]; omega) rfl fun k hk => ?_
  have hk' : a.val + k < 8 := by rw [ht] at hk; omega
  refine ⟨_, k0_off9_inb _ _ hw ⟨k, hk⟩, k0_pay3 (k0_pay14 (F := Ideal) v36 v40 v61 v64 v76 v79 v82 (BitVec.ofNat 32 a) (BitVec.ofNat 32 b) 1#32 0#32 1#32 ⟨k, hk⟩ (View.readAt (Elt Ideal) arg9.view (Rect.unit (s := S1x1x1024x256) (k0_off8 (BitVec.ofNat 32 a) (BitVec.ofNat 32 b) ⟨k, hk⟩) S1x1x128x256.size (k0_off8_inb (BitVec.ofNat 32 a) (BitVec.ofNat 32 b) hw ⟨k, hk⟩)).toLoadRect X9) (View.readAt (Elt Ideal) arg21.view (Rect.unit (s := S1024x256) (k0_off9 (BitVec.ofNat 32 a) (BitVec.ofNat 32 b) ⟨k, hk⟩) S128x256.size (k0_off9_inb (BitVec.ofNat 32 a) (BitVec.ofNat 32 b) hw ⟨k, hk⟩)).toLoadRect (arg21.view.writes (Elt Ideal) f21 (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 v61 v64 v73 v76 v79 v82 (BitVec.ofNat 32 a) (BitVec.ofNat 32 b) hw X9 X10 X11 f20 f21 f22 k).2.1))), off9_eq a b ⟨k, hk⟩, ?_, ?_⟩
  · show (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 v61 v64 v73 v76 v79 v82 (BitVec.ofNat 32 a) (BitVec.ofNat 32 b) hw X9 X10 X11 f20 f21 f22 (k + 1)).2.1 = _
    rw [pb_k0_t2_succ Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 v61 v64 v73 v76 v79 v82 _ _ hw X9 X10 X11 f20 f21 f22 ⟨k, hk⟩, tripL_eq]
    rfl
  · intro p d
    rw [pay14_apply]
    refine congrArg _ (Finset.sum_congr rfl fun l _ => ?_)
    rw [pay12_apply a.val _ ⟨k, hk⟩ hk' v24 v36 v40 (k0_pay1 v11 v36) v73 v76 v61 v64 v79 v82 _ (fun j e => arg9.view.read (Elt Ideal) X9 (ix4 0 0 j e)) p l (fun e => read_chunk arg9.view X9 a b ⟨k, hk⟩ hw hk' p e)]
    rfl

/-- The transposed query accumulator after `k` trips. -/
theorem inner_dq (hT : ∀ (c' : Fin 8) (d : Fin 256) (p : Fin 128), arg10.view.read (Elt Ideal) X10 (ix5 0 0 c' d p)
      = arg9.view.read (Elt Ideal) X9 (ix4 0 0 (⟨c'.val * 128 + p.val, by omega⟩ : Fin 1024) d)) :
    ∀ k ≤ (k0_t2_loop (BitVec.ofNat 32 a) (BitVec.ofNat 32 b)).trips, ∀ (d l : Fin 256),
    arg22.view.read (Elt Ideal) (arg22.view.writes (Elt Ideal) f22 (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 v61 v64 v73 v76 v79 v82 (BitVec.ofNat 32 a) (BitVec.ofNat 32 b) hw X9 X10 X11 f20 f21 f22 k).2.2) (ix2 d l)
      = (arg22.view.read (Elt Ideal) f22 (ix2 d l) : EReal)
        + ∑ t ∈ Finset.range k, dqC (fun j e => arg9.view.read (Elt Ideal) X9 (ix4 0 0 j e)) (fun j e => arg11.view.read (Elt Ideal) X11 (ix4 0 0 j e)) (lanesOf v24 v36 v40 (k0_pay1 (F := Ideal) v11 v36) v73 v76 v61 v64 v79 v82) (a.val + t) d l := by
  have ht := t2_trips a b
  refine read_whole arg22.view f22 _ (fun k => (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 v61 v64 v73 v76 v79 v82 (BitVec.ofNat 32 a) (BitVec.ofNat 32 b) hw X9 X10 X11 f20 f21 f22 k).2.2) (fun t => dqC (fun j e => arg9.view.read (Elt Ideal) X9 (ix4 0 0 j e)) (fun j e => arg11.view.read (Elt Ideal) X11 (ix4 0 0 j e)) (lanesOf v24 v36 v40 (k0_pay1 (F := Ideal) v11 v36) v73 v76 v61 v64 v79 v82) (a.val + t)) rfl fun k hk => ?_
  have hk' : a.val + k < 8 := by rw [ht] at hk; omega
  refine ⟨inb_S256x256_S256x256_0_0, k0_pay5 (F := Ideal) (k0_pay13 (F := Ideal) v40 (k0_pay1 v11 v36) v61 v64 v73 v76 v79 v82 (BitVec.ofNat 32 a) (BitVec.ofNat 32 b) 1#32 0#32 1#32 ⟨k, hk⟩ (View.readAt (Elt Ideal) arg9.view (Rect.unit (s := S1x1x1024x256) (k0_off8 (BitVec.ofNat 32 a) (BitVec.ofNat 32 b) ⟨k, hk⟩) S1x1x128x256.size (k0_off8_inb (BitVec.ofNat 32 a) (BitVec.ofNat 32 b) hw ⟨k, hk⟩)).toLoadRect X9) (View.readAt (Elt Ideal) arg11.view (Rect.unit (s := S1x1x1024x256) (k0_off8 (BitVec.ofNat 32 a) (BitVec.ofNat 32 b) ⟨k, hk⟩) S1x1x128x256.size (k0_off8_inb (BitVec.ofNat 32 a) (BitVec.ofNat 32 b) hw ⟨k, hk⟩)).toLoadRect X11)) (View.readAt (Elt Ideal) arg22.view (Rect.unit (s := S256x256) ![0, 0] S256x256.size inb_S256x256_S256x256_0_0).toLoadRect (arg22.view.writes (Elt Ideal) f22 (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 v61 v64 v73 v76 v79 v82 (BitVec.ofNat 32 a) (BitVec.ofNat 32 b) hw X9 X10 X11 f20 f21 f22 k).2.2)) (View.readAt (Elt Ideal) arg10.view (Rect.unit (s := S1x1x8x256x128) (k0_off10 (BitVec.ofNat 32 a) (BitVec.ofNat 32 b) ⟨k, hk⟩) S1x1x1x256x128.size (k0_off10_inb (BitVec.ofNat 32 a) (BitVec.ofNat 32 b) hw ⟨k, hk⟩)).toLoadRect X10), ?_, ?_⟩
  · show (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 v61 v64 v73 v76 v79 v82 (BitVec.ofNat 32 a) (BitVec.ofNat 32 b) hw X9 X10 X11 f20 f21 f22 (k + 1)).2.2 = _
    rw [pb_k0_t2_succ Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 v61 v64 v73 v76 v79 v82 _ _ hw X9 X10 X11 f20 f21 f22 ⟨k, hk⟩, tripL_eq]
    rfl
  · intro d l
    rw [pay5_apply]
    refine congrArg _ ?_
    unfold dqC
    rw [dif_pos hk']
    refine Finset.sum_congr rfl fun p _ => ?_
    rw [trip_D (hw := hw) (hk := hk'), read_chunkT arg10.view X10 a b ⟨k, hk⟩ hw hk' d p, hT]

end Loop

end Cert.Proof.KernelIdeal

end
-- ==== Proof.UnitValue.lean ====
/-
  The outer loop over the extended reals: what the two accumulators and the query gradient's block hold after the trips
  of its eight blocks of lanes.
-/
module

public import proofs.«01_k».proof.Proof.OuterIdeal
public import proofs.«01_k».proof.Proof.Trip

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic

section Unit

variable (c : Dev nD) (i : grid0.Coords)
  (arg2 : Memref sig .tc .smem S8 .f32) (harg2 : arg2.IsWhole) (arg3 : Memref sig .tc .smem S4 .f32) (harg3 : arg3.IsWhole)
  (arg4 : Memref sig .tc .smem S4 .f32) (harg4 : arg4.IsWhole) (arg5 : Memref sig .tc .smem S8 .f32) (harg5 : arg5.IsWhole)
  (arg6 : Memref sig .tc .smem S24x8 .i32) (harg6 : arg6.IsWhole) (arg7 : Memref sig .tc .smem S24x8 .i32) (harg7 : arg7.IsWhole)
  (arg8 : Memref sig .tc .vmem S1x1x8x256x256 .fp8e4m3) (harg8 : arg8.IsWhole) (arg9 : Memref sig .tc .vmem S1x1x1024x256 .fp8e4m3) (harg9 : arg9.IsWhole)
  (arg10 : Memref sig .tc .vmem S1x1x8x256x128 .fp8e4m3) (harg10 : arg10.IsWhole) (arg11 : Memref sig .tc .vmem S1x1x1024x256 .fp8e4m3) (harg11 : arg11.IsWhole)
  (arg12 : Memref sig .tc .vmem S1x1x8x256x256 .fp8e5m2) (harg12 : arg12.IsWhole) (arg13 : Memref sig .tc .vmem S1x1x8x256x256 .bf16) (harg13 : arg13.IsWhole)
  (arg14 : Memref sig .tc .vmem S1x1x8x1x256 .f32) (harg14 : arg14.IsWhole) (arg15 : Memref sig .tc .vmem S1x8x1x256 .i32) (harg15 : arg15.IsWhole)
  (arg16 : Memref sig .tc .vmem S1x8x1x256 .i32) (harg16 : arg16.IsWhole) (arg17 : Memref sig .tc .vmem S1x1x8x256x256 .bf16) (harg17 : arg17.IsWhole)
  (arg18 : Memref sig .tc .vmem S1x1x1024x256 .bf16) (harg18 : arg18.IsWhole) (arg19 : Memref sig .tc .vmem S1x1x1024x256 .bf16) (harg19 : arg19.IsWhole)
  (arg20 : Memref sig .tc .vmem S1024x256 .f32) (harg20 : arg20.IsWhole) (arg21 : Memref sig .tc .vmem S1024x256 .f32) (harg21 : arg21.IsWhole)
  (arg22 : Memref sig .tc .vmem S256x256 .f32) (harg22 : arg22.IsWhole)
  (v11 : EReal) (v24 v36 v40 : FVec Ideal S1x256 .f32) (v61 : FVec Ideal S256x256 .fp8e4m3) (v64 : FVec Ideal S256x256 .fp8e5m2)
  (v73 v76 : FVec Ideal S1x256 .f32) (v79 v82 : IVec S1x256 32) (w6 w7 : BitVec 32) (hw : k0_chk1 w6 w7) (v101 : BitVec 32)
  (X9 : BufTy.Contents (Elt Ideal) arg9.view.ty) (X10 : BufTy.Contents (Elt Ideal) arg10.view.ty) (X11 : BufTy.Contents (Elt Ideal) arg11.view.ty)
  (f20 g20 : BufTy.Contents (Elt Ideal) arg20.view.ty) (f21 g21 : BufTy.Contents (Elt Ideal) arg21.view.ty) (g22 : BufTy.Contents (Elt Ideal) arg22.view.ty)
  (Z : List (View.Piece (Elt Ideal) S256x256 .f32)) (a b : Fin 9) (h6 : w6 = BitVec.ofNat 32 a) (h7 : w7 = BitVec.ofNat 32 b)

include h6 h7

/-- The remainder loop writes nothing. -/
theorem t3_nil : pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 v61 v64 v73 v76 v79 v82 w6 w7 hw v101 X9 X10 X11 g20 g21 g22 (k0_t3_loop w6 w7).trips = ([], [], []) := by
  subst h6 h7
  rw [t3_trips, pb_k0_t3.eq_1]

/-- The key accumulator after a block's two inner loops. -/
theorem unit_dk (r : Fin 1024) (d : Fin 256) :
    arg20.view.read (Elt Ideal) (arg20.view.writes (Elt Ideal) f20 ((pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 v61 v64 v73 v76 v79 v82 w6 w7 hw v101 X9 X10 X11 g20 g21 g22 (k0_t3_loop w6 w7).trips).1 ++ (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 v61 v64 v73 v76 v79 v82 w6 w7 hw X9 X10 X11 f20 f21 (arg22.view.writes (Elt Ideal) arg22.view.junk Z) (k0_t2_loop w6 w7).trips).1)) (ix2 r d)
      = (arg20.view.read (Elt Ideal) f20 (ix2 r d) : EReal)
        + if a.val * 128 ≤ r.val ∧ r.val < b.val * 128 then dkC (fun j e => arg9.view.read (Elt Ideal) X9 (ix4 0 0 j e)) (fun j e => arg11.view.read (Elt Ideal) X11 (ix4 0 0 j e)) (lanesOf v24 v36 v40 (k0_pay1 (F := Ideal) v11 v36) v73 v76 v61 v64 v79 v82) r d else 0 := by
  rw [t3_nil (a := a) (b := b) (h6 := h6) (h7 := h7), List.nil_append]
  subst h6 h7
  refine (inner_dk c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 v61 v64 v73 v76 v79 v82 a b hw X9 X10 X11 f20 f21 _ _ le_rfl r d).trans ?_
  rw [t2_trips]
  exact congrArg _ (if_congr (by omega) rfl rfl)

/-- The value accumulator after a block's two inner loops. -/
theorem unit_dv (r : Fin 1024) (d : Fin 256) :
    arg21.view.read (Elt Ideal) (arg21.view.writes (Elt Ideal) f21 ((pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 v61 v64 v73 v76 v79 v82 w6 w7 hw v101 X9 X10 X11 g20 g21 g22 (k0_t3_loop w6 w7).trips).2.1 ++ (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 v61 v64 v73 v76 v79 v82 w6 w7 hw X9 X10 X11 f20 f21 (arg22.view.writes (Elt Ideal) arg22.view.junk Z) (k0_t2_loop w6 w7).trips).2.1)) (ix2 r d)
      = (arg21.view.read (Elt Ideal) f21 (ix2 r d) : EReal)
        + if a.val * 128 ≤ r.val ∧ r.val < b.val * 128 then dvC (fun j e => arg9.view.read (Elt Ideal) X9 (ix4 0 0 j e)) (lanesOf v24 v36 v40 (k0_pay1 (F := Ideal) v11 v36) v73 v76 v61 v64 v79 v82) r d else 0 := by
  rw [t3_nil (a := a) (b := b) (h6 := h6) (h7 := h7), List.nil_append]
  subst h6 h7
  refine (inner_dv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 v61 v64 v73 v76 v79 v82 a b hw X9 X10 X11 f20 f21 _ _ le_rfl r d).trans ?_
  rw [t2_trips]
  exact congrArg _ (if_congr (by omega) rfl rfl)

/-- The query accumulator after a block's two inner loops, from zero. -/
theorem unit_dq (hT : ∀ (c' : Fin 8) (d : Fin 256) (p : Fin 128), arg10.view.read (Elt Ideal) X10 (ix5 0 0 c' d p)
      = (arg9.view.read (Elt Ideal) X9 (ix4 0 0 (⟨c'.val * 128 + p.val, by omega⟩ : Fin 1024) d) : EReal)) (hZ : ∀ d l, (arg22.view.read (Elt Ideal) (arg22.view.writes (Elt Ideal) arg22.view.junk Z) (ix2 d l) : EReal) = 0) (d l : Fin 256) :
    arg22.view.readCov ((pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 v61 v64 v73 v76 v79 v82 w6 w7 hw v101 X9 X10 X11 g20 g21 g22 (k0_t3_loop w6 w7).trips).2.2 ++ ((pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 v61 v64 v73 v76 v79 v82 w6 w7 hw X9 X10 X11 f20 f21 (arg22.view.writes (Elt Ideal) arg22.view.junk Z) (k0_t2_loop w6 w7).trips).2.2 ++ Z)) (Rect.unit (s := S256x256) ![0, 0] S256x256.size inb_S256x256_S256x256_0_0).toLoadRect (ix2 d l)
      = (∑ t ∈ Finset.range (b.val - a.val), dqC (fun j e => arg9.view.read (Elt Ideal) X9 (ix4 0 0 j e)) (fun j e => arg11.view.read (Elt Ideal) X11 (ix4 0 0 j e)) (lanesOf v24 v36 v40 (k0_pay1 (F := Ideal) v11 v36) v73 v76 v61 v64 v79 v82) (a.val + t) d l : EReal) := by
  rw [t3_nil (a := a) (b := b) (h6 := h6) (h7 := h7), List.nil_append]
  subst h6 h7
  unfold View.readCov
  rw [View.writes_append, View.readAt_apply]
  have e1 : (Rect.unit (s := S256x256) ![0, 0] S256x256.size inb_S256x256_S256x256_0_0).toLoadRect.idx (ix2 d l) = (ix2 d l : S256x256.Idx) := by
    funext x
    apply Fin.ext
    fin_cases x
    · show 0 + 1 * d.val = d.val; omega
    · show 0 + 1 * l.val = l.val; omega
  refine (congrArg _ e1).trans ?_
  refine (inner_dq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 v61 v64 v73 v76 v79 v82 a b hw X9 X10 X11 f20 f21 _ hT _ le_rfl d l).trans ?_
  rw [t2_trips]
  rw [hZ, zero_add]

end Unit

end Cert.Proof.KernelIdeal

end
-- ==== Proof.OuterValue.lean ====
/-
  The outer loop over the extended reals: what the two accumulators and the query gradient's block hold after the trips
  of its eight blocks of lanes.
-/
module

public import proofs.«01_k».proof.Proof.OuterIdeal
public import proofs.«01_k».proof.Proof.UnitValue

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic

/-- The lanes of block `k`, from the blocks the region reads. -/
def unitL (arg8 : Memref sig .tc .vmem S1x1x8x256x256 .fp8e4m3) (arg12 : Memref sig .tc .vmem S1x1x8x256x256 .fp8e5m2) (arg13 : Memref sig .tc .vmem S1x1x8x256x256 .bf16)
    (arg14 : Memref sig .tc .vmem S1x1x8x1x256 .f32) (arg15 arg16 : Memref sig .tc .vmem S1x8x1x256 .i32) (v11 : EReal) (v24 v36 v40 : FVec Ideal S1x256 .f32)
    (X8 : BufTy.Contents (Elt Ideal) arg8.view.ty) (X12 : BufTy.Contents (Elt Ideal) arg12.view.ty) (X13 : BufTy.Contents (Elt Ideal) arg13.view.ty)
    (X14 : BufTy.Contents (Elt Ideal) arg14.view.ty) (X15 : BufTy.Contents (Elt Ideal) arg15.view.ty) (X16 : BufTy.Contents (Elt Ideal) arg16.view.ty)
    (k : Fin k0_t1_loop.trips) : Lanes :=
  lanesOf v24 v36 v40 (k0_pay1 (F := Ideal) v11 v36) (otrip.sl.r_2 (F := Ideal) arg12 arg13 v36 X12 X13 k) (otrip.sl.r_3 (F := Ideal) arg14 X14 k) (otrip.sl.r (F := Ideal) arg8 X8 k) (otrip.sl.r_1 (F := Ideal) arg12 X12 k) (otrip.sl.r_4 (F := Ideal) arg15 X15 k) (otrip.sl.r_5 (F := Ideal) arg16 X16 k)

/-- The query accumulator starts each block at zero. -/
theorem zeros22 (arg22 : Memref sig .tc .vmem S256x256 .f32) (d l : Fin 256) :
    (arg22.view.read (Elt Ideal) (arg22.view.writes (Elt Ideal) arg22.view.junk (otrip.sl.HW22_1 (F := Ideal))) (ix2 d l) : EReal) = 0 := by
  unfold otrip.sl.HW22_1
  have hz := View.read_writes_cons_rows_of_mem (Val := Elt Ideal) arg22.view arg22.view.junk (d := S256x256.size) (o := 0) inb_S256x256_S256x256_0_0 (k0_pay24 (F := Ideal)) [] (ix2 d l) (ix2 d l) rfl
      (by show d.val = 0 + d.val; omega) rfl
  exact hz.trans (by pointwise [k0_pay24])

section Outer

variable (c : Dev nD) (i : grid0.Coords)
  (arg2 : Memref sig .tc .smem S8 .f32) (harg2 : arg2.IsWhole) (arg3 : Memref sig .tc .smem S4 .f32) (harg3 : arg3.IsWhole)
  (arg4 : Memref sig .tc .smem S4 .f32) (harg4 : arg4.IsWhole) (arg5 : Memref sig .tc .smem S8 .f32) (harg5 : arg5.IsWhole)
  (arg6 : Memref sig .tc .smem S24x8 .i32) (harg6 : arg6.IsWhole) (arg7 : Memref sig .tc .smem S24x8 .i32) (harg7 : arg7.IsWhole)
  (arg8 : Memref sig .tc .vmem S1x1x8x256x256 .fp8e4m3) (harg8 : arg8.IsWhole) (arg9 : Memref sig .tc .vmem S1x1x1024x256 .fp8e4m3) (harg9 : arg9.IsWhole)
  (arg10 : Memref sig .tc .vmem S1x1x8x256x128 .fp8e4m3) (harg10 : arg10.IsWhole) (arg11 : Memref sig .tc .vmem S1x1x1024x256 .fp8e4m3) (harg11 : arg11.IsWhole)
  (arg12 : Memref sig .tc .vmem S1x1x8x256x256 .fp8e5m2) (harg12 : arg12.IsWhole) (arg13 : Memref sig .tc .vmem S1x1x8x256x256 .bf16) (harg13 : arg13.IsWhole)
  (arg14 : Memref sig .tc .vmem S1x1x8x1x256 .f32) (harg14 : arg14.IsWhole) (arg15 : Memref sig .tc .vmem S1x8x1x256 .i32) (harg15 : arg15.IsWhole)
  (arg16 : Memref sig .tc .vmem S1x8x1x256 .i32) (harg16 : arg16.IsWhole) (arg17 : Memref sig .tc .vmem S1x1x8x256x256 .bf16) (harg17 : arg17.IsWhole)
  (arg18 : Memref sig .tc .vmem S1x1x1024x256 .bf16) (harg18 : arg18.IsWhole) (arg19 : Memref sig .tc .vmem S1x1x1024x256 .bf16) (harg19 : arg19.IsWhole)
  (arg20 : Memref sig .tc .vmem S1024x256 .f32) (harg20 : arg20.IsWhole) (arg21 : Memref sig .tc .vmem S1024x256 .f32) (harg21 : arg21.IsWhole)
  (arg22 : Memref sig .tc .vmem S256x256 .f32) (harg22 : arg22.IsWhole)
  (v9 v11 : Elt Ideal .f32) (v24 v36 v40 : FVec Ideal S1x256 .f32)
  (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (hw : ∀ k, k0_chk1 (word (F := Ideal) i arg6 X6 k) (word (F := Ideal) i arg7 X7 k))

/-- The pieces of the inner loop of block `k`, over the contents the block finds. -/
def pb2U (k : Fin k0_t1_loop.trips) (f20 : BufTy.Contents (Elt Ideal) arg20.view.ty) (f21 : BufTy.Contents (Elt Ideal) arg21.view.ty) :=
  pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 (otrip.sl.r (F := Ideal) arg8 X8 k) (otrip.sl.r_1 (F := Ideal) arg12 X12 k) (otrip.sl.r_2 (F := Ideal) arg12 arg13 v36 X12 X13 k) (otrip.sl.r_3 (F := Ideal) arg14 X14 k) (otrip.sl.r_4 (F := Ideal) arg15 X15 k) (otrip.sl.r_5 (F := Ideal) arg16 X16 k) (otrip.sl.r_6 (F := Ideal) i arg6 X6 k) (otrip.sl.r_7 (F := Ideal) i arg7 X7 k) (hw k) X9 X10 X11 f20 f21 (arg22.view.writes (Elt Ideal) arg22.view.junk (otrip.sl.HW22_1 (F := Ideal))) (k0_t2_loop (otrip.sl.r_6 (F := Ideal) i arg6 X6 k) (otrip.sl.r_7 (F := Ideal) i arg7 X7 k)).trips

/-- The pieces of the remainder loop of block `k`. -/
def pb3U (k : Fin k0_t1_loop.trips) (f20 : BufTy.Contents (Elt Ideal) arg20.view.ty) (f21 : BufTy.Contents (Elt Ideal) arg21.view.ty) :=
  pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 (otrip.sl.r (F := Ideal) arg8 X8 k) (otrip.sl.r_1 (F := Ideal) arg12 X12 k) (otrip.sl.r_2 (F := Ideal) arg12 arg13 v36 X12 X13 k) (otrip.sl.r_3 (F := Ideal) arg14 X14 k) (otrip.sl.r_4 (F := Ideal) arg15 X15 k) (otrip.sl.r_5 (F := Ideal) arg16 X16 k) (otrip.sl.r_6 (F := Ideal) i arg6 X6 k) (otrip.sl.r_7 (F := Ideal) i arg7 X7 k) (hw k) (otrip.sl.v101 (F := Ideal) i arg6 arg7 X6 X7 k) X9 X10 X11 (arg20.view.writes (Elt Ideal) f20 (pb2U c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 X6 X7 X8 X9 X10 X11 X12 X13 X14 X15 X16 hw k f20 f21).1) (arg21.view.writes (Elt Ideal) f21 (pb2U c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 X6 X7 X8 X9 X10 X11 X12 X13 X14 X15 X16 hw k f20 f21).2.1) (arg22.view.writes (Elt Ideal) arg22.view.junk ((pb2U c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 X6 X7 X8 X9 X10 X11 X12 X13 X14 X15 X16 hw k f20 f21).2.2 ++ (otrip.sl.HW22_1 (F := Ideal)))) (k0_t3_loop (otrip.sl.r_6 (F := Ideal) i arg6 X6 k) (otrip.sl.r_7 (F := Ideal) i arg7 X7 k)).trips

/-- The pieces a trip writes over the key accumulator. -/
theorem otrip_20 (k : Fin k0_t1_loop.trips) (f17 : BufTy.Contents (Elt Ideal) arg17.view.ty) (f20 : BufTy.Contents (Elt Ideal) arg20.view.ty) (f21 : BufTy.Contents (Elt Ideal) arg21.view.ty) : (otrip (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 k (hw k)).2.1 f17 f20 f21 = (pb3U c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 X6 X7 X8 X9 X10 X11 X12 X13 X14 X15 X16 hw k f20 f21).1 ++ (pb2U c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 X6 X7 X8 X9 X10 X11 X12 X13 X14 X15 X16 hw k f20 f21).1 := by
  unfold otrip pb3U pb2U
  dsimp only [Scf.Loop.trips]

/-- The pieces a trip writes over the value accumulator. -/
theorem otrip_21 (k : Fin k0_t1_loop.trips) (f17 : BufTy.Contents (Elt Ideal) arg17.view.ty) (f20 : BufTy.Contents (Elt Ideal) arg20.view.ty) (f21 : BufTy.Contents (Elt Ideal) arg21.view.ty) : (otrip (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 k (hw k)).2.2.1 f17 f20 f21 = (pb3U c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 X6 X7 X8 X9 X10 X11 X12 X13 X14 X15 X16 hw k f20 f21).2.1 ++ (pb2U c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 X6 X7 X8 X9 X10 X11 X12 X13 X14 X15 X16 hw k f20 f21).2.1 := by
  unfold otrip pb3U pb2U
  dsimp only [Scf.Loop.trips]

/-- The piece a trip writes of the query gradient's block. -/
theorem otrip_17 (k : Fin k0_t1_loop.trips) (f17 : BufTy.Contents (Elt Ideal) arg17.view.ty) (f20 : BufTy.Contents (Elt Ideal) arg20.view.ty) (f21 : BufTy.Contents (Elt Ideal) arg21.view.ty) : (otrip (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 k (hw k)).1 f17 f20 f21
    = [⟨Rect.unit (s := S1x1x8x256x256) (k0_off14 k) ![1, 1, 1, 256, 256] (k0_off14_inb k), k0_pay9 (F := Ideal) v9 (arg22.view.readCov ((pb3U c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 X6 X7 X8 X9 X10 X11 X12 X13 X14 X15 X16 hw k f20 f21).2.2 ++ ((pb2U c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 X6 X7 X8 X9 X10 X11 X12 X13 X14 X15 X16 hw k f20 f21).2.2 ++ (otrip.sl.HW22_1 (F := Ideal)))) (Rect.unit (s := S256x256) ![0, 0] S256x256.size inb_S256x256_S256x256_0_0).toLoadRect)⟩] := by
  unfold otrip
  dsimp only
  unfold pb3U pb2U otrip.sl.v102
  dsimp only [Scf.Loop.trips]

variable (G17 : BufTy.Contents (Elt Ideal) arg17.view.ty) (G20 : BufTy.Contents (Elt Ideal) arg20.view.ty) (G21 : BufTy.Contents (Elt Ideal) arg21.view.ty)

/-- The key accumulator's pieces after one more block. -/
theorem opb_succ20 (k : Fin k0_t1_loop.trips) : (opb (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 (k.val + 1)).2.1 = ((pb3U c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 X6 X7 X8 X9 X10 X11 X12 X13 X14 X15 X16 hw k (arg20.view.writes (Elt Ideal) G20 (opb (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).2.1) (arg21.view.writes (Elt Ideal) G21 (opb (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).2.2)).1 ++ (pb2U c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 X6 X7 X8 X9 X10 X11 X12 X13 X14 X15 X16 hw k (arg20.view.writes (Elt Ideal) G20 (opb (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).2.1) (arg21.view.writes (Elt Ideal) G21 (opb (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).2.2)).1) ++ (opb (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).2.1 :=
  (congrArg (fun t => t.2.1) (opb_succ (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k)).trans (congrArg (· ++ _) (otrip_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw k (arg17.view.writes (Elt Ideal) G17 (opb (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).1) (arg20.view.writes (Elt Ideal) G20 (opb (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).2.1) (arg21.view.writes (Elt Ideal) G21 (opb (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).2.2)))

/-- The value accumulator's pieces after one more block. -/
theorem opb_succ21 (k : Fin k0_t1_loop.trips) : (opb (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 (k.val + 1)).2.2 = ((pb3U c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 X6 X7 X8 X9 X10 X11 X12 X13 X14 X15 X16 hw k (arg20.view.writes (Elt Ideal) G20 (opb (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).2.1) (arg21.view.writes (Elt Ideal) G21 (opb (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).2.2)).2.1 ++ (pb2U c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 X6 X7 X8 X9 X10 X11 X12 X13 X14 X15 X16 hw k (arg20.view.writes (Elt Ideal) G20 (opb (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).2.1) (arg21.view.writes (Elt Ideal) G21 (opb (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).2.2)).2.1) ++ (opb (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).2.2 :=
  (congrArg (fun t => t.2.2) (opb_succ (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k)).trans (congrArg (· ++ _) (otrip_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw k (arg17.view.writes (Elt Ideal) G17 (opb (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).1) (arg20.view.writes (Elt Ideal) G20 (opb (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).2.1) (arg21.view.writes (Elt Ideal) G21 (opb (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).2.2)))

/-- The query gradient's pieces after one more block. -/
theorem opb_succ17 (k : Fin k0_t1_loop.trips) : (opb (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 (k.val + 1)).1
    = ⟨Rect.unit (s := S1x1x8x256x256) (k0_off14 k) ![1, 1, 1, 256, 256] (k0_off14_inb k), k0_pay9 (F := Ideal) v9 (arg22.view.readCov ((pb3U c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 X6 X7 X8 X9 X10 X11 X12 X13 X14 X15 X16 hw k (arg20.view.writes (Elt Ideal) G20 (opb (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).2.1) (arg21.view.writes (Elt Ideal) G21 (opb (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).2.2)).2.2 ++ ((pb2U c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 X6 X7 X8 X9 X10 X11 X12 X13 X14 X15 X16 hw k (arg20.view.writes (Elt Ideal) G20 (opb (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).2.1) (arg21.view.writes (Elt Ideal) G21 (opb (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).2.2)).2.2 ++ (otrip.sl.HW22_1 (F := Ideal)))) (Rect.unit (s := S256x256) ![0, 0] S256x256.size inb_S256x256_S256x256_0_0).toLoadRect)⟩ :: (opb (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).1 :=
  (congrArg (fun t => t.1) (opb_succ (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k)).trans (congrArg (· ++ _) (otrip_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw k (arg17.view.writes (Elt Ideal) G17 (opb (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).1) (arg20.view.writes (Elt Ideal) G20 (opb (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).2.1) (arg21.view.writes (Elt Ideal) G21 (opb (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 k.val).2.2)))

variable (A B : Fin k0_t1_loop.trips → Fin 9) (hA : ∀ k, (word (F := Ideal) i arg6 X6 k) = BitVec.ofNat 32 (A k)) (hB : ∀ k, (word (F := Ideal) i arg7 X7 k) = BitVec.ofNat 32 (B k))

include hA hB

/-- The key accumulator after block `k`. -/
theorem blockU_dk (k : Fin k0_t1_loop.trips) (f20 : BufTy.Contents (Elt Ideal) arg20.view.ty) (f21 : BufTy.Contents (Elt Ideal) arg21.view.ty) (r : Fin 1024) (d : Fin 256) :
    arg20.view.read (Elt Ideal) (arg20.view.writes (Elt Ideal) f20 ((pb3U c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 X6 X7 X8 X9 X10 X11 X12 X13 X14 X15 X16 hw k f20 f21).1 ++ (pb2U c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 X6 X7 X8 X9 X10 X11 X12 X13 X14 X15 X16 hw k f20 f21).1)) (ix2 r d)
      = (arg20.view.read (Elt Ideal) f20 (ix2 r d) : EReal)
        + if (A k).val * 128 ≤ r.val ∧ r.val < (B k).val * 128 then dkC (fun j e => arg9.view.read (Elt Ideal) X9 (ix4 0 0 j e)) (fun j e => arg11.view.read (Elt Ideal) X11 (ix4 0 0 j e)) (unitL arg8 arg12 arg13 arg14 arg15 arg16 v11 v24 v36 v40 X8 X12 X13 X14 X15 X16 k) r d else 0 := by
  unfold pb3U pb2U unitL
  exact unit_dk c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 (otrip.sl.r (F := Ideal) arg8 X8 k) (otrip.sl.r_1 (F := Ideal) arg12 X12 k) (otrip.sl.r_2 (F := Ideal) arg12 arg13 v36 X12 X13 k) (otrip.sl.r_3 (F := Ideal) arg14 X14 k) (otrip.sl.r_4 (F := Ideal) arg15 X15 k) (otrip.sl.r_5 (F := Ideal) arg16 X16 k) (otrip.sl.r_6 (F := Ideal) i arg6 X6 k) (otrip.sl.r_7 (F := Ideal) i arg7 X7 k) (hw k) _ X9 X10 X11 f20 _ f21 _ _ _ (A k) (B k) (hA k) (hB k) r d

/-- The value accumulator after block `k`. -/
theorem blockU_dv (k : Fin k0_t1_loop.trips) (f20 : BufTy.Contents (Elt Ideal) arg20.view.ty) (f21 : BufTy.Contents (Elt Ideal) arg21.view.ty) (r : Fin 1024) (d : Fin 256) :
    arg21.view.read (Elt Ideal) (arg21.view.writes (Elt Ideal) f21 ((pb3U c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 X6 X7 X8 X9 X10 X11 X12 X13 X14 X15 X16 hw k f20 f21).2.1 ++ (pb2U c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 X6 X7 X8 X9 X10 X11 X12 X13 X14 X15 X16 hw k f20 f21).2.1)) (ix2 r d)
      = (arg21.view.read (Elt Ideal) f21 (ix2 r d) : EReal)
        + if (A k).val * 128 ≤ r.val ∧ r.val < (B k).val * 128 then dvC (fun j e => arg9.view.read (Elt Ideal) X9 (ix4 0 0 j e)) (unitL arg8 arg12 arg13 arg14 arg15 arg16 v11 v24 v36 v40 X8 X12 X13 X14 X15 X16 k) r d else 0 := by
  unfold pb3U pb2U unitL
  exact unit_dv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 (otrip.sl.r (F := Ideal) arg8 X8 k) (otrip.sl.r_1 (F := Ideal) arg12 X12 k) (otrip.sl.r_2 (F := Ideal) arg12 arg13 v36 X12 X13 k) (otrip.sl.r_3 (F := Ideal) arg14 X14 k) (otrip.sl.r_4 (F := Ideal) arg15 X15 k) (otrip.sl.r_5 (F := Ideal) arg16 X16 k) (otrip.sl.r_6 (F := Ideal) i arg6 X6 k) (otrip.sl.r_7 (F := Ideal) i arg7 X7 k) (hw k) _ X9 X10 X11 f20 _ f21 _ _ _ (A k) (B k) (hA k) (hB k) r d

/-- The query accumulator after block `k`. -/
theorem blockU_dq (hT : ∀ (c' : Fin 8) (d : Fin 256) (p : Fin 128), arg10.view.read (Elt Ideal) X10 (ix5 0 0 c' d p)
      = (arg9.view.read (Elt Ideal) X9 (ix4 0 0 (⟨c'.val * 128 + p.val, by omega⟩ : Fin 1024) d) : EReal))
    (k : Fin k0_t1_loop.trips) (f20 : BufTy.Contents (Elt Ideal) arg20.view.ty) (f21 : BufTy.Contents (Elt Ideal) arg21.view.ty) (d l : Fin 256) :
    arg22.view.readCov ((pb3U c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 X6 X7 X8 X9 X10 X11 X12 X13 X14 X15 X16 hw k f20 f21).2.2 ++ ((pb2U c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 X6 X7 X8 X9 X10 X11 X12 X13 X14 X15 X16 hw k f20 f21).2.2 ++ (otrip.sl.HW22_1 (F := Ideal)))) (Rect.unit (s := S256x256) ![0, 0] S256x256.size inb_S256x256_S256x256_0_0).toLoadRect (ix2 d l)
      = (∑ t ∈ Finset.range ((B k).val - (A k).val), dqC (fun j e => arg9.view.read (Elt Ideal) X9 (ix4 0 0 j e)) (fun j e => arg11.view.read (Elt Ideal) X11 (ix4 0 0 j e)) (unitL arg8 arg12 arg13 arg14 arg15 arg16 v11 v24 v36 v40 X8 X12 X13 X14 X15 X16 k) ((A k).val + t) d l : EReal) := by
  unfold pb3U pb2U unitL
  exact unit_dq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 (otrip.sl.r (F := Ideal) arg8 X8 k) (otrip.sl.r_1 (F := Ideal) arg12 X12 k) (otrip.sl.r_2 (F := Ideal) arg12 arg13 v36 X12 X13 k) (otrip.sl.r_3 (F := Ideal) arg14 X14 k) (otrip.sl.r_4 (F := Ideal) arg15 X15 k) (otrip.sl.r_5 (F := Ideal) arg16 X16 k) (otrip.sl.r_6 (F := Ideal) i arg6 X6 k) (otrip.sl.r_7 (F := Ideal) i arg7 X7 k) (hw k) _ X9 X10 X11 f20 _ f21 _ _ _ (A k) (B k) (hA k) (hB k) hT (zeros22 arg22) d l

/-- The key accumulator after `n` blocks. -/
theorem outer_dk (n : ℕ) (hn : n ≤ k0_t1_loop.trips) (r : Fin 1024) (d : Fin 256) :
    arg20.view.read (Elt Ideal) (arg20.view.writes (Elt Ideal) G20 (opb (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 n).2.1) (ix2 r d)
      = (arg20.view.read (Elt Ideal) G20 (ix2 r d) : EReal)
        + ∑ u ∈ Finset.range n, if h : u < k0_t1_loop.trips then if (A ⟨u, h⟩).val * 128 ≤ r.val ∧ r.val < (B ⟨u, h⟩).val * 128
            then dkC (fun j e => arg9.view.read (Elt Ideal) X9 (ix4 0 0 j e)) (fun j e => arg11.view.read (Elt Ideal) X11 (ix4 0 0 j e)) (unitL arg8 arg12 arg13 arg14 arg15 arg16 v11 v24 v36 v40 X8 X12 X13 X14 X15 X16 ⟨u, h⟩) r d else 0 else 0 := by
  induction n with
  | zero => rw [Finset.range_zero, Finset.sum_empty, add_zero]; rfl
  | succ n ih =>
    refine (congrArg (fun L => arg20.view.read (Elt Ideal) (arg20.view.writes (Elt Ideal) G20 L) (ix2 r d)) (opb_succ20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 ⟨n, hn⟩)).trans ?_
    rw [Finset.sum_range_succ, dif_pos (show n < k0_t1_loop.trips from hn), ← add_assoc, ← ih (Nat.le_of_succ_le hn), View.writes_append]
    exact blockU_dk c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 X6 X7 X8 X9 X10 X11 X12 X13 X14 X15 X16 hw A B hA hB ⟨n, hn⟩ _ _ r d

/-- The value accumulator after `n` blocks. -/
theorem outer_dv (n : ℕ) (hn : n ≤ k0_t1_loop.trips) (r : Fin 1024) (d : Fin 256) :
    arg21.view.read (Elt Ideal) (arg21.view.writes (Elt Ideal) G21 (opb (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 n).2.2) (ix2 r d)
      = (arg21.view.read (Elt Ideal) G21 (ix2 r d) : EReal)
        + ∑ u ∈ Finset.range n, if h : u < k0_t1_loop.trips then if (A ⟨u, h⟩).val * 128 ≤ r.val ∧ r.val < (B ⟨u, h⟩).val * 128
            then dvC (fun j e => arg9.view.read (Elt Ideal) X9 (ix4 0 0 j e)) (unitL arg8 arg12 arg13 arg14 arg15 arg16 v11 v24 v36 v40 X8 X12 X13 X14 X15 X16 ⟨u, h⟩) r d else 0 else 0 := by
  induction n with
  | zero => rw [Finset.range_zero, Finset.sum_empty, add_zero]; rfl
  | succ n ih =>
    refine (congrArg (fun L => arg21.view.read (Elt Ideal) (arg21.view.writes (Elt Ideal) G21 L) (ix2 r d)) (opb_succ21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 ⟨n, hn⟩)).trans ?_
    rw [Finset.sum_range_succ, dif_pos (show n < k0_t1_loop.trips from hn), ← add_assoc, ← ih (Nat.le_of_succ_le hn), View.writes_append]
    exact blockU_dv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 X6 X7 X8 X9 X10 X11 X12 X13 X14 X15 X16 hw A B hA hB ⟨n, hn⟩ _ _ r d

/-- The blocks of the query gradient written in `n` trips. -/
theorem outer_dq (hT : ∀ (c' : Fin 8) (d : Fin 256) (p : Fin 128), arg10.view.read (Elt Ideal) X10 (ix5 0 0 c' d p)
      = (arg9.view.read (Elt Ideal) X9 (ix4 0 0 (⟨c'.val * 128 + p.val, by omega⟩ : Fin 1024) d) : EReal))
    (n : ℕ) (hn : n ≤ k0_t1_loop.trips) (u : Fin k0_t1_loop.trips) (hu : u.val < n) (l d : Fin 256) :
    arg17.view.read (Elt Ideal) (arg17.view.writes (Elt Ideal) G17 (opb (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 n).1) (ix5 0 0 (⟨u.val, u.isLt.trans_le (by decide)⟩ : Fin 8) l d)
      = ((∑ t ∈ Finset.range ((B u).val - (A u).val), dqC (fun j e => arg9.view.read (Elt Ideal) X9 (ix4 0 0 j e)) (fun j e => arg11.view.read (Elt Ideal) X11 (ix4 0 0 j e)) (unitL arg8 arg12 arg13 arg14 arg15 arg16 v11 v24 v36 v40 X8 X12 X13 X14 X15 X16 u) ((A u).val + t) d l)
          * (v9 * Ideal.ofBits .f32 0x3D800000) : EReal) := by
  induction n with
  | zero => exact absurd hu (Nat.not_lt_zero _)
  | succ n ih =>
    refine (congrArg (fun L => arg17.view.read (Elt Ideal) (arg17.view.writes (Elt Ideal) G17 L) (ix5 0 0 (⟨u.val, u.isLt.trans_le (by decide)⟩ : Fin 8) l d)) (opb_succ17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v11 v24 v36 v40 X6 X7 X8 X9 X10 X11 X12 X13 X14 X15 X16 hw G17 G20 G21 ⟨n, hn⟩)).trans ?_
    by_cases h : u.val = n
    · obtain rfl : u = ⟨n, hn⟩ := Fin.ext h
      refine (View.read_writes_cons_unit_of_mem _ _ (k0_off14_inb _) _ _ _ (ix5 0 0 0 l d) (k0_off14_eq _) ?_).trans ?_
      · intro x
        fin_cases x
        · rfl
        · rfl
        · rfl
        · show l.val = 0 + l.val; omega
        · show d.val = 0 + d.val; omega
      · rw [pay9_apply]
        exact congrArg (· * _) (blockU_dq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v24 v36 v40 X6 X7 X8 X9 X10 X11 X12 X13 X14 X15 X16 hw A B hA hB hT ⟨n, hn⟩ _ _ d l)
    · refine (View.read_writes_cons_unit_of_not_mem _ _ (k0_off14_inb _) _ _ _ (k0_off14_eq _) (2 : Fin 5) ?_).trans
        (ih (Nat.le_of_succ_le hn) (by omega))
      left
      show u.val < n
      omega

end Outer

end Cert.Proof.KernelIdeal

end
-- ==== Proof.LaneValue.lean ====
/-
  The lanes of a block in terms of the blocks of the arguments, and sums over the chunks a block visits as sums over all
  key rows, where the rows outside have weight zero.
-/
module

public import proofs.«01_k».proof.Proof.OuterValue
public import proofs.«01_k».proof.Proof.SoundIdeal

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic

/-- Row `a * 128 + p` is row `j`: the chunks' rows from `a` on, up to `b`, are the rows from `a * 128` up to `b * 128`. -/
theorem sum_chunks (f : Fin 1024 → EReal) (a b : Fin 9) (h : ∀ j : Fin 1024, ¬ (a.val * 128 ≤ j.val ∧ j.val < b.val * 128) → f j = 0) :
    (∑ t ∈ Finset.range (b.val - a.val), if h : a.val + t < 8 then ∑ p : Fin 128, f ⟨(a.val + t) * 128 + p.val, by omega⟩ else 0)
      = ∑ j : Fin 1024, f j := by
  have e1 : (∑ j : Fin 1024, f j) = ∑ c : Fin 8, ∑ p : Fin 128, f ⟨c.val * 128 + p.val, by omega⟩ := by
    rw [← Fintype.sum_prod_type' (f := fun (c : Fin 8) (p : Fin 128) => f ⟨c.val * 128 + p.val, by omega⟩)]
    refine (Fintype.sum_equiv (finProdFinEquiv (m := 8) (n := 128)) _ _ fun x => ?_).symm
    exact congrArg f (Fin.ext (by show x.1.val * 128 + x.2.val = x.2.val + 128 * x.1.val; omega))
  rw [e1]
  have e2 : ∀ c : Fin 8, ¬ (a.val ≤ c.val ∧ c.val < b.val) → (∑ p : Fin 128, f ⟨c.val * 128 + p.val, by omega⟩) = 0 := fun c hc =>
    Finset.sum_eq_zero fun p _ => h _ (by show ¬ (_ ≤ c.val * 128 + p.val ∧ c.val * 128 + p.val < _); omega)
  set g : ℕ → EReal := fun c => if h : c < 8 then ∑ p : Fin 128, f ⟨c * 128 + p.val, by omega⟩ else 0 with hg
  have e3 : (∑ c : Fin 8, ∑ p : Fin 128, f ⟨c.val * 128 + p.val, by omega⟩) = ∑ c ∈ Finset.range 8, g c := by
    rw [Finset.sum_range]
    refine Finset.sum_congr rfl fun c _ => ?_
    simp only [hg]
    rw [dif_pos c.isLt]
  rw [e3]
  refine (Finset.sum_Ico_eq_sum_range g a.val b.val).symm.trans (Finset.sum_subset (fun c hc => ?_) fun c hc hn => ?_)
  · rw [Finset.mem_Ico] at hc
    rw [Finset.mem_range]
    omega
  · rw [Finset.mem_range] at hc
    rw [Finset.mem_Ico] at hn
    exact (dif_pos hc).trans (e2 ⟨c, hc⟩ hn)

/-- A block's terms of the key gradient's row `r` are zero unless the row is one it visits. -/
theorem dk_live {kk : Fin 1024 → Fin 256 → EReal} {L : Lanes} {a b : ℕ}
    (h : ∀ (j : Fin 1024) l, ¬ (a * 128 ≤ j.val ∧ j.val < b * 128) → cellP kk L j l = 0) (vv : Fin 1024 → Fin 256 → EReal) (r : Fin 1024) (d : Fin 256) :
    (if a * 128 ≤ r.val ∧ r.val < b * 128 then dkC kk vv L r d else 0) = dkC kk vv L r d := by
  by_cases hr : a * 128 ≤ r.val ∧ r.val < b * 128
  · rw [if_pos hr]
  · rw [if_neg hr]
    refine (Finset.sum_eq_zero fun l _ => ?_).symm
    unfold cellD
    rw [h r l hr, zero_mul, zero_mul, zero_mul]

/-- The same of the value gradient. -/
theorem dv_live {kk : Fin 1024 → Fin 256 → EReal} {L : Lanes} {a b : ℕ}
    (h : ∀ (j : Fin 1024) l, ¬ (a * 128 ≤ j.val ∧ j.val < b * 128) → cellP kk L j l = 0) (r : Fin 1024) (d : Fin 256) :
    (if a * 128 ≤ r.val ∧ r.val < b * 128 then dvC kk L r d else 0) = dvC kk L r d := by
  by_cases hr : a * 128 ≤ r.val ∧ r.val < b * 128
  · rw [if_pos hr]
  · rw [if_neg hr]
    refine (Finset.sum_eq_zero fun l _ => ?_).symm
    rw [h r l hr, zero_mul, zero_mul]

/-- The chunks a block visits give the query gradient's whole sum over the key rows. -/
theorem dq_live {kk : Fin 1024 → Fin 256 → EReal} {L : Lanes} (a b : Fin 9)
    (h : ∀ (j : Fin 1024) l, ¬ (a.val * 128 ≤ j.val ∧ j.val < b.val * 128) → cellP kk L j l = 0) (vv : Fin 1024 → Fin 256 → EReal) (d l : Fin 256) :
    (∑ t ∈ Finset.range (b.val - a.val), dqC kk vv L (a.val + t) d l) = ∑ j : Fin 1024, kk j d * cellD kk vv L j l := by
  unfold dqC
  refine sum_chunks (fun j => kk j d * cellD kk vv L j l) a b fun j hj => ?_
  show kk j d * cellD kk vv L j l = 0
  unfold cellD
  rw [h j l hj, zero_mul, mul_zero]

/-- The head of lane `l` in grid step `i`: the first half of the lanes is the group's first head. -/
def hd (i : grid0.Coords) (l : Fin 256) : Fin 8 := ⟨2 * (i 1).val + l.val / 128, by have : (i 1).val < 4 := (i 1).isLt; omega⟩

/-- The group of grid step `i`. -/
def gp (i : grid0.Coords) : Fin 4 := ⟨(i 1).val, (i 1).isLt⟩

/-- The lanes of block `u` in grid step `i`, from the blocks of the arguments. -/
def laneX (i : grid0.Coords) (x2 : Vec Ideal S8 .f32) (x3 x4 : Vec Ideal S4 .f32) (x5 : Vec Ideal S8 .f32) (x8 : Vec Ideal S1x1x8x256x256 .fp8e4m3)
    (x12 : Vec Ideal S1x1x8x256x256 .fp8e5m2) (x13 : Vec Ideal S1x1x8x256x256 .bf16) (x14 : Vec Ideal S1x1x8x1x256 .f32)
    (x15 x16 : Vec Ideal S1x8x1x256 .i32) (u : Fin 8) : Lanes where
  q l e := x8 (ix5 0 0 u l e)
  g l e := x12 (ix5 0 0 u l e)
  qs l := x2 (ix1 (hd i l))
  gs l := x5 (ix1 (hd i l))
  sc l := x2 (ix1 (hd i l)) * x3 (ix1 (gp i)) * Ideal.ofBits .f32 0x3D800000
  vs l := x5 (ix1 (hd i l)) * x4 (ix1 (gp i))
  dl l := (∑ e : Fin 256, x12 (ix5 0 0 u l e) * x13 (ix5 0 0 u l e)) * x5 (ix1 (hd i l))
  ls l := x14 (ix5 0 0 u 0 l)
  lo l := x15 (ix4 0 u 0 l)
  hi l := x16 (ix4 0 u 0 l)

/-- The index a whole 1024-row accumulator is loaded at. -/
theorem idx_whole (r : Fin 1024) (d : Fin 256) :
    (Rect.unit (s := S1024x256) ![0, 0] S1024x256.size inb_S1024x256_S1024x256_0_0).toLoadRect.idx (ix2 r d) = (ix2 r d : S1024x256.Idx) := by
  funext x
  apply Fin.ext
  fin_cases x
  · show 0 + 1 * r.val = r.val; omega
  · show 0 + 1 * d.val = d.val; omega

/-- A scale loaded at a position is the scale there. -/
theorem scale_read {n : ℕ} (M : Memref sig .tc .smem (⟨1, ![n]⟩ : Shape) .f32) (hM : M.IsWhole) (x : Vec Ideal (⟨1, ![n]⟩ : Shape) .f32)
    (off : Fin 1 → ℕ) (inb : ∀ a : Fin 1, off a + S1.size a ≤ (⟨1, ![n]⟩ : Shape).size a) (o : Fin n) (ho : off = ![o.val]) (y : S1.Idx) :
    View.readAt (Elt Ideal) M.view (Rect.unit (s := ⟨1, ![n]⟩) off S1.size inb).toLoadRect (hM.unread x) y = x (ix1 o) := by
  rw [View.readAt_apply, hM.read_unread]
  refine congrArg x (funext fun a => Fin.ext ?_)
  subst ho
  obtain rfl : a = 0 := Subsingleton.elim _ _
  have h : (y 0).val < 1 := (y 0).isLt
  show o.val + 1 * (y 0).val = o.val
  omega

/-- A rank 5 block loaded at unit `k` is the unit of the whole. -/
theorem unit_read5 {τe : EltTy} {n w : ℕ} (M : Memref sig .tc .vmem (⟨5, ![1, 1, 8, n, w]⟩ : Shape) τe) (hM : M.IsWhole) (x : Vec Ideal (⟨5, ![1, 1, 8, n, w]⟩ : Shape) τe)
    (off : Fin 5 → ℕ) (inb : ∀ a : Fin 5, off a + (⟨5, ![1, 1, 1, n, w]⟩ : Shape).size a ≤ (⟨5, ![1, 1, 8, n, w]⟩ : Shape).size a) (u : Fin 8) (ho : off = ![0, 0, u.val, 0, 0]) (p : Fin n) (q : Fin w) :
    View.readAt (Elt Ideal) M.view (Rect.unit (s := ⟨5, ![1, 1, 8, n, w]⟩) off (⟨5, ![1, 1, 1, n, w]⟩ : Shape).size inb).toLoadRect (hM.unread x) (ix5 0 0 0 p q) = x (ix5 0 0 u p q) := by
  rw [View.readAt_apply, hM.read_unread]
  refine congrArg x (funext fun a => Fin.ext ?_)
  subst ho
  fin_cases a
  · rfl
  · rfl
  · show u.val + 1 * 0 = u.val; omega
  · show 0 + 1 * p.val = p.val; omega
  · show 0 + 1 * q.val = q.val; omega

/-- A rank 4 block loaded at unit `k` is the unit of the whole. -/
theorem unit_read4 {τe : EltTy} (M : Memref sig .tc .vmem S1x8x1x256 τe) (hM : M.IsWhole) (x : Vec Ideal S1x8x1x256 τe)
    (off : Fin 4 → ℕ) (inb : ∀ a : Fin 4, off a + S1x1x1x256.size a ≤ S1x8x1x256.size a) (u : Fin 8) (ho : off = ![0, u.val, 0, 0]) (q : Fin 256) :
    View.readAt (Elt Ideal) M.view (Rect.unit (s := S1x8x1x256) off S1x1x1x256.size inb).toLoadRect (hM.unread x) (ix4 0 0 0 q) = x (ix4 0 u 0 q) := by
  rw [View.readAt_apply, hM.read_unread]
  refine congrArg x (funext fun a => Fin.ext ?_)
  subst ho
  fin_cases a
  · rfl
  · show u.val + 1 * 0 = u.val; omega
  · rfl
  · show 0 + 1 * q.val = q.val; omega

/-- A pair of scales laid out over the lanes is the scale of the lane's head. -/
theorem hd_read (M : Memref sig .tc .smem S8 .f32) (hM : M.IsWhole) (x : Vec Ideal S8 .f32) (i : grid0.Coords) (l : Fin 256) (y y' : S1.Idx) :
    (if l.val < 128 then View.readAt (Elt Ideal) M.view (Rect.unit (s := S8) (k0_off2 i) S1.size (k0_off2_inb i)).toLoadRect (hM.unread x) y
      else View.readAt (Elt Ideal) M.view (Rect.unit (s := S8) (k0_off3 i) S1.size (k0_off3_inb i)).toLoadRect (hM.unread x) y')
      = x (ix1 (hd i l)) := by
  have h4 : (i 1).val < 4 := (i 1).isLt
  by_cases h : l.val < 128
  · rw [if_pos h]
    exact scale_read M hM x _ _ (hd i l) ((k0_off2_eq i).trans (by show ![2 * (i 1).val] = ![2 * (i 1).val + l.val / 128]; rw [Nat.div_eq_of_lt h]; rfl)) y
  · rw [if_neg h]
    exact scale_read M hM x _ _ (hd i l) ((k0_off3_eq i).trans (by show ![2 * (i 1).val + 1] = ![2 * (i 1).val + l.val / 128]; rw [show l.val / 128 = 1 by omega])) y'

end Cert.Proof.KernelIdeal

end
-- ==== Proof.BlockValue.lean ====
/-
  What the region's body leaves in its three result windows over the extended reals, in terms of the blocks it reads,
  where every key row outside the chunks a block of lanes visits has weight zero for its lanes.
-/
module

public import proofs.«01_k».proof.Proof.LaneValue
public import proofs.«01_k».proof.Proof.SoundIdeal

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic

section Body

variable (c : Dev nD) (i : grid0.Coords)
  (arg2 : Memref sig .tc .smem S8 .f32) (harg2 : arg2.IsWhole) (arg3 : Memref sig .tc .smem S4 .f32) (harg3 : arg3.IsWhole)
  (arg4 : Memref sig .tc .smem S4 .f32) (harg4 : arg4.IsWhole) (arg5 : Memref sig .tc .smem S8 .f32) (harg5 : arg5.IsWhole)
  (arg6 : Memref sig .tc .smem S24x8 .i32) (harg6 : arg6.IsWhole) (arg7 : Memref sig .tc .smem S24x8 .i32) (harg7 : arg7.IsWhole)
  (arg8 : Memref sig .tc .vmem S1x1x8x256x256 .fp8e4m3) (harg8 : arg8.IsWhole) (arg9 : Memref sig .tc .vmem S1x1x1024x256 .fp8e4m3) (harg9 : arg9.IsWhole)
  (arg10 : Memref sig .tc .vmem S1x1x8x256x128 .fp8e4m3) (harg10 : arg10.IsWhole) (arg11 : Memref sig .tc .vmem S1x1x1024x256 .fp8e4m3) (harg11 : arg11.IsWhole)
  (arg12 : Memref sig .tc .vmem S1x1x8x256x256 .fp8e5m2) (harg12 : arg12.IsWhole) (arg13 : Memref sig .tc .vmem S1x1x8x256x256 .bf16) (harg13 : arg13.IsWhole)
  (arg14 : Memref sig .tc .vmem S1x1x8x1x256 .f32) (harg14 : arg14.IsWhole) (arg15 : Memref sig .tc .vmem S1x8x1x256 .i32) (harg15 : arg15.IsWhole)
  (arg16 : Memref sig .tc .vmem S1x8x1x256 .i32) (harg16 : arg16.IsWhole) (arg17 : Memref sig .tc .vmem S1x1x8x256x256 .bf16) (harg17 : arg17.IsWhole)
  (arg18 : Memref sig .tc .vmem S1x1x1024x256 .bf16) (harg18 : arg18.IsWhole) (arg19 : Memref sig .tc .vmem S1x1x1024x256 .bf16) (harg19 : arg19.IsWhole)
  (arg20 : Memref sig .tc .vmem S1024x256 .f32) (harg20 : arg20.IsWhole) (arg21 : Memref sig .tc .vmem S1024x256 .f32) (harg21 : arg21.IsWhole)
  (arg22 : Memref sig .tc .vmem S256x256 .f32) (harg22 : arg22.IsWhole)
  (x2 : Vec Ideal S8 .f32) (x3 : Vec Ideal S4 .f32) (x4 : Vec Ideal S4 .f32) (x5 : Vec Ideal S8 .f32) (x6 : Vec Ideal S24x8 .i32) (x7 : Vec Ideal S24x8 .i32) (x8 : Vec Ideal S1x1x8x256x256 .fp8e4m3) (x9 : Vec Ideal S1x1x1024x256 .fp8e4m3) (x10 : Vec Ideal S1x1x8x256x128 .fp8e4m3) (x11 : Vec Ideal S1x1x1024x256 .fp8e4m3) (x12 : Vec Ideal S1x1x8x256x256 .fp8e5m2) (x13 : Vec Ideal S1x1x8x256x256 .bf16) (x14 : Vec Ideal S1x1x8x1x256 .f32) (x15 : Vec Ideal S1x8x1x256 .i32) (x16 : Vec Ideal S1x8x1x256 .i32)

/-- The lanes of block `k` are those of the blocks of the arguments. -/
theorem unitL_eq (k : Fin k0_t1_loop.trips) : (unitL arg8 arg12 arg13 arg14 arg15 arg16 (bodyRun.sl.r_1 (F := Ideal) i arg4 (harg4.unread x4)) (bodyRun.sl.r_6 (F := Ideal) i arg2 (harg2.unread x2)) (bodyRun.sl.r_7 (F := Ideal) i arg5 (harg5.unread x5)) (bodyRun.sl.r_8 (F := Ideal) i arg2 arg3 (harg2.unread x2) (harg3.unread x3)) (harg8.unread x8) (harg12.unread x12) (harg13.unread x13) (harg14.unread x14) (harg15.unread x15) (harg16.unread x16) k) = laneX i x2 x3 x4 x5 x8 x12 x13 x14 x15 x16 ⟨k.val, k.isLt.trans_le (by decide)⟩ := by
  unfold unitL lanesOf laneX
  have hq : ∀ l, (bodyRun.sl.r_6 (F := Ideal) i arg2 (harg2.unread x2)) (ix2 0 l) = x2 (ix1 (hd i l)) := fun l => by
    unfold bodyRun.sl.r_6
    rw [pay27_apply]
    exact hd_read arg2 harg2 x2 i l _ _
  have hg : ∀ l, (bodyRun.sl.r_7 (F := Ideal) i arg5 (harg5.unread x5)) (ix2 0 l) = x5 (ix1 (hd i l)) := fun l => by
    unfold bodyRun.sl.r_7
    rw [pay28_eq, pay27_apply]
    exact hd_read arg5 harg5 x5 i l _ _
  congr 1
  · funext l e
    unfold otrip.sl.r
    refine Eq.trans (b := View.readAt (Elt Ideal) arg8.view (Rect.unit (s := S1x1x8x256x256) (k0_off4 k) S1x1x1x256x256.size (k0_off4_inb k)).toLoadRect (harg8.unread x8) (ix5 0 0 0 l e)) (by pointwise [k0_pay18]) ?_
    exact unit_read5 arg8 harg8 x8 _ _ ⟨k.val, k.isLt.trans_le (by decide)⟩ (k0_off4_eq k) l e
  · funext l e
    unfold otrip.sl.r_1
    refine Eq.trans (b := View.readAt (Elt Ideal) arg12.view (Rect.unit (s := S1x1x8x256x256) (k0_off4 k) S1x1x1x256x256.size (k0_off4_inb k)).toLoadRect (harg12.unread x12) (ix5 0 0 0 l e)) (by pointwise [k0_pay19]) ?_
    exact unit_read5 arg12 harg12 x12 _ _ ⟨k.val, k.isLt.trans_le (by decide)⟩ (k0_off4_eq k) l e
  · exact funext hq
  · exact funext hg
  · funext l
    unfold bodyRun.sl.r_8
    rw [pay29_apply, pay27_apply]
    exact congrArg (· * _) (congr (congrArg HMul.hMul (hd_read arg2 harg2 x2 i l _ _)) (scale_read arg3 harg3 x3 _ _ (gp i) (k0_off1_eq i) _))
  · funext l
    refine Eq.trans (b := (bodyRun.sl.r_7 (F := Ideal) i arg5 (harg5.unread x5)) (ix2 0 l) * (bodyRun.sl.r_1 (F := Ideal) i arg4 (harg4.unread x4))) (by pointwise [k0_pay1]) ?_
    rw [hg]
    exact congrArg (_ * ·) (scale_read arg4 harg4 x4 _ _ (gp i) (k0_off1_eq i) _)
  · funext l
    unfold otrip.sl.r_2
    rw [pay20_apply, hg]
    refine congrArg (· * _) (Finset.sum_congr rfl fun e _ => ?_)
    exact congr (congrArg HMul.hMul (unit_read5 arg12 harg12 x12 _ _ ⟨k.val, k.isLt.trans_le (by decide)⟩ (k0_off4_eq k) l e)) (unit_read5 arg13 harg13 x13 _ _ ⟨k.val, k.isLt.trans_le (by decide)⟩ (k0_off4_eq k) l e)
  · funext l
    unfold otrip.sl.r_3
    refine Eq.trans (b := View.readAt (Elt Ideal) arg14.view (Rect.unit (s := S1x1x8x1x256) (k0_off5 k) S1x1x1x1x256.size (k0_off5_inb k)).toLoadRect (harg14.unread x14) (ix5 0 0 0 0 l)) (by pointwise [k0_pay21]) ?_
    exact unit_read5 arg14 harg14 x14 _ _ ⟨k.val, k.isLt.trans_le (by decide)⟩ (k0_off5_eq k) 0 l
  · funext l
    unfold otrip.sl.r_4
    refine Eq.trans (b := View.readAt (Elt Ideal) arg15.view (Rect.unit (s := S1x8x1x256) (k0_off6 k) S1x1x1x256.size (k0_off6_inb k)).toLoadRect (harg15.unread x15) (ix4 0 0 0 l)) (by pointwise [k0_pay22]) ?_
    exact unit_read4 arg15 harg15 x15 _ _ ⟨k.val, k.isLt.trans_le (by decide)⟩ (k0_off6_eq k) l
  · funext l
    unfold otrip.sl.r_5
    refine Eq.trans (b := View.readAt (Elt Ideal) arg16.view (Rect.unit (s := S1x8x1x256) (k0_off6 k) S1x1x1x256.size (k0_off6_inb k)).toLoadRect (harg16.unread x16) (ix4 0 0 0 l)) (by pointwise [k0_pay23]) ?_
    exact unit_read4 arg16 harg16 x16 _ _ ⟨k.val, k.isLt.trans_le (by decide)⟩ (k0_off6_eq k) l

variable (hw : ∀ k, k0_chk1 (word (F := Ideal) i arg6 (harg6.unread x6) k) (word (F := Ideal) i arg7 (harg7.unread x7) k)) (A B : Fin k0_t1_loop.trips → Fin 9) (hA : ∀ k, word (F := Ideal) i arg6 (harg6.unread x6) k = BitVec.ofNat 32 (A k))
  (hB : ∀ k, word (F := Ideal) i arg7 (harg7.unread x7) k = BitVec.ofNat 32 (B k))
  (hP : ∀ (k : Fin k0_t1_loop.trips) (j : Fin 1024) (l : Fin 256), ¬ ((A k).val * 128 ≤ j.val ∧ j.val < (B k).val * 128) →
    cellP (fun j e => x9 (ix4 0 0 j e)) (laneX i x2 x3 x4 x5 x8 x12 x13 x14 x15 x16 ⟨k.val, k.isLt.trans_le (by decide)⟩) j l = 0)

include hA hB hP

/-- The key accumulator after all blocks. -/
theorem acc_dk (f17 : BufTy.Contents (Elt Ideal) arg17.view.ty) (r : Fin 1024) (d : Fin 256) :
    (arg20.view.readCov ((opb (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (bodyRun.sl.r (F := Ideal) i arg3 (harg3.unread x3)) (bodyRun.sl.r_1 (F := Ideal) i arg4 (harg4.unread x4)) (bodyRun.sl.r_6 (F := Ideal) i arg2 (harg2.unread x2)) (bodyRun.sl.r_7 (F := Ideal) i arg5 (harg5.unread x5)) (bodyRun.sl.r_8 (F := Ideal) i arg2 arg3 (harg2.unread x2) (harg3.unread x3)) (harg6.unread x6) (harg7.unread x7) (harg8.unread x8) (harg9.unread x9) (harg10.unread x10) (harg11.unread x11) (harg12.unread x12) (harg13.unread x13) (harg14.unread x14) (harg15.unread x15) (harg16.unread x16) hw f17 (arg20.view.writes (Elt Ideal) arg20.view.junk (bodyRun.sl.HW20_1 (F := Ideal))) (arg21.view.writes (Elt Ideal) arg21.view.junk (bodyRun.sl.HW21_1 (F := Ideal))) k0_t1_loop.trips).2.1 ++ (bodyRun.sl.HW20_1 (F := Ideal))) (Rect.unit (s := S1024x256) ![0, 0] S1024x256.size inb_S1024x256_S1024x256_0_0).toLoadRect) (ix2 r d) = (∑ u : Fin 8, dkC (fun j e => x9 (ix4 0 0 j e)) (fun j e => x11 (ix4 0 0 j e)) (laneX i x2 x3 x4 x5 x8 x12 x13 x14 x15 x16 u) r d : EReal) := by
  unfold View.readCov
  rw [View.writes_append, View.readAt_apply]
  refine (congrArg _ (idx_whole r d)).trans ?_
  refine (outer_dk c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (bodyRun.sl.r (F := Ideal) i arg3 (harg3.unread x3)) (bodyRun.sl.r_1 (F := Ideal) i arg4 (harg4.unread x4)) (bodyRun.sl.r_6 (F := Ideal) i arg2 (harg2.unread x2)) (bodyRun.sl.r_7 (F := Ideal) i arg5 (harg5.unread x5)) (bodyRun.sl.r_8 (F := Ideal) i arg2 arg3 (harg2.unread x2) (harg3.unread x3)) (harg6.unread x6) (harg7.unread x7) (harg8.unread x8) (harg9.unread x9) (harg10.unread x10) (harg11.unread x11) (harg12.unread x12) (harg13.unread x13) (harg14.unread x14) (harg15.unread x15) (harg16.unread x16) hw f17 (arg20.view.writes (Elt Ideal) arg20.view.junk (bodyRun.sl.HW20_1 (F := Ideal))) (arg21.view.writes (Elt Ideal) arg21.view.junk (bodyRun.sl.HW21_1 (F := Ideal))) A B hA hB _ le_rfl r d).trans ?_
  have hz : (arg20.view.read (Elt Ideal) (arg20.view.writes (Elt Ideal) arg20.view.junk (bodyRun.sl.HW20_1 (F := Ideal))) (ix2 r d) : EReal) = 0 := by
    unfold bodyRun.sl.HW20_1
    refine (View.read_writes_cons_rows_of_mem (Val := Elt Ideal) arg20.view arg20.view.junk (d := S1024x256.size) (o := 0) inb_S1024x256_S1024x256_0_0 _ [] (ix2 r d) (ix2 r d) rfl
      (by show r.val = 0 + r.val; omega) rfl).trans ?_
    pointwise [k0_pay25, k0_pay26]
  rw [hz, zero_add, Finset.sum_range]
  refine Finset.sum_congr rfl fun u _ => ?_
  rw [dif_pos u.isLt, unitL_eq]
  simp only [harg9.read_unread, harg11.read_unread]
  exact dk_live (hP u) _ r d

/-- The value accumulator after all blocks. -/
theorem acc_dv (f17 : BufTy.Contents (Elt Ideal) arg17.view.ty) (r : Fin 1024) (d : Fin 256) :
    (arg21.view.readCov ((opb (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (bodyRun.sl.r (F := Ideal) i arg3 (harg3.unread x3)) (bodyRun.sl.r_1 (F := Ideal) i arg4 (harg4.unread x4)) (bodyRun.sl.r_6 (F := Ideal) i arg2 (harg2.unread x2)) (bodyRun.sl.r_7 (F := Ideal) i arg5 (harg5.unread x5)) (bodyRun.sl.r_8 (F := Ideal) i arg2 arg3 (harg2.unread x2) (harg3.unread x3)) (harg6.unread x6) (harg7.unread x7) (harg8.unread x8) (harg9.unread x9) (harg10.unread x10) (harg11.unread x11) (harg12.unread x12) (harg13.unread x13) (harg14.unread x14) (harg15.unread x15) (harg16.unread x16) hw f17 (arg20.view.writes (Elt Ideal) arg20.view.junk (bodyRun.sl.HW20_1 (F := Ideal))) (arg21.view.writes (Elt Ideal) arg21.view.junk (bodyRun.sl.HW21_1 (F := Ideal))) k0_t1_loop.trips).2.2 ++ (bodyRun.sl.HW21_1 (F := Ideal))) (Rect.unit (s := S1024x256) ![0, 0] S1024x256.size inb_S1024x256_S1024x256_0_0).toLoadRect) (ix2 r d) = (∑ u : Fin 8, dvC (fun j e => x9 (ix4 0 0 j e)) (laneX i x2 x3 x4 x5 x8 x12 x13 x14 x15 x16 u) r d : EReal) := by
  unfold View.readCov
  rw [View.writes_append, View.readAt_apply]
  refine (congrArg _ (idx_whole r d)).trans ?_
  refine (outer_dv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (bodyRun.sl.r (F := Ideal) i arg3 (harg3.unread x3)) (bodyRun.sl.r_1 (F := Ideal) i arg4 (harg4.unread x4)) (bodyRun.sl.r_6 (F := Ideal) i arg2 (harg2.unread x2)) (bodyRun.sl.r_7 (F := Ideal) i arg5 (harg5.unread x5)) (bodyRun.sl.r_8 (F := Ideal) i arg2 arg3 (harg2.unread x2) (harg3.unread x3)) (harg6.unread x6) (harg7.unread x7) (harg8.unread x8) (harg9.unread x9) (harg10.unread x10) (harg11.unread x11) (harg12.unread x12) (harg13.unread x13) (harg14.unread x14) (harg15.unread x15) (harg16.unread x16) hw f17 (arg20.view.writes (Elt Ideal) arg20.view.junk (bodyRun.sl.HW20_1 (F := Ideal))) (arg21.view.writes (Elt Ideal) arg21.view.junk (bodyRun.sl.HW21_1 (F := Ideal))) A B hA hB _ le_rfl r d).trans ?_
  have hz : (arg21.view.read (Elt Ideal) (arg21.view.writes (Elt Ideal) arg21.view.junk (bodyRun.sl.HW21_1 (F := Ideal))) (ix2 r d) : EReal) = 0 := by
    unfold bodyRun.sl.HW21_1
    refine (View.read_writes_cons_rows_of_mem (Val := Elt Ideal) arg21.view arg21.view.junk (d := S1024x256.size) (o := 0) inb_S1024x256_S1024x256_0_0 _ [] (ix2 r d) (ix2 r d) rfl
      (by show r.val = 0 + r.val; omega) rfl).trans ?_
    pointwise [k0_pay25, k0_pay26]
  rw [hz, zero_add, Finset.sum_range]
  refine Finset.sum_congr rfl fun u _ => ?_
  rw [dif_pos u.isLt, unitL_eq]
  simp only [harg9.read_unread, harg11.read_unread]
  exact dv_live (hP u) r d

/-- The key gradient's block. -/
theorem out18_apply (r : Fin 1024) (d : Fin 256) :
    out18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x2 x3 x4 x5 x6 x7 x8 x9 x10 x11 x12 x13 x14 x15 x16 hw (ix4 0 0 r d) = ((∑ u : Fin 8, dkC (fun j e => x9 (ix4 0 0 j e)) (fun j e => x11 (ix4 0 0 j e)) (laneX i x2 x3 x4 x5 x8 x12 x13 x14 x15 x16 u) r d) * Ideal.ofBits .f32 0x3D800000 : EReal) := by
  unfold out18
  have hL : (bodyRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) hw).2.1 arg17.view.junk = [⟨Rect.unit (s := S1x1x1024x256) ![0, 0, 0, 0] ![1, 1, 1024, 256] inb_S1x1x1024x256_S1x1x1024x256_0_0_0_0, k0_pay10 (F := Ideal) (arg20.view.readCov ((opb (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (bodyRun.sl.r (F := Ideal) i arg3 (harg3.unread x3)) (bodyRun.sl.r_1 (F := Ideal) i arg4 (harg4.unread x4)) (bodyRun.sl.r_6 (F := Ideal) i arg2 (harg2.unread x2)) (bodyRun.sl.r_7 (F := Ideal) i arg5 (harg5.unread x5)) (bodyRun.sl.r_8 (F := Ideal) i arg2 arg3 (harg2.unread x2) (harg3.unread x3)) (harg6.unread x6) (harg7.unread x7) (harg8.unread x8) (harg9.unread x9) (harg10.unread x10) (harg11.unread x11) (harg12.unread x12) (harg13.unread x13) (harg14.unread x14) (harg15.unread x15) (harg16.unread x16) hw arg17.view.junk (arg20.view.writes (Elt Ideal) arg20.view.junk (bodyRun.sl.HW20_1 (F := Ideal))) (arg21.view.writes (Elt Ideal) arg21.view.junk (bodyRun.sl.HW21_1 (F := Ideal))) k0_t1_loop.trips).2.1 ++ (bodyRun.sl.HW20_1 (F := Ideal))) (Rect.unit (s := S1024x256) ![0, 0] S1024x256.size inb_S1024x256_S1024x256_0_0).toLoadRect)⟩] := by
    unfold bodyRun
    dsimp only
    unfold bodyRun.sl.v45
    dsimp only [Scf.Loop.trips]
  rw [hL]
  refine (View.read_writes_cons_unit_of_mem _ _ inb_S1x1x1024x256_S1x1x1024x256_0_0_0_0 _ _ _ (ix4 0 0 r d) rfl ?_).trans ?_
  · intro x
    fin_cases x
    · rfl
    · rfl
    · show r.val = 0 + r.val; omega
    · show d.val = 0 + d.val; omega
  · rw [pay10_apply]
    exact congrArg (· * _) (acc_dk c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x2 x3 x4 x5 x6 x7 x8 x9 x10 x11 x12 x13 x14 x15 x16 hw A B hA hB hP _ r d)

/-- The value gradient's block. -/
theorem out19_apply (r : Fin 1024) (d : Fin 256) :
    out19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x2 x3 x4 x5 x6 x7 x8 x9 x10 x11 x12 x13 x14 x15 x16 hw (ix4 0 0 r d) = (∑ u : Fin 8, dvC (fun j e => x9 (ix4 0 0 j e)) (laneX i x2 x3 x4 x5 x8 x12 x13 x14 x15 x16 u) r d : EReal) := by
  unfold out19
  have hL : (bodyRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) hw).2.2.1 arg17.view.junk = [⟨Rect.unit (s := S1x1x1024x256) ![0, 0, 0, 0] ![1, 1, 1024, 256] inb_S1x1x1024x256_S1x1x1024x256_0_0_0_0, k0_pay11 (F := Ideal) (arg21.view.readCov ((opb (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (bodyRun.sl.r (F := Ideal) i arg3 (harg3.unread x3)) (bodyRun.sl.r_1 (F := Ideal) i arg4 (harg4.unread x4)) (bodyRun.sl.r_6 (F := Ideal) i arg2 (harg2.unread x2)) (bodyRun.sl.r_7 (F := Ideal) i arg5 (harg5.unread x5)) (bodyRun.sl.r_8 (F := Ideal) i arg2 arg3 (harg2.unread x2) (harg3.unread x3)) (harg6.unread x6) (harg7.unread x7) (harg8.unread x8) (harg9.unread x9) (harg10.unread x10) (harg11.unread x11) (harg12.unread x12) (harg13.unread x13) (harg14.unread x14) (harg15.unread x15) (harg16.unread x16) hw arg17.view.junk (arg20.view.writes (Elt Ideal) arg20.view.junk (bodyRun.sl.HW20_1 (F := Ideal))) (arg21.view.writes (Elt Ideal) arg21.view.junk (bodyRun.sl.HW21_1 (F := Ideal))) k0_t1_loop.trips).2.2 ++ (bodyRun.sl.HW21_1 (F := Ideal))) (Rect.unit (s := S1024x256) ![0, 0] S1024x256.size inb_S1024x256_S1024x256_0_0).toLoadRect)⟩] := by
    unfold bodyRun
    dsimp only
    unfold bodyRun.sl.v52
    dsimp only [Scf.Loop.trips]
  rw [hL]
  refine (View.read_writes_cons_unit_of_mem _ _ inb_S1x1x1024x256_S1x1x1024x256_0_0_0_0 _ _ _ (ix4 0 0 r d) rfl ?_).trans ?_
  · intro x
    fin_cases x
    · rfl
    · rfl
    · show r.val = 0 + r.val; omega
    · show d.val = 0 + d.val; omega
  · rw [pay11_apply]
    exact acc_dv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x2 x3 x4 x5 x6 x7 x8 x9 x10 x11 x12 x13 x14 x15 x16 hw A B hA hB hP _ r d

/-- The query gradient's block. -/
theorem out17_apply (hT : ∀ (c' : Fin 8) (d : Fin 256) (p : Fin 128), x10 (ix5 0 0 c' d p) = (x9 (ix4 0 0 (⟨c'.val * 128 + p.val, by omega⟩ : Fin 1024) d) : EReal))
    (u : Fin 8) (l d : Fin 256) :
    out17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x2 x3 x4 x5 x6 x7 x8 x9 x10 x11 x12 x13 x14 x15 x16 hw (ix5 0 0 u l d)
      = ((∑ j : Fin 1024, x9 (ix4 0 0 j d) * cellD (fun j e => x9 (ix4 0 0 j e)) (fun j e => x11 (ix4 0 0 j e)) (laneX i x2 x3 x4 x5 x8 x12 x13 x14 x15 x16 u) j l) * (x3 (ix1 (gp i)) * Ideal.ofBits .f32 0x3D800000) : EReal) := by
  unfold out17
  have hL : (bodyRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) hw).1 arg17.view.junk = (opb (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (bodyRun.sl.r (F := Ideal) i arg3 (harg3.unread x3)) (bodyRun.sl.r_1 (F := Ideal) i arg4 (harg4.unread x4)) (bodyRun.sl.r_6 (F := Ideal) i arg2 (harg2.unread x2)) (bodyRun.sl.r_7 (F := Ideal) i arg5 (harg5.unread x5)) (bodyRun.sl.r_8 (F := Ideal) i arg2 arg3 (harg2.unread x2) (harg3.unread x3)) (harg6.unread x6) (harg7.unread x7) (harg8.unread x8) (harg9.unread x9) (harg10.unread x10) (harg11.unread x11) (harg12.unread x12) (harg13.unread x13) (harg14.unread x14) (harg15.unread x15) (harg16.unread x16) hw arg17.view.junk (arg20.view.writes (Elt Ideal) arg20.view.junk (bodyRun.sl.HW20_1 (F := Ideal))) (arg21.view.writes (Elt Ideal) arg21.view.junk (bodyRun.sl.HW21_1 (F := Ideal))) k0_t1_loop.trips).1 := by
    unfold bodyRun
    dsimp only [Scf.Loop.trips]
  rw [hL]
  refine (outer_dq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (bodyRun.sl.r (F := Ideal) i arg3 (harg3.unread x3)) (bodyRun.sl.r_1 (F := Ideal) i arg4 (harg4.unread x4)) (bodyRun.sl.r_6 (F := Ideal) i arg2 (harg2.unread x2)) (bodyRun.sl.r_7 (F := Ideal) i arg5 (harg5.unread x5)) (bodyRun.sl.r_8 (F := Ideal) i arg2 arg3 (harg2.unread x2) (harg3.unread x3)) (harg6.unread x6) (harg7.unread x7) (harg8.unread x8) (harg9.unread x9) (harg10.unread x10) (harg11.unread x11) (harg12.unread x12) (harg13.unread x13) (harg14.unread x14) (harg15.unread x15) (harg16.unread x16) hw _ (arg20.view.writes (Elt Ideal) arg20.view.junk (bodyRun.sl.HW20_1 (F := Ideal))) (arg21.view.writes (Elt Ideal) arg21.view.junk (bodyRun.sl.HW21_1 (F := Ideal))) A B hA hB
    (fun c' d p => by rw [harg10.read_unread, harg9.read_unread]; exact hT c' d p) _ le_rfl ⟨u.val, u.isLt.trans_le (by decide)⟩ (u.isLt.trans_le (by decide)) l d).trans ?_
  rw [unitL_eq]
  simp only [harg9.read_unread, harg11.read_unread]
  refine congr (congrArg HMul.hMul (dq_live _ _ (hP ⟨u.val, u.isLt.trans_le (by decide)⟩) _ d l)) (congrArg (· * _) ?_)
  exact scale_read arg3 harg3 x3 _ _ (gp i) (k0_off1_eq i) _

end Body

end Cert.Proof.KernelIdeal

end
-- ==== Proof.HostValue.lean ====
/-
  The arrays the region reads, at an index, in terms of the arguments.
-/
module

public import proofs.«01_k».proof.Proof.FrameIdeal
public import Idealize.ShloMosaic.Lib.Pointwise

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Cert.Proof.Tables

variable {F : FTy → Type} [FloatOps F]

/-- The position lane `l` of block `u` stands for. -/
def ps (u : Fin 8) (l : Fin 256) : Fin 1024 := ⟨u.val * 128 + l.val % 128, by omega⟩

/-- The head lane `l` of group `g` stands for. -/
def hl (g : Fin 4) (l : Fin 256) : Fin 8 := ⟨2 * g.val + l.val / 128, by omega⟩

/-- A per-head array laid out by groups, blocks and lanes. -/
theorem perUnit_apply {τe : EltTy} (x : Vec F S24x1024x8x256 τe) (b : Fin 24) (g : Fin 4) (u : Fin 8) (l e : Fin 256) :
    shapeCast S24x4x8x256x256 (transpose S24x4x8x2x128x256 [0, 3, 1, 4, 2, 5] (shapeCast S24x8x128x4x2x256 x shapeCasts_S24x1024x8x256_S24x8x128x4x2x256)
      transposes_S24x8x128x4x2x256_S24x4x8x2x128x256_0_3_1_4_2_5) shapeCasts_S24x4x8x2x128x256_S24x4x8x256x256 (ix5 b g u l e) = x (ix4 b (ps u l) (hl g l) e) := by
  pointwise
  refine congrArg x ?_
  blk_ext [ps, hl]

/-- A row of positions laid out by blocks and lanes, the same for both heads. -/
theorem lanes_apply (x : Vec F S24x1024 .i32) (b : Fin 24) (u : Fin 8) (l : Fin 256) :
    shapeCast S24x8x1x256 (broadcastInDim S1x24x1x8x1x1x2x128 ![0, 1, 2, 3, 4, 5, 6, 7] bcast_S1x24x1x8x1x1x1x128_S1x24x1x8x1x1x2x128_0_1_2_3_4_5_6_7
      (shapeCast S1x24x1x8x1x1x1x128 (shapeCast S24x8x1x128 x shapeCasts_S24x1024_S24x8x1x128) shapeCasts_S24x8x1x128_S1x24x1x8x1x1x1x128))
      shapeCasts_S1x24x1x8x1x1x2x128_S24x8x1x256 (ix4 b u 0 l) = x (ix2 b (ps u l)) := by
  pointwise
  refine congrArg x ?_
  blk_ext [ps]

/-- The key codes laid out by groups, chunks and columns. -/
theorem transposed_apply {τe : EltTy} (x : Vec F S24x1024x4x256 τe) (b : Fin 24) (g : Fin 4) (u : Fin 8) (e : Fin 256) (p : Fin 128) :
    transpose S24x4x8x256x128 [0, 3, 1, 4, 2] (shapeCast S24x8x128x4x256 x shapeCasts_S24x1024x4x256_S24x8x128x4x256)
      transposes_S24x8x128x4x256_S24x4x8x256x128_0_3_1_4_2 (ix5 b g u e p) = x (ix4 b (⟨u.val * 128 + p.val, by omega⟩ : Fin 1024) g e) := by
  pointwise

/-- A per-head row of positions laid out by groups, blocks and lanes. -/
theorem perLane_apply (x : Vec F S24x8x1024 .f32) (b : Fin 24) (g : Fin 4) (u : Fin 8) (l : Fin 256) :
    shapeCast S24x4x8x1x256 (transpose S24x4x8x2x128 [0, 1, 3, 2, 4] (shapeCast S24x4x2x8x128 x shapeCasts_S24x8x1024_S24x4x2x8x128)
      transposes_S24x4x2x8x128_S24x4x8x2x128_0_1_3_2_4) shapeCasts_S24x4x8x2x128_S24x4x8x1x256 (ix5 b g u 0 l) = x (ix3 b (hl g l) (ps u l)) := by
  pointwise
  refine congrArg x ?_
  blk_ext [ps, hl]

variable (m : (ℓ : Loc nD τ sig) → Buf (Elt F) ℓ)

/-- The query codes the region reads. -/
theorem V_v2 (c : Dev nD) (b : Fin 24) (g : Fin 4) (u : Fin 8) (l e : Fin 256) :
    V m c main_v2 (ix5 b g u l e) = m ((c : Thread nD τ).loc main_arg0) (ix4 b (ps u l) (hl g l) e) := by
  entry_read
  exact perUnit_apply _ b g u l e

/-- The codes of the output gradient the region reads. -/
theorem V_v5 (c : Dev nD) (b : Fin 24) (g : Fin 4) (u : Fin 8) (l e : Fin 256) :
    V m c main_v5 (ix5 b g u l e) = m ((c : Thread nD τ).loc main_arg7) (ix4 b (ps u l) (hl g l) e) := by
  entry_read
  exact perUnit_apply _ b g u l e

/-- The outputs the region reads. -/
theorem V_v8 (c : Dev nD) (b : Fin 24) (g : Fin 4) (u : Fin 8) (l e : Fin 256) :
    V m c main_v8 (ix5 b g u l e) = m ((c : Thread nD τ).loc main_arg6) (ix4 b (ps u l) (hl g l) e) := by
  entry_read
  exact perUnit_apply _ b g u l e

/-- The key codes the region reads. -/
theorem V_v9 (c : Dev nD) (b : Fin 24) (g : Fin 4) (j : Fin 1024) (e : Fin 256) :
    V m c main_v9 (ix4 b g j e) = m ((c : Thread nD τ).loc main_arg2) (ix4 b j g e) := by
  refine Eq.trans (b := transpose S24x4x1024x256 [0, 2, 1, 3] (m ((c : Thread nD τ).loc main_arg2)) transposes_S24x1024x4x256_S24x4x1024x256_0_2_1_3 (ix4 b g j e)) ?_ (by pointwise)
  entry_read
  rfl

/-- The value codes the region reads. -/
theorem V_v10 (c : Dev nD) (b : Fin 24) (g : Fin 4) (j : Fin 1024) (e : Fin 256) :
    V m c main_v10 (ix4 b g j e) = m ((c : Thread nD τ).loc main_arg4) (ix4 b j g e) := by
  refine Eq.trans (b := transpose S24x4x1024x256 [0, 2, 1, 3] (m ((c : Thread nD τ).loc main_arg4)) transposes_S24x1024x4x256_S24x4x1024x256_0_2_1_3 (ix4 b g j e)) ?_ (by pointwise)
  entry_read
  rfl

/-- The transposed key codes the region reads. -/
theorem V_v12 (c : Dev nD) (b : Fin 24) (g : Fin 4) (u : Fin 8) (e : Fin 256) (p : Fin 128) :
    V m c main_v12 (ix5 b g u e p) = m ((c : Thread nD τ).loc main_arg2) (ix4 b (⟨u.val * 128 + p.val, by omega⟩ : Fin 1024) g e) := by
  entry_read
  exact transposed_apply _ b g u e p

/-- The logarithms the region reads. -/
theorem V_v15 (c : Dev nD) (b : Fin 24) (g : Fin 4) (u : Fin 8) (l : Fin 256) :
    V m c main_v15 (ix5 b g u 0 l) = m ((c : Thread nD τ).loc main_arg9) (ix3 b (hl g l) (ps u l)) := by
  entry_read
  exact perLane_apply _ b g u l

/-- The lower limits of the lanes the region reads. -/
theorem V_v39 (c : Dev nD) (b : Fin 24) (u : Fin 8) (l : Fin 256) :
    V m c main_v39 (ix4 b u 0 l) = loW (m ((c : Thread nD τ).loc main_arg10)) (ix2 b (ps u l)) := by
  refine Eq.trans (congrFun ?_ _) (lanes_apply _ b u l)
  entry_read
  simp only [hostOps0, hostOps0_1, hostOps0_2, hostOps0_3, hostOps0_4, hostOps0_5, hostOps0_6, hostOps0_7, hostOps0_8, List.flatten_cons, List.flatten_nil, List.cons_append, List.nil_append, List.append_nil]
  after_results_simp
  simp -implicitDefEqProofs only [StableHlo.TRef.ofBuf, StableHlo.TRef.toBuf, cast_cast, cast_eq, id]
  rfl

/-- The upper limits of the lanes the region reads. -/
theorem V_v43 (c : Dev nD) (b : Fin 24) (u : Fin 8) (l : Fin 256) :
    V m c main_v43 (ix4 b u 0 l) = hiW (m ((c : Thread nD τ).loc main_arg10)) (ix2 b (ps u l)) := by
  refine Eq.trans (congrFun ?_ _) (lanes_apply _ b u l)
  entry_read
  simp only [hostOps0, hostOps0_1, hostOps0_2, hostOps0_3, hostOps0_4, hostOps0_5, hostOps0_6, hostOps0_7, hostOps0_8, List.flatten_cons, List.flatten_nil, List.cons_append, List.nil_append, List.append_nil]
  after_results_simp
  simp -implicitDefEqProofs only [StableHlo.TRef.ofBuf, StableHlo.TRef.toBuf, cast_cast, cast_eq, id]
  rfl

end Cert.Proof.KernelIdeal

end
-- ==== Proof.HostBlocks.lean ====
/-
  The blocks a grid point reads, at an index, in terms of the arguments.
-/
module

public import proofs.«01_k».proof.Proof.HostValue

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Cert.Proof.Tables

variable {F : FTy → Type} [FloatOps F]

variable (m : (ℓ : Loc nD τ sig) → Buf (Elt F) ℓ)

/-! ## The blocks of a grid point -/

/-- The row of grid point `t`. -/
def bt (t : Fin cfg0.N) : Fin 24 := ⟨(grid0.coords t 0).val, (grid0.coords t 0).isLt⟩

/-- The group of grid point `t`. -/
def gt (t : Fin cfg0.N) : Fin 4 := ⟨(grid0.coords t 1).val, (grid0.coords t 1).isLt⟩

/-- The scales of window 0 are the argument's. -/
theorem iblk0_eq (c : Dev nD) (t : Fin cfg0.N) : iblk m c 0 t = m ((c : Thread nD τ).loc main_arg1) := by
  rw [← V_main_arg1 m c]
  funext y
  blk_ext [iblk, show win0_0.index t 0 = 0 from rfl]

/-- The scales of window 1 are the argument's. -/
theorem iblk1_eq (c : Dev nD) (t : Fin cfg0.N) : iblk m c 1 t = m ((c : Thread nD τ).loc main_arg3) := by
  rw [← V_main_arg3 m c]
  funext y
  blk_ext [iblk, show win0_1.index t 0 = 0 from rfl]

/-- The scales of window 2 are the argument's. -/
theorem iblk2_eq (c : Dev nD) (t : Fin cfg0.N) : iblk m c 2 t = m ((c : Thread nD τ).loc main_arg5) := by
  rw [← V_main_arg5 m c]
  funext y
  blk_ext [iblk, show win0_2.index t 0 = 0 from rfl]

/-- The scales of window 3 are the argument's. -/
theorem iblk3_eq (c : Dev nD) (t : Fin cfg0.N) : iblk m c 3 t = m ((c : Thread nD τ).loc main_arg8) := by
  rw [← V_main_arg8 m c]
  funext y
  blk_ext [iblk, show win0_3.index t 0 = 0 from rfl]

/-- Which block of its array window 6 reads. -/
theorem idx6 : ∀ t : Fin grid0.N, win0_6.index t 0 = (grid0.coords t 0).val ∧ win0_6.index t 1 = (grid0.coords t 1).val ∧ win0_6.index t 2 = 0 ∧ win0_6.index t 3 = 0 ∧ win0_6.index t 4 = 0 := by
  decide +kernel

/-- The block of the query codes. -/
theorem iblk6_apply (c : Dev nD) (t : Fin cfg0.N) (u : Fin 8) (l e : Fin 256) :
    iblk m c 6 t (ix5 0 0 u l e) = m ((c : Thread nD τ).loc main_arg0) (ix4 (bt t) (ps u l) (hl (gt t) l) e) := by
  have h : ((cfg0.win 6).blk t).view.emb (ix5 0 0 u l e) = (ix5 (bt t) (gt t) u l e : (⟨5, ![24, 4, 8, 256, 256]⟩ : Shape).Idx) := by
    blk_ext [idx6 t, bt, gt]
  refine Eq.trans (b := V m c main_v2 (ix5 (bt t) (gt t) u l e)) ?_ (V_v2 m c (bt t) (gt t) u l e)
  unfold iblk
  generalize V m c (Pipeline.arrRef spec0 6) = X
  exact congrArg X h

/-- Which block of its array window 10 reads. -/
theorem idx10 : ∀ t : Fin grid0.N, win0_10.index t 0 = (grid0.coords t 0).val ∧ win0_10.index t 1 = (grid0.coords t 1).val ∧ win0_10.index t 2 = 0 ∧ win0_10.index t 3 = 0 ∧ win0_10.index t 4 = 0 := by
  decide +kernel

/-- The block of the codes of the output gradient. -/
theorem iblk10_apply (c : Dev nD) (t : Fin cfg0.N) (u : Fin 8) (l e : Fin 256) :
    iblk m c 10 t (ix5 0 0 u l e) = m ((c : Thread nD τ).loc main_arg7) (ix4 (bt t) (ps u l) (hl (gt t) l) e) := by
  have h : ((cfg0.win 10).blk t).view.emb (ix5 0 0 u l e) = (ix5 (bt t) (gt t) u l e : (⟨5, ![24, 4, 8, 256, 256]⟩ : Shape).Idx) := by
    blk_ext [idx10 t, bt, gt]
  refine Eq.trans (b := V m c main_v5 (ix5 (bt t) (gt t) u l e)) ?_ (V_v5 m c (bt t) (gt t) u l e)
  unfold iblk
  generalize V m c (Pipeline.arrRef spec0 10) = X
  exact congrArg X h

/-- Which block of its array window 11 reads. -/
theorem idx11 : ∀ t : Fin grid0.N, win0_11.index t 0 = (grid0.coords t 0).val ∧ win0_11.index t 1 = (grid0.coords t 1).val ∧ win0_11.index t 2 = 0 ∧ win0_11.index t 3 = 0 ∧ win0_11.index t 4 = 0 := by
  decide +kernel

/-- The block of the outputs. -/
theorem iblk11_apply (c : Dev nD) (t : Fin cfg0.N) (u : Fin 8) (l e : Fin 256) :
    iblk m c 11 t (ix5 0 0 u l e) = m ((c : Thread nD τ).loc main_arg6) (ix4 (bt t) (ps u l) (hl (gt t) l) e) := by
  have h : ((cfg0.win 11).blk t).view.emb (ix5 0 0 u l e) = (ix5 (bt t) (gt t) u l e : (⟨5, ![24, 4, 8, 256, 256]⟩ : Shape).Idx) := by
    blk_ext [idx11 t, bt, gt]
  refine Eq.trans (b := V m c main_v8 (ix5 (bt t) (gt t) u l e)) ?_ (V_v8 m c (bt t) (gt t) u l e)
  unfold iblk
  generalize V m c (Pipeline.arrRef spec0 11) = X
  exact congrArg X h

/-- Which block of its array window 7 reads. -/
theorem idx7 : ∀ t : Fin grid0.N, win0_7.index t 0 = (grid0.coords t 0).val ∧ win0_7.index t 1 = (grid0.coords t 1).val ∧ win0_7.index t 2 = 0 ∧ win0_7.index t 3 = 0 := by
  decide +kernel

/-- The block of the key codes. -/
theorem iblk7_apply (c : Dev nD) (t : Fin cfg0.N) (j : Fin 1024) (e : Fin 256) :
    iblk m c 7 t (ix4 0 0 j e) = m ((c : Thread nD τ).loc main_arg2) (ix4 (bt t) j (gt t) e) := by
  have h : ((cfg0.win 7).blk t).view.emb (ix4 0 0 j e) = (ix4 (bt t) (gt t) j e : (⟨4, ![24, 4, 1024, 256]⟩ : Shape).Idx) := by
    blk_ext [idx7 t, bt, gt]
  refine Eq.trans (b := V m c main_v9 (ix4 (bt t) (gt t) j e)) ?_ (V_v9 m c (bt t) (gt t) j e)
  unfold iblk
  generalize V m c (Pipeline.arrRef spec0 7) = X
  exact congrArg X h

/-- Which block of its array window 9 reads. -/
theorem idx9 : ∀ t : Fin grid0.N, win0_9.index t 0 = (grid0.coords t 0).val ∧ win0_9.index t 1 = (grid0.coords t 1).val ∧ win0_9.index t 2 = 0 ∧ win0_9.index t 3 = 0 := by
  decide +kernel

/-- The block of the value codes. -/
theorem iblk9_apply (c : Dev nD) (t : Fin cfg0.N) (j : Fin 1024) (e : Fin 256) :
    iblk m c 9 t (ix4 0 0 j e) = m ((c : Thread nD τ).loc main_arg4) (ix4 (bt t) j (gt t) e) := by
  have h : ((cfg0.win 9).blk t).view.emb (ix4 0 0 j e) = (ix4 (bt t) (gt t) j e : (⟨4, ![24, 4, 1024, 256]⟩ : Shape).Idx) := by
    blk_ext [idx9 t, bt, gt]
  refine Eq.trans (b := V m c main_v10 (ix4 (bt t) (gt t) j e)) ?_ (V_v10 m c (bt t) (gt t) j e)
  unfold iblk
  generalize V m c (Pipeline.arrRef spec0 9) = X
  exact congrArg X h

/-- Which block of its array window 8 reads. -/
theorem idx8 : ∀ t : Fin grid0.N, win0_8.index t 0 = (grid0.coords t 0).val ∧ win0_8.index t 1 = (grid0.coords t 1).val ∧ win0_8.index t 2 = 0 ∧ win0_8.index t 3 = 0 ∧ win0_8.index t 4 = 0 := by
  decide +kernel

/-- The block of the transposed key codes. -/
theorem iblk8_apply (c : Dev nD) (t : Fin cfg0.N) (u : Fin 8) (e : Fin 256) (p : Fin 128) :
    iblk m c 8 t (ix5 0 0 u e p) = m ((c : Thread nD τ).loc main_arg2) (ix4 (bt t) (⟨u.val * 128 + p.val, by omega⟩ : Fin 1024) (gt t) e) := by
  have h : ((cfg0.win 8).blk t).view.emb (ix5 0 0 u e p) = (ix5 (bt t) (gt t) u e p : (⟨5, ![24, 4, 8, 256, 128]⟩ : Shape).Idx) := by
    blk_ext [idx8 t, bt, gt]
  refine Eq.trans (b := V m c main_v12 (ix5 (bt t) (gt t) u e p)) ?_ (V_v12 m c (bt t) (gt t) u e p)
  unfold iblk
  generalize V m c (Pipeline.arrRef spec0 8) = X
  exact congrArg X h

/-- Which block of its array window 12 reads. -/
theorem idx12 : ∀ t : Fin grid0.N, win0_12.index t 0 = (grid0.coords t 0).val ∧ win0_12.index t 1 = (grid0.coords t 1).val ∧ win0_12.index t 2 = 0 ∧ win0_12.index t 3 = 0 ∧ win0_12.index t 4 = 0 := by
  decide +kernel

/-- The block of the logarithms. -/
theorem iblk12_apply (c : Dev nD) (t : Fin cfg0.N) (u : Fin 8) (l : Fin 256) :
    iblk m c 12 t (ix5 0 0 u 0 l) = m ((c : Thread nD τ).loc main_arg9) (ix3 (bt t) (hl (gt t) l) (ps u l)) := by
  have h : ((cfg0.win 12).blk t).view.emb (ix5 0 0 u 0 l) = (ix5 (bt t) (gt t) u 0 l : (⟨5, ![24, 4, 8, 1, 256]⟩ : Shape).Idx) := by
    blk_ext [idx12 t, bt, gt]
  refine Eq.trans (b := V m c main_v15 (ix5 (bt t) (gt t) u 0 l)) ?_ (V_v15 m c (bt t) (gt t) u l)
  unfold iblk
  generalize V m c (Pipeline.arrRef spec0 12) = X
  exact congrArg X h

/-- Which block of its array window 13 reads. -/
theorem idx13 : ∀ t : Fin grid0.N, win0_13.index t 0 = (grid0.coords t 0).val ∧ win0_13.index t 1 = 0 ∧ win0_13.index t 2 = 0 ∧ win0_13.index t 3 = 0 := by
  decide +kernel

/-- The block of the lanes' lower limits. -/
theorem iblk13_apply (c : Dev nD) (t : Fin cfg0.N) (u : Fin 8) (l : Fin 256) :
    iblk m c 13 t (ix4 0 u 0 l) = loW (m ((c : Thread nD τ).loc main_arg10)) (ix2 (bt t) (ps u l)) := by
  have h : ((cfg0.win 13).blk t).view.emb (ix4 0 u 0 l) = (ix4 (bt t) u 0 l : (⟨4, ![24, 8, 1, 256]⟩ : Shape).Idx) := by
    blk_ext [idx13 t, bt, gt]
  refine Eq.trans (b := V m c main_v39 (ix4 (bt t) u 0 l)) ?_ (V_v39 m c (bt t) u l)
  unfold iblk
  generalize V m c (Pipeline.arrRef spec0 13) = X
  exact congrArg X h

/-- Which block of its array window 14 reads. -/
theorem idx14 : ∀ t : Fin grid0.N, win0_14.index t 0 = (grid0.coords t 0).val ∧ win0_14.index t 1 = 0 ∧ win0_14.index t 2 = 0 ∧ win0_14.index t 3 = 0 := by
  decide +kernel

/-- The block of the lanes' upper limits. -/
theorem iblk14_apply (c : Dev nD) (t : Fin cfg0.N) (u : Fin 8) (l : Fin 256) :
    iblk m c 14 t (ix4 0 u 0 l) = hiW (m ((c : Thread nD τ).loc main_arg10)) (ix2 (bt t) (ps u l)) := by
  have h : ((cfg0.win 14).blk t).view.emb (ix4 0 u 0 l) = (ix4 (bt t) u 0 l : (⟨4, ![24, 8, 1, 256]⟩ : Shape).Idx) := by
    blk_ext [idx14 t, bt, gt]
  refine Eq.trans (b := V m c main_v43 (ix4 (bt t) u 0 l)) ?_ (V_v43 m c (bt t) u l)
  unfold iblk
  generalize V m c (Pipeline.arrRef spec0 14) = X
  exact congrArg X h

end Cert.Proof.KernelIdeal

end
-- ==== Proof.RefValue.lean ====
/-
  What the reference computes, at an index.
-/
module

public import proofs.«01_k».proof.Proof.Gen.ReferenceIdeal.Read
public import Idealize.ShloMosaic.Lib.Pointwise
public import Idealize.ShloMosaic.Lib.Pipeline.ValueKit

@[expose] public section

set_option maxRecDepth 16384
set_option maxHeartbeats 4000000

noncomputable section

namespace Cert.Proof.ReferenceIdeal

open Cert.ReferenceIdeal Cert.ReferenceIdeal.Gen Cert.ReferenceIdeal.Read
open Idealize.ShloMosaic Idealize.ShloMosaic.TcCoe Idealize.ShloMosaic.Tactic

/-- Head `r` of group `g`. -/
def hq (g : Fin 4) (r : Fin 2) : Fin 8 := ⟨g.val * 2 + r.val, by omega⟩

/-- The weight of key `j` for query `s` of head `r` of group `g`. -/
def rP (x1 : FVec Ideal S8 .f32) (x3 : FVec Ideal S4 .f32) (x9 : FVec Ideal S24x8x1024 .f32) (x10 : IVec S24x19 32) (r0 : FVec Ideal S24x1024x8x256 .bf16)
    (r1 : FVec Ideal S24x1024x4x256 .bf16) (b : Fin 24) (g : Fin 4) (r : Fin 2) (s j : Fin 1024) : EReal :=
  if val_main_v9 (F := Ideal) x10 (ix2 b s) = val_main_v9 (F := Ideal) x10 (ix2 b j) then
    Ideal.exp ((∑ e : Fin 256, r1 (ix4 b j g e) * r0 (ix4 b s (hq g r) e)) * (x1 (ix1 (hq g r)) * x3 (ix1 g) * Ideal.ofBits .f32 0x3D800000#32) - x9 (ix3 b (hq g r) s))
  else 0

/-- The gradient of that score. -/
def rD (x1 : FVec Ideal S8 .f32) (x3 x5 : FVec Ideal S4 .f32) (x6 : FVec Ideal S24x1024x8x256 .bf16) (x8 : FVec Ideal S8 .f32) (x9 : FVec Ideal S24x8x1024 .f32) (x10 : IVec S24x19 32) (r0 : FVec Ideal S24x1024x8x256 .bf16) (r1 r2 : FVec Ideal S24x1024x4x256 .bf16) (r3 : FVec Ideal S24x1024x8x256 .bf16) (b : Fin 24) (g : Fin 4) (r : Fin 2) (s j : Fin 1024) : EReal :=
  rP x1 x3 x9 x10 r0 r1 b g r s j * ((∑ e : Fin 256, r2 (ix4 b j g e) * r3 (ix4 b s (hq g r) e)) * (x8 (ix1 (hq g r)) * x5 (ix1 g))
    - ∑ e : Fin 256, (r3 (ix4 b s (hq g r) e) * x8 (ix1 (hq g r))) * x6 (ix4 b s (hq g r) e))

/-- The masked weights. -/
theorem v52_apply (x1 : FVec Ideal S8 .f32) (x3 : FVec Ideal S4 .f32) (x9 : FVec Ideal S24x8x1024 .f32) (x10 : IVec S24x19 32) (r0 : FVec Ideal S24x1024x8x256 .bf16)
    (r1 : FVec Ideal S24x1024x4x256 .bf16) (b : Fin 24) (g : Fin 4) (r : Fin 2) (s j : Fin 1024) :
    val_main_v52 (F := Ideal) x1 x3 x9 x10 r0 r1 (ix5 b g r s j) = rP x1 x3 x9 x10 r0 r1 b g r s j := by
  unfold rP hq
  pointwise [val_main_v52, val_main_v51, val_main_v50, val_main_v49, val_main_v48, val_main_v47, val_main_v46, val_main_v45, val_main_v44, val_main_v43, val_main_v41, val_main_v40, val_main_v22, val_main_v21, val_main_v20, val_main_v19, val_main_v18, val_main_v17, val_main_v15, val_main_v14, val_main_v13, val_main_v12, val_main_v11, val_main_v10, val_main_cst, val_main_cst_1, val_main_call0_v0, val_main_call0_v1, val_main_call0_v2]
  show (if IntOp.cmpi .eq _ _ = 1#1 then _ else Ideal.ofBits .f32 0#32) = _
  simp only [IntOp.cmpi_eq]
  exact if_congr Iff.rfl rfl (by simp)

/-- The second factor of the gradients of the scores. -/
theorem v59_apply (x5 : FVec Ideal S4 .f32) (x6 : FVec Ideal S24x1024x8x256 .bf16) (x8 : FVec Ideal S8 .f32) (r2 : FVec Ideal S24x1024x4x256 .bf16) (r3 : FVec Ideal S24x1024x8x256 .bf16)
    (b : Fin 24) (g : Fin 4) (r : Fin 2) (s j : Fin 1024) :
    val_main_v59 (F := Ideal) x5 x6 x8 r2 r3 (ix5 b g r s j) = (∑ e : Fin 256, r2 (ix4 b j g e) * r3 (ix4 b s (hq g r) e)) * (x8 (ix1 (hq g r)) * x5 (ix1 g))
      - ∑ e : Fin 256, (r3 (ix4 b s (hq g r) e) * x8 (ix1 (hq g r))) * x6 (ix4 b s (hq g r) e) := by
  unfold hq
  pointwise [val_main_v59, val_main_v58, val_main_v57, val_main_v56, val_main_v55, val_main_v54, val_main_v53, val_main_v42, val_main_v39, val_main_v38, val_main_v37, val_main_v36, val_main_v35, val_main_v34, val_main_v33, val_main_v32, val_main_v26, val_main_v25, val_main_v24, val_main_v23, val_main_v16]

/-- The gradients of the scores. -/
theorem v60_apply (x1 : FVec Ideal S8 .f32) (x3 x5 : FVec Ideal S4 .f32) (x6 : FVec Ideal S24x1024x8x256 .bf16) (x8 : FVec Ideal S8 .f32) (x9 : FVec Ideal S24x8x1024 .f32) (x10 : IVec S24x19 32) (r0 : FVec Ideal S24x1024x8x256 .bf16) (r1 r2 : FVec Ideal S24x1024x4x256 .bf16) (r3 : FVec Ideal S24x1024x8x256 .bf16) (b : Fin 24) (g : Fin 4) (r : Fin 2) (s j : Fin 1024) :
    val_main_v60 (F := Ideal) x1 x3 x5 x6 x8 x9 x10 r0 r1 r2 r3 (ix5 b g r s j) = rD x1 x3 x5 x6 x8 x9 x10 r0 r1 r2 r3 b g r s j := by
  rw [val_main_v60_apply, v52_apply, v59_apply]
  rfl

/-- The query gradient. -/
theorem v79_apply (x1 : FVec Ideal S8 .f32) (x3 x5 : FVec Ideal S4 .f32) (x6 : FVec Ideal S24x1024x8x256 .bf16) (x8 : FVec Ideal S8 .f32) (x9 : FVec Ideal S24x8x1024 .f32) (x10 : IVec S24x19 32) (r0 : FVec Ideal S24x1024x8x256 .bf16) (r1 r2 : FVec Ideal S24x1024x4x256 .bf16) (r3 : FVec Ideal S24x1024x8x256 .bf16) (b : Fin 24) (g : Fin 4) (r : Fin 2) (s : Fin 1024) (d : Fin 256) :
    val_main_v79 (F := Ideal) x1 x3 x5 x6 x8 x9 x10 r0 r1 r2 r3 (ix4 b s (hq g r) d) = (∑ j : Fin 1024, r1 (ix4 b j g d) * rD x1 x3 x5 x6 x8 x9 x10 r0 r1 r2 r3 b g r s j) * (x3 (ix1 g) * Ideal.ofBits .f32 0x3D800000#32) := by
  unfold hq
  pointwise [val_main_v79, val_main_v78, val_main_v65, val_main_v64, val_main_v63, val_main_v62, val_main_v61, val_main_v29, val_main_v28, val_main_v27, val_main_cst_0]
  simp only [v60_apply]

/-- The key gradient. -/
theorem v80_apply (x1 : FVec Ideal S8 .f32) (x3 x5 : FVec Ideal S4 .f32) (x6 : FVec Ideal S24x1024x8x256 .bf16) (x8 : FVec Ideal S8 .f32) (x9 : FVec Ideal S24x8x1024 .f32) (x10 : IVec S24x19 32) (r0 : FVec Ideal S24x1024x8x256 .bf16) (r1 r2 : FVec Ideal S24x1024x4x256 .bf16) (r3 : FVec Ideal S24x1024x8x256 .bf16) (b : Fin 24) (g : Fin 4) (j : Fin 1024) (d : Fin 256) :
    val_main_v80 (F := Ideal) x1 x3 x5 x6 x8 x9 x10 r0 r1 r2 r3 (ix4 b j g d) = (∑ s : Fin 1024, ∑ r : Fin 2, r0 (ix4 b s (hq g r) d) * (rD x1 x3 x5 x6 x8 x9 x10 r0 r1 r2 r3 b g r s j * x1 (ix1 (hq g r)))) * Ideal.ofBits .f32 0x3D800000#32 := by
  unfold hq
  pointwise [val_main_v80, val_main_v77, val_main_v76, val_main_v75, val_main_v74, val_main_v73, val_main_v72, val_main_v71, val_main_v41, val_main_v30, val_main_v15, val_main_cst_2]
  simp only [v60_apply]

/-- The value gradient. -/
theorem v81_apply (x1 : FVec Ideal S8 .f32) (x3 : FVec Ideal S4 .f32) (x8 : FVec Ideal S8 .f32) (x9 : FVec Ideal S24x8x1024 .f32) (x10 : IVec S24x19 32) (r0 : FVec Ideal S24x1024x8x256 .bf16) (r1 : FVec Ideal S24x1024x4x256 .bf16) (r3 : FVec Ideal S24x1024x8x256 .bf16) (b : Fin 24) (g : Fin 4) (j : Fin 1024) (d : Fin 256) :
    val_main_v81 (F := Ideal) x1 x3 x8 x9 x10 r0 r1 r3 (ix4 b j g d) = ∑ s : Fin 1024, ∑ r : Fin 2, r3 (ix4 b s (hq g r) d) * (rP x1 x3 x9 x10 r0 r1 b g r s j * x8 (ix1 (hq g r))) := by
  unfold hq
  pointwise [val_main_v81, val_main_v70, val_main_v69, val_main_v68, val_main_v67, val_main_v66, val_main_v42, val_main_v31, val_main_v16]
  simp only [v52_apply]

end Cert.Proof.ReferenceIdeal

end
-- ==== Proof.Mask.lean ====
/-
  Two positions of a row belong to one document for the reference, which counts the boundaries at or before each,
  exactly when they lie between the same boundaries.
-/
module

public import proofs.«01_k».proof.Proof.Gen.ReferenceIdeal.Read
public import proofs.«01_k».proof.Proof.Tables
public import Idealize.ShloMosaic.Lib.Pointwise
public import Idealize.ShloMosaic.Lib.IndicatorCount

@[expose] public section

set_option maxRecDepth 16384

noncomputable section

namespace Cert.Proof.ReferenceIdeal

open Cert.ReferenceIdeal Cert.ReferenceIdeal.Gen Cert.ReferenceIdeal.Read
open Idealize.ShloMosaic Idealize.ShloMosaic.TcCoe Idealize.ShloMosaic.Tactic
open Cert.Proof.Tables

/-- A boundary after the first, compared with a position. -/
theorem v7_apply (cu : IVec S24x19 32) (b : Fin 24) (e : Fin 18) (s : Fin 1024) :
    val_main_v7 (F := Ideal) cu (ix3 b e s) = 1#1 ↔ At cu b e.succ s.val := by
  have h : val_main_v7 (F := Ideal) cu (ix3 b e s) = IntOp.cmpi .sle (cu (ix2 b e.succ)) (BitVec.ofNat 32 s.val) := by
    pointwise [val_main_v7, val_main_v6, val_main_v5, val_main_v4, val_main_v3, val_main_v2, val_main_v1]
    refine congrArg (fun w => IntOp.cmpi .sle w _) (congrArg cu ?_)
    refine congrArg (ix2 b) (Fin.ext ?_)
    simp [Nat.add_comm]
  rw [h, IntOp.cmpi_sle, At, ofNat_toInt _ (by omega)]

/-- The middle coordinate inserted into a reduced index. -/
theorem lift18 (h : S24x18x1024.Reduces [1] S24x1024) (b : Fin 24) (p : Fin 1024) (e : Fin 18) :
    h.lift (ix2 b p) e = ix3 b e p := by
  funext a
  apply Fin.ext
  fin_cases a <;> rfl

/-- The document of a position is the number of boundaries after the first that lie at or before it. -/
theorem v9_apply (cu : IVec S24x19 32) (b : Fin 24) (s : Fin 1024) :
    val_main_v9 (F := Ideal) cu (ix2 b s) = BitVec.ofNat 32 ((Finset.univ : Finset (Fin 18)).filter fun e => val_main_v7 (F := Ideal) cu (ix3 b e s) = 1#1).card := by
  have h : S24x18x1024.Reduces [1] S24x1024 := by decide
  unfold val_main_v9
  rw [Host.reduce_eq_fold_single _ _ _ _ h]
  refine Eq.trans ?_ (IndicatorCount.fold_addi_setWidth_eq_card (w := 32) (fun e : Fin 18 => val_main_v7 (F := Ideal) cu (ix3 b e s)) Finset.univ)
  exact congrArg (fun f => Finset.univ.fold IntOp.addi 0#32 f) (funext fun e : Fin 18 => congrArg (val_main_v8 (F := Ideal) cu) (lift18 h b s e))

/-- Positions with the same count lie between the same boundaries, where the first boundary is 0. -/
theorem same_iff (cu : IVec S24x19 32) (b : Fin 24) (h0 : cu (ix2 b 0) = 0#32) (s j : Fin 1024) :
    val_main_v9 (F := Ideal) cu (ix2 b s) = val_main_v9 (F := Ideal) cu (ix2 b j) ↔ ∀ e, At cu b e s.val ↔ At cu b e j.val := by
  have hm : ∀ (x y : Fin 1024), x ≤ y → val_main_v9 (F := Ideal) cu (ix2 b x) = val_main_v9 (F := Ideal) cu (ix2 b y) → ∀ e, At cu b e x.val ↔ At cu b e y.val := by
    intro x y hxy h e
    rw [v9_apply, v9_apply] at h
    have hc : ∀ z : Fin 1024, ((Finset.univ : Finset (Fin 18)).filter fun e => val_main_v7 (F := Ideal) cu (ix3 b e z) = 1#1).card ≤ 18 := fun z =>
      (Finset.card_filter_le _ _).trans (by simp)
    have hn := congrArg BitVec.toNat h
    rw [BitVec.toNat_ofNat, BitVec.toNat_ofNat, Nat.mod_eq_of_lt (lt_of_le_of_lt (hc x) (by norm_num)), Nat.mod_eq_of_lt (lt_of_le_of_lt (hc y) (by norm_num))] at hn
    have hs := Finset.eq_of_subset_of_card_le (s := (Finset.univ : Finset (Fin 18)).filter fun e => val_main_v7 (F := Ideal) cu (ix3 b e x) = 1#1)
      (t := (Finset.univ : Finset (Fin 18)).filter fun e => val_main_v7 (F := Ideal) cu (ix3 b e y) = 1#1)
      (fun e he => by
        rw [Finset.mem_filter, v7_apply] at he ⊢
        exact ⟨he.1, le_trans he.2 (by exact_mod_cast hxy)⟩) hn.ge
    refine Fin.cases ?_ (fun e => ?_) e
    · have hz : ∀ n : ℕ, At cu b 0 n := fun n => by
        unfold At
        rw [h0]
        simp
      exact ⟨fun _ => hz _, fun _ => hz _⟩
    · have := Finset.ext_iff.mp hs e
      rw [Finset.mem_filter, Finset.mem_filter, v7_apply, v7_apply] at this
      simpa using this
  refine ⟨fun h => ?_, fun h => ?_⟩
  · rcases le_total s j with hsj | hsj
    · exact hm s j hsj h
    · exact fun e => (hm j s hsj h.symm e).symm
  · rw [v9_apply, v9_apply]
    refine congrArg (fun S : Finset (Fin 18) => BitVec.ofNat 32 S.card) (Finset.filter_congr fun e _ => ?_)
    rw [v7_apply, v7_apply]
    exact h e.succ

end Cert.Proof.ReferenceIdeal

end
-- ==== Proof.Equal.lean ====
/-
  A cell of the kernel's block, a key row against a lane, holds the reference's weight and gradient at the lane's
  head and position; and a sum over the lanes of all blocks is a sum over the positions and the heads.
-/
module

public import proofs.«01_k».proof.Proof.HostBlocks
public import proofs.«01_k».proof.Proof.LaneValue
public import proofs.«01_k».proof.Proof.RefValue
public import proofs.«01_k».proof.Proof.Mask

@[expose] public section

set_option maxRecDepth 16384
set_option maxHeartbeats 1000000

noncomputable section

namespace Cert.Proof.KernelIdeal

open Cert.KernelIdeal Cert.KernelIdeal.Gen
open Idealize.ShloMosaic Idealize.ShloMosaic.TcCoe Idealize.ShloMosaic.Tactic
open Cert.Proof.Tables Cert.Proof.ReferenceIdeal

/-! ## Sums -/

/-- A finite factor that is not negative moves into a sum. -/
theorem sum_mul_of_nonneg {ι : Type} (S : Finset ι) (f : ι → EReal) (c : EReal) (h0 : 0 ≤ c) (ht : c ≠ ⊤) :
    (∑ e ∈ S, f e) * c = ∑ e ∈ S, f e * c := by
  classical
  induction S using Finset.induction_on with
  | empty => simp
  | insert a S ha ih => rw [Finset.sum_insert ha, Finset.sum_insert ha, EReal.right_distrib_of_nonneg_of_ne_top h0 ht, ih]

/-- The head of the group a lane belongs to. -/
def rl (l : Fin 256) : Fin 2 := ⟨l.val / 128, by omega⟩

/-- The lanes of all blocks run through the positions and the heads of the group once. -/
theorem sum_lanes (f : Fin 1024 → Fin 2 → EReal) :
    (∑ u : Fin 8, ∑ l : Fin 256, f (ps u l) (rl l)) = ∑ s : Fin 1024, ∑ r : Fin 2, f s r := by
  rw [← Finset.sum_product', ← Finset.sum_product']
  refine Finset.sum_nbij' (fun x : Fin 8 × Fin 256 => (ps x.1 x.2, rl x.2))
    (fun y : Fin 1024 × Fin 2 => ((⟨y.1.val / 128, by omega⟩ : Fin 8), (⟨y.2.val * 128 + y.1.val % 128, by omega⟩ : Fin 256)))
    (fun _ _ => by simp) (fun _ _ => by simp) (fun x _ => ?_) (fun y _ => ?_) (fun _ _ => rfl)
  · have := x.1.isLt
    have := x.2.isLt
    refine Prod.ext (Fin.ext ?_) (Fin.ext ?_) <;> simp only [ps, rl] <;> omega
  · have := y.1.isLt
    have := y.2.isLt
    refine Prod.ext (Fin.ext ?_) (Fin.ext ?_) <;> simp only [ps, rl] <;> omega

/-! ## The mask -/

/-- A position of the lane's document, for the kernel, is one of the same document for the reference. -/
theorem mask_iff (cu : IVec S24x19 32) (b : Fin 24) (h0 : cu (ix2 b 0) = 0#32) (s j : Fin 1024) :
    ((loW cu (ix2 b s)).toInt ≤ (j.val : ℤ) ∧ (j.val : ℤ) < (hiW cu (ix2 b s)).toInt)
      ↔ Cert.ReferenceIdeal.Read.val_main_v9 (F := Ideal) cu (ix2 b s) = Cert.ReferenceIdeal.Read.val_main_v9 (F := Ideal) cu (ix2 b j) := by
  refine Iff.trans ?_ (same_iff cu b h0 s j).symm
  rw [loW_le, lt_hiW cu b s j.val j.isLt]
  exact ⟨fun h e => ⟨h.1 e, fun he => by_contra fun hn => h.2 e hn he⟩, fun h => ⟨fun e => (h e).1, fun e hn he => hn ((h e).2 he)⟩⟩

/-! ## The cells -/

variable (m : (ℓ : Loc nD τ sig) → Buf (Elt Ideal) ℓ)

/-- The lanes of block `u` at point `t`, and the key and value rows. -/
def LX (c : Dev nD) (t : Fin cfg0.N) (u : Fin 8) : Lanes :=
  laneX (grid0.coords t) (iblk m c 0 t) (iblk m c 1 t) (iblk m c 2 t) (iblk m c 3 t) (iblk m c 6 t) (iblk m c 10 t) (iblk m c 11 t) (iblk m c 12 t) (iblk m c 13 t) (iblk m c 14 t) u

def KX (c : Dev nD) (t : Fin cfg0.N) (j : Fin 1024) (e : Fin 256) : EReal := iblk m c 7 t (ix4 0 0 j e)

def VX (c : Dev nD) (t : Fin cfg0.N) (j : Fin 1024) (e : Fin 256) : EReal := iblk m c 9 t (ix4 0 0 j e)

/-- The reference's weight and gradient, of the kernel's arguments. -/
def aP (c : Dev nD) (b : Fin 24) (g : Fin 4) (r : Fin 2) (s j : Fin 1024) : EReal :=
  rP (m ((c : Thread nD τ).loc main_arg1)) (m ((c : Thread nD τ).loc main_arg3)) (m ((c : Thread nD τ).loc main_arg9)) (m ((c : Thread nD τ).loc main_arg10)) (m ((c : Thread nD τ).loc main_arg0)) (m ((c : Thread nD τ).loc main_arg2)) b g r s j

def aD (c : Dev nD) (b : Fin 24) (g : Fin 4) (r : Fin 2) (s j : Fin 1024) : EReal :=
  rD (m ((c : Thread nD τ).loc main_arg1)) (m ((c : Thread nD τ).loc main_arg3)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg0)) (m ((c : Thread nD τ).loc main_arg2)) (m ((c : Thread nD τ).loc main_arg4)) (m ((c : Thread nD τ).loc main_arg7)) b g r s j

theorem hq_eq (g : Fin 4) (l : Fin 256) : hl g l = hq g (rl l) := Fin.ext (by simp only [hl, hq, rl]; omega)

theorem hd_eq (t : Fin cfg0.N) (l : Fin 256) : hd (grid0.coords t) l = hq (gt t) (rl l) := hq_eq (gt t) l

theorem KX_eq (c : Dev nD) (t : Fin cfg0.N) (j : Fin 1024) (e : Fin 256) : KX m c t j e = m ((c : Thread nD τ).loc main_arg2) (ix4 (bt t) j (gt t) e) := iblk7_apply m c t j e

theorem VX_eq (c : Dev nD) (t : Fin cfg0.N) (j : Fin 1024) (e : Fin 256) : VX m c t j e = m ((c : Thread nD τ).loc main_arg4) (ix4 (bt t) j (gt t) e) := iblk9_apply m c t j e

theorem LX_q (c : Dev nD) (t : Fin cfg0.N) (u : Fin 8) (l e : Fin 256) : (LX m c t u).q l e = m ((c : Thread nD τ).loc main_arg0) (ix4 (bt t) (ps u l) (hq (gt t) (rl l)) e) := by
  rw [← hq_eq]
  exact iblk6_apply m c t u l e

theorem LX_g (c : Dev nD) (t : Fin cfg0.N) (u : Fin 8) (l e : Fin 256) : (LX m c t u).g l e = m ((c : Thread nD τ).loc main_arg7) (ix4 (bt t) (ps u l) (hq (gt t) (rl l)) e) := by
  rw [← hq_eq]
  exact iblk10_apply m c t u l e

theorem LX_qs (c : Dev nD) (t : Fin cfg0.N) (u : Fin 8) (l : Fin 256) : (LX m c t u).qs l = m ((c : Thread nD τ).loc main_arg1) (ix1 (hq (gt t) (rl l))) := by
  rw [← hd_eq, ← iblk0_eq m c t]
  rfl

theorem LX_gs (c : Dev nD) (t : Fin cfg0.N) (u : Fin 8) (l : Fin 256) : (LX m c t u).gs l = m ((c : Thread nD τ).loc main_arg8) (ix1 (hq (gt t) (rl l))) := by
  rw [← hd_eq, ← iblk3_eq m c t]
  rfl

/-- The scales of the scores and of the products with the values. -/
def scX (x1 : FVec Ideal S8 .f32) (x3 : FVec Ideal S4 .f32) (g : Fin 4) (r : Fin 2) : EReal := x1 (ix1 (hq g r)) * x3 (ix1 g) * Ideal.ofBits .f32 0x3D800000
def vsX (x8 : FVec Ideal S8 .f32) (x5 : FVec Ideal S4 .f32) (g : Fin 4) (r : Fin 2) : EReal := x8 (ix1 (hq g r)) * x5 (ix1 g)

theorem LX_sc (c : Dev nD) (t : Fin cfg0.N) (u : Fin 8) (l : Fin 256) : (LX m c t u).sc l = scX (m ((c : Thread nD τ).loc main_arg1)) (m ((c : Thread nD τ).loc main_arg3)) (gt t) (rl l) := by
  unfold scX
  rw [← hd_eq, ← iblk0_eq m c t, ← iblk1_eq m c t]
  rfl

theorem LX_vs (c : Dev nD) (t : Fin cfg0.N) (u : Fin 8) (l : Fin 256) : (LX m c t u).vs l = vsX (m ((c : Thread nD τ).loc main_arg8)) (m ((c : Thread nD τ).loc main_arg5)) (gt t) (rl l) := by
  unfold vsX
  rw [← hd_eq, ← iblk3_eq m c t, ← iblk2_eq m c t]
  rfl

theorem LX_ls (c : Dev nD) (t : Fin cfg0.N) (u : Fin 8) (l : Fin 256) : (LX m c t u).ls l = m ((c : Thread nD τ).loc main_arg9) (ix3 (bt t) (hq (gt t) (rl l)) (ps u l)) := by
  rw [← hq_eq]
  exact iblk12_apply m c t u l

theorem LX_lo (c : Dev nD) (t : Fin cfg0.N) (u : Fin 8) (l : Fin 256) : (LX m c t u).lo l = loW (m ((c : Thread nD τ).loc main_arg10)) (ix2 (bt t) (ps u l)) := by
  have h := iblk13_apply m c t u l
  generalize loW (m ((c : Thread nD τ).loc main_arg10)) (ix2 (bt t) (ps u l)) = w at h ⊢
  unfold LX laneX
  dsimp only
  exact h
theorem LX_hi (c : Dev nD) (t : Fin cfg0.N) (u : Fin 8) (l : Fin 256) : (LX m c t u).hi l = hiW (m ((c : Thread nD τ).loc main_arg10)) (ix2 (bt t) (ps u l)) := by
  have h := iblk14_apply m c t u l
  generalize hiW (m ((c : Thread nD τ).loc main_arg10)) (ix2 (bt t) (ps u l)) = w at h ⊢
  unfold LX laneX
  dsimp only
  exact h

theorem LX_dl (c : Dev nD) (t : Fin cfg0.N) (u : Fin 8) (l : Fin 256) : (LX m c t u).dl l
    = (∑ e : Fin 256, (LX m c t u).g l e * iblk m c 11 t (ix5 0 0 u l e)) * (LX m c t u).gs l := by
  unfold LX laneX
  rfl

/-- A cell's weight is the reference's. -/
theorem cellP_eq (c : Dev nD) (h0 : ∀ b, (m ((c : Thread nD τ).loc main_arg10) : IVec S24x19 32) (ix2 b 0) = 0#32) (t : Fin cfg0.N) (u : Fin 8) (j : Fin 1024) (l : Fin 256) :
    cellP (KX m c t) (LX m c t u) j l = aP m c (bt t) (gt t) (rl l) (ps u l) j := by
  unfold cellP aP rP
  rw [LX_lo, LX_hi]
  refine if_congr (mask_iff _ _ (h0 _) _ _) ?_ rfl
  simp only [KX_eq, LX_q, LX_sc, LX_ls, scX]
  rfl

/-- A cell's gradient is the reference's, where the scales of the output gradient are finite and not negative. -/
theorem cellD_eq (c : Dev nD) (h0 : ∀ b, (m ((c : Thread nD τ).loc main_arg10) : IVec S24x19 32) (ix2 b 0) = 0#32)
    (hs : ∀ q : Fin 8, (0 : EReal) ≤ (m ((c : Thread nD τ).loc main_arg8) : FVec Ideal S8 .f32) (ix1 q) ∧ (m ((c : Thread nD τ).loc main_arg8) : FVec Ideal S8 .f32) (ix1 q) ≠ (⊤ : EReal))
    (t : Fin cfg0.N) (u : Fin 8) (j : Fin 1024) (l : Fin 256) :
    cellD (KX m c t) (VX m c t) (LX m c t u) j l = aD m c (bt t) (gt t) (rl l) (ps u l) j := by
  unfold cellD aD rD
  rw [cellP_eq m c h0]
  refine congrArg₂ (fun x y : EReal => x * y) rfl (congrArg₂ (fun x y : EReal => x - y) ?_ ?_)
  · simp only [VX_eq, LX_g, LX_vs, vsX]
  · rw [LX_dl, LX_gs, sum_mul_of_nonneg _ _ _ (hs _).1 (hs _).2]
    refine Finset.sum_congr rfl fun e _ => ?_
    rw [LX_g, iblk11_apply, hq_eq]
    exact mul_right_comm _ _ _

end Cert.Proof.KernelIdeal

end
-- ==== Proof.Blocks.lean ====
/-
  What the kernel's run leaves in its three result arrays, in the reference's weights and gradients.
-/
module

public import proofs.«01_k».proof.Proof.BlockValue
public import proofs.«01_k».proof.Proof.Equal

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Cert.Proof.Tables Cert.Proof.ReferenceIdeal

variable (m : (ℓ : Loc nD τ sig) → Buf (Elt Ideal) ℓ)

/-- The scales of the output gradient are finite and not negative. -/
def Scaled : Prop := ∀ (c : Dev nD) (q : Fin 8), (0 : EReal) ≤ (m ((c : Thread nD τ).loc main_arg8) : FVec Ideal S8 .f32) (ix1 q) ∧ (m ((c : Thread nD τ).loc main_arg8) : FVec Ideal S8 .f32) (ix1 q) ≠ (⊤ : EReal)

/-- Outside the chunks a block visits the mask is empty: the bounds of one block, from its first and last positions. -/
theorem block_live (cu : IVec S24x19 32) (b : Fin 24) (h0 : cu (ix2 b 0) = 0#32) (u : Fin 8) :
    ∃ A B : Fin 9, csW cu (ix2 b u) = BitVec.ofNat 32 A.val ∧ ceW cu (ix2 b u) = BitVec.ofNat 32 B.val
      ∧ ∀ (l : Fin 256) (j : Fin 1024), (loW cu (ix2 b (ps u l))).toInt ≤ (j.val : ℤ) ∧ (j.val : ℤ) < (hiW cu (ix2 b (ps u l))).toInt
        → A.val * 128 ≤ j.val ∧ j.val < B.val * 128 := by
  have hu : u.val < 8 := u.isLt
  obtain ⟨n, hn, e⟩ := loW_bound cu b ⟨128 * u.val, by omega⟩ h0
  obtain ⟨n', -, hn', e'⟩ := hiW_bound cu b ⟨127 + 128 * u.val, by omega⟩ h0
  simp only at hn
  refine ⟨⟨n / 128, by omega⟩, ⟨(n' + 127) / 128, by omega⟩, csW_eq cu b u n hn e, ceW_eq cu b u n' hn' e', fun l j hj => ?_⟩
  rw [loW_le, lt_hiW cu b (ps u l) j.val j.isLt] at hj
  have h1 : (loW cu (ix2 b (⟨128 * u.val, by omega⟩ : Fin 1024))).toInt ≤ (j.val : ℤ) := by
    rw [loW_le]
    refine fun k hk => hj.1 k (le_trans hk ?_)
    simp only [ps]
    omega
  have h2 : (j.val : ℤ) < (hiW cu (ix2 b (⟨127 + 128 * u.val, by omega⟩ : Fin 1024))).toInt := by
    rw [lt_hiW cu b _ j.val j.isLt]
    refine fun k hk => hj.2 k fun hl => hk (le_trans hl ?_)
    simp only [ps]
    omega
  rw [e, ofNat_toInt _ (by omega)] at h1
  rw [e', ofNat_toInt _ (by omega)] at h2
  simp only
  omega

/-- The chunks an outer trip visits, and the cells outside them. -/
theorem live (h : Starts m) (c : Dev nD) (t : Fin cfg0.N) :
    ∃ A B : Fin k0_t1_loop.trips → Fin 9,
      (∀ k, word (F := Ideal) (grid0.coords t) (win0_4.stage (cfg0.slots t 4)) ((hstage0_4 ((cfg0.slots t 4).cast nbuf0_4)).unread (iblk m c 4 t)) k = BitVec.ofNat 32 (A k).val)
      ∧ (∀ k, word (F := Ideal) (grid0.coords t) (win0_5.stage (cfg0.slots t 5)) ((hstage0_5 ((cfg0.slots t 5).cast nbuf0_5)).unread (iblk m c 5 t)) k = BitVec.ofNat 32 (B k).val)
      ∧ ∀ (k : Fin k0_t1_loop.trips) (j : Fin 1024) (l : Fin 256), ¬ ((A k).val * 128 ≤ j.val ∧ j.val < (B k).val * 128)
        → cellP (KX m c t) (LX m c t ⟨k.val, k.isLt⟩) j l = 0 := by
  have hk := fun k : Fin k0_t1_loop.trips => block_live (m ((c : Thread nD τ).loc main_arg10)) (grid0.coords t 0) (h c _) ⟨k.val, k.isLt⟩
  choose A B hA hB hP using hk
  refine ⟨A, B, fun k => ?_, fun k => ?_, fun k j l hj => ?_⟩
  · rw [word_eq _ _ _ _ k ⟨k.val, k.isLt⟩ rfl, iblk4]
    exact hA k
  · rw [word_eq _ _ _ _ k ⟨k.val, k.isLt⟩ rfl, iblk5]
    exact hB k
  · unfold cellP
    rw [LX_lo, LX_hi]
    exact if_neg fun hm => hj (hP k l j hm)

/-- The factor of the query gradient. -/
def kscale (x3 : FVec Ideal S4 .f32) (g : Fin 4) : EReal := x3 (ix1 g) * Ideal.ofBits .f32 0x3D800000#32

/-- A key's gradient times the keys, a query's times the queries, a weight's times the output gradients. -/
def oq (x3 : FVec Ideal S4 .f32) (x2 : FVec Ideal S24x1024x4x256 .fp8e4m3) (D : Fin 1024 → EReal) (b : Fin 24) (g : Fin 4) (d : Fin 256) : EReal :=
  (∑ j : Fin 1024, x2 (ix4 b j g d) * D j) * kscale x3 g

def ok (x1 : FVec Ideal S8 .f32) (x0 : FVec Ideal S24x1024x8x256 .fp8e4m3) (D : Fin 1024 → Fin 2 → EReal) (b : Fin 24) (g : Fin 4) (d : Fin 256) : EReal :=
  (∑ s : Fin 1024, ∑ r : Fin 2, x0 (ix4 b s (hq g r) d) * (D s r * x1 (ix1 (hq g r)))) * Ideal.ofBits .f32 0x3D800000#32

def ov (x8 : FVec Ideal S8 .f32) (x7 : FVec Ideal S24x1024x8x256 .fp8e5m2) (P : Fin 1024 → Fin 2 → EReal) (b : Fin 24) (g : Fin 4) (d : Fin 256) : EReal :=
  ∑ s : Fin 1024, ∑ r : Fin 2, x7 (ix4 b s (hq g r) d) * (P s r * x8 (ix1 (hq g r)))

/-- The three results by batch, group, head of the group, position and feature. -/
def kdq (c : Dev nD) (b : Fin 24) (g : Fin 4) (r : Fin 2) (s : Fin 1024) (d : Fin 256) : EReal :=
  oq (m ((c : Thread nD τ).loc main_arg3)) (m ((c : Thread nD τ).loc main_arg2)) (aD m c b g r s) b g d

def kdk (c : Dev nD) (b : Fin 24) (g : Fin 4) (j : Fin 1024) (d : Fin 256) : EReal :=
  ok (m ((c : Thread nD τ).loc main_arg1)) (m ((c : Thread nD τ).loc main_arg0)) (fun s r => aD m c b g r s j) b g d

def kdv (c : Dev nD) (b : Fin 24) (g : Fin 4) (j : Fin 1024) (d : Fin 256) : EReal :=
  ov (m ((c : Thread nD τ).loc main_arg8)) (m ((c : Thread nD τ).loc main_arg7)) (fun s r => aP m c b g r s j) b g d

theorem res16_apply (h : Starts m) (hs : Scaled m) (c : Dev nD) (t : Fin cfg0.N) (r : Fin 1024) (d : Fin 256) :
    res16 m (words_of_starts m h) c t (ix4 0 0 r d) = kdk m c (bt t) (gt t) r d := by
  obtain ⟨A, B, hA, hB, hP⟩ := live m h c t
  unfold res16
  refine (out18_apply c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (words_of_starts m h c t) A B hA hB hP r d).trans ?_
  unfold kdk ok
  rw [← sum_lanes]
  refine congrArg (fun x : EReal => x * Ideal.ofBits .f32 0x3D800000#32) (Finset.sum_congr rfl fun u _ => ?_)
  refine Eq.trans (b := dkC (KX m c t) (VX m c t) (LX m c t u) r d) rfl ?_
  unfold dkC
  refine Finset.sum_congr rfl fun l _ => ?_
  rw [cellD_eq m c (h c) (hs c), LX_qs, LX_q]
  exact mul_comm _ _

theorem res17_apply (h : Starts m) (c : Dev nD) (t : Fin cfg0.N) (r : Fin 1024) (d : Fin 256) :
    res17 m (words_of_starts m h) c t (ix4 0 0 r d) = kdv m c (bt t) (gt t) r d := by
  obtain ⟨A, B, hA, hB, hP⟩ := live m h c t
  unfold res17
  refine (out19_apply c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (words_of_starts m h c t) A B hA hB hP r d).trans ?_
  unfold kdv ov
  rw [← sum_lanes]
  refine Finset.sum_congr rfl fun u _ => ?_
  refine Eq.trans (b := dvC (KX m c t) (LX m c t u) r d) rfl ?_
  unfold dvC
  refine Finset.sum_congr rfl fun l _ => ?_
  rw [cellP_eq m c (h c), LX_gs, LX_g]
  exact mul_comm _ _

theorem res15_apply (h : Starts m) (hs : Scaled m) (c : Dev nD) (t : Fin cfg0.N) (u : Fin 8) (l d : Fin 256) :
    res15 m (words_of_starts m h) c t (ix5 0 0 u l d) = kdq m c (bt t) (gt t) (rl l) (ps u l) d := by
  obtain ⟨A, B, hA, hB, hP⟩ := live m h c t
  unfold res15
  refine (out17_apply c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (words_of_starts m h c t) A B hA hB hP (fun c' d p => (iblk8_apply m c t c' d p).trans (iblk7_apply m c t _ d).symm) u l d).trans ?_
  refine Eq.trans (b := (∑ j : Fin 1024, KX m c t j d * cellD (KX m c t) (VX m c t) (LX m c t u) j l) * kscale (iblk m c 1 t) (gt t)) rfl ?_
  unfold kdq oq
  rw [iblk1_eq]
  refine congrArg (fun x : EReal => x * kscale (m ((c : Thread nD τ).loc main_arg3)) (gt t)) (Finset.sum_congr rfl fun j _ => ?_)
  rw [cellD_eq m c (h c) (hs c), KX_eq]

end Cert.Proof.KernelIdeal

end
-- ==== Proof.Decode.lean ====
/-
  The reference's decoding call hands the codes on as they are: at `Ideal` widening a code keeps its value.
-/
module

public import proofs.«01_k».proof.Proof.Gen.ReferenceIdeal.Run
public import Idealize.ShloMosaic.Lib.Pipeline.ValueKit
public import Idealize.ShloMosaic.Lib.Pointwise

@[expose] public section

set_option maxRecDepth 16384
set_option maxHeartbeats 1000000

noncomputable section

namespace Cert.Proof.ReferenceIdeal

open Cert.ReferenceIdeal Cert.ReferenceIdeal.Gen Cert.ReferenceIdeal.Value
open Idealize.ShloMosaic Idealize.ShloMosaic.TcCoe Idealize.ShloMosaic.Tactic

variable (m : (ℓ : Loc nD τ sig) → Buf (Elt Ideal) ℓ)

/-- The blocks of the codes are the whole arrays. -/
theorem blk0 (c : Dev nD) (t : Fin cfg0.N) : iblk m c 0 t = m ((c : Thread nD τ).loc main_arg0) := by
  rw [← V_main_arg0 m c]
  funext y
  blk_ext [iblk, show win0_0.index t 0 = 0 from rfl, show win0_0.index t 1 = 0 from rfl, show win0_0.index t 2 = 0 from rfl, show win0_0.index t 3 = 0 from rfl]

theorem blk1 (c : Dev nD) (t : Fin cfg0.N) : iblk m c 1 t = m ((c : Thread nD τ).loc main_arg2) := by
  rw [← V_main_arg2 m c]
  funext y
  blk_ext [iblk, show win0_1.index t 0 = 0 from rfl, show win0_1.index t 1 = 0 from rfl, show win0_1.index t 2 = 0 from rfl, show win0_1.index t 3 = 0 from rfl]

theorem blk2 (c : Dev nD) (t : Fin cfg0.N) : iblk m c 2 t = m ((c : Thread nD τ).loc main_arg4) := by
  rw [← V_main_arg4 m c]
  funext y
  blk_ext [iblk, show win0_2.index t 0 = 0 from rfl, show win0_2.index t 1 = 0 from rfl, show win0_2.index t 2 = 0 from rfl, show win0_2.index t 3 = 0 from rfl]

theorem blk3 (c : Dev nD) (t : Fin cfg0.N) : iblk m c 3 t = m ((c : Thread nD τ).loc main_arg7) := by
  rw [← V_main_arg7 m c]
  funext y
  blk_ext [iblk, show win0_3.index t 0 = 0 from rfl, show win0_3.index t 1 = 0 from rfl, show win0_3.index t 2 = 0 from rfl, show win0_3.index t 3 = 0 from rfl]

/-- What the call leaves in its four results. -/
theorem reg0 (c : Dev nD) : reg_main_v0_0 m c = (m ((c : Thread nD τ).loc main_arg0) : S24x1024x8x256.Idx → EReal) := by
  unfold reg_main_v0_0
  refine (dats m 0 c).arrAt_eq_of_covers 4 _ (by decide +kernel) fun t hf y => ?_
  blk_simp
  rw [after0_4, blk0]
  frame_out
  refine congrArg (m ((c : Thread nD τ).loc main_arg0) : S24x1024x8x256.Idx → EReal) ?_
  blk_ext [show win0_4.index t 0 = 0 from rfl, show win0_4.index t 1 = 0 from rfl, show win0_4.index t 2 = 0 from rfl, show win0_4.index t 3 = 0 from rfl]

theorem reg1 (c : Dev nD) : reg_main_v0_1 m c = (m ((c : Thread nD τ).loc main_arg2) : S24x1024x4x256.Idx → EReal) := by
  unfold reg_main_v0_1
  refine (dats m 0 c).arrAt_eq_of_covers 5 _ (by decide +kernel) fun t hf y => ?_
  blk_simp
  rw [after0_5, blk1]
  frame_out
  refine congrArg (m ((c : Thread nD τ).loc main_arg2) : S24x1024x4x256.Idx → EReal) ?_
  blk_ext [show win0_5.index t 0 = 0 from rfl, show win0_5.index t 1 = 0 from rfl, show win0_5.index t 2 = 0 from rfl, show win0_5.index t 3 = 0 from rfl]

theorem reg2 (c : Dev nD) : reg_main_v0_2 m c = (m ((c : Thread nD τ).loc main_arg4) : S24x1024x4x256.Idx → EReal) := by
  unfold reg_main_v0_2
  refine (dats m 0 c).arrAt_eq_of_covers 6 _ (by decide +kernel) fun t hf y => ?_
  blk_simp
  rw [after0_6, blk2]
  frame_out
  refine congrArg (m ((c : Thread nD τ).loc main_arg4) : S24x1024x4x256.Idx → EReal) ?_
  blk_ext [show win0_6.index t 0 = 0 from rfl, show win0_6.index t 1 = 0 from rfl, show win0_6.index t 2 = 0 from rfl, show win0_6.index t 3 = 0 from rfl]

theorem reg3 (c : Dev nD) : reg_main_v0_3 m c = (m ((c : Thread nD τ).loc main_arg7) : S24x1024x8x256.Idx → EReal) := by
  unfold reg_main_v0_3
  refine (dats m 0 c).arrAt_eq_of_covers 7 _ (by decide +kernel) fun t hf y => ?_
  blk_simp
  rw [after0_7, blk3]
  frame_out
  refine congrArg (m ((c : Thread nD τ).loc main_arg7) : S24x1024x8x256.Idx → EReal) ?_
  blk_ext [show win0_7.index t 0 = 0 from rfl, show win0_7.index t 1 = 0 from rfl, show win0_7.index t 2 = 0 from rfl, show win0_7.index t 3 = 0 from rfl]

end Cert.Proof.ReferenceIdeal

end
-- ==== Proof.RefOut.lean ====
/-
  The three results as functions of the arguments, and the reference's run in them.
-/
module

public import proofs.«01_k».proof.Proof.Blocks
public import proofs.«01_k».proof.Proof.Decode

@[expose] public section

set_option maxRecDepth 16384
set_option maxHeartbeats 4000000

noncomputable section

namespace Cert.Proof.ReferenceIdeal

open Cert.ReferenceIdeal Cert.ReferenceIdeal.Gen Cert.ReferenceIdeal.Read Cert.ReferenceIdeal.Value
open Idealize.ShloMosaic Idealize.ShloMosaic.TcCoe Idealize.ShloMosaic.Tactic
open Idealize.SL.Sem
open Cert.Proof.KernelIdeal (oq ok ov kscale)

/-- The group of a head, and its number in the group. -/
def hg (h : Fin 8) : Fin 4 := ⟨h.val / 2, by omega⟩
def hr (h : Fin 8) : Fin 2 := ⟨h.val % 2, by omega⟩

theorem hq_hg (h : Fin 8) : hq (hg h) (hr h) = h := Fin.ext (by simp only [hq, hg, hr]; omega)

variable (x0 : FVec Ideal S24x1024x8x256 .fp8e4m3) (x1 : FVec Ideal S8 .f32) (x2 : FVec Ideal S24x1024x4x256 .fp8e4m3) (x3 : FVec Ideal S4 .f32) (x4 : FVec Ideal S24x1024x4x256 .fp8e4m3) (x5 : FVec Ideal S4 .f32) (x6 : FVec Ideal S24x1024x8x256 .bf16) (x7 : FVec Ideal S24x1024x8x256 .fp8e5m2) (x8 : FVec Ideal S8 .f32) (x9 : FVec Ideal S24x8x1024 .f32) (x10 : IVec S24x19 32)

/-- The gradient of the queries. -/
def outQ (i : S24x1024x8x256.Idx) : EReal := oq x3 x2 (rD x1 x3 x5 x6 x8 x9 x10 x0 x2 x4 x7 (i 0) (hg (i 2)) (hr (i 2)) (i 1)) (i 0) (hg (i 2)) (i 3)

/-- The gradient of the keys. -/
def outK (i : S24x1024x4x256.Idx) : EReal := ok x1 x0 (fun s r => rD x1 x3 x5 x6 x8 x9 x10 x0 x2 x4 x7 (i 0) (i 2) r s (i 1)) (i 0) (i 2) (i 3)

/-- The gradient of the values. -/
def outV (i : S24x1024x4x256.Idx) : EReal := ov x8 x7 (fun s r => rP x1 x3 x9 x10 x0 x2 (i 0) (i 2) r s (i 1)) (i 0) (i 2) (i 3)

theorem ix4_eta (i : S24x1024x4x256.Idx) : i = ix4 (i 0) (i 1) (i 2) (i 3) := by
  funext a
  fin_cases a <;> rfl

theorem ix4_eta8 (i : S24x1024x8x256.Idx) : i = ix4 (i 0) (i 1) (hq (hg (i 2)) (hr (i 2))) (i 3) := by
  funext a
  fin_cases a
  · rfl
  · rfl
  · exact (hq_hg (i 2)).symm
  · rfl

theorem v79_fn : val_main_v79 (F := Ideal) x1 x3 x5 x6 x8 x9 x10 x0 x2 x4 x7 = outQ x0 x1 x2 x3 x4 x5 x6 x7 x8 x9 x10 := by
  funext i
  refine (congrArg (val_main_v79 (F := Ideal) x1 x3 x5 x6 x8 x9 x10 x0 x2 x4 x7) (ix4_eta8 i)).trans ?_
  exact v79_apply x1 x3 x5 x6 x8 x9 x10 x0 x2 x4 x7 (i 0) (hg (i 2)) (hr (i 2)) (i 1) (i 3)

theorem v80_fn : val_main_v80 (F := Ideal) x1 x3 x5 x6 x8 x9 x10 x0 x2 x4 x7 = outK x0 x1 x2 x3 x4 x5 x6 x7 x8 x9 x10 := by
  funext i
  refine (congrArg (val_main_v80 (F := Ideal) x1 x3 x5 x6 x8 x9 x10 x0 x2 x4 x7) (ix4_eta i)).trans ?_
  exact v80_apply x1 x3 x5 x6 x8 x9 x10 x0 x2 x4 x7 (i 0) (i 2) (i 1) (i 3)

theorem v81_fn : val_main_v81 (F := Ideal) x1 x3 x8 x9 x10 x0 x2 x7 = outV x0 x1 x2 x3 x7 x8 x9 x10 := by
  funext i
  refine (congrArg (val_main_v81 (F := Ideal) x1 x3 x8 x9 x10 x0 x2 x7) (ix4_eta i)).trans ?_
  exact v81_apply x1 x3 x8 x9 x10 x0 x2 x7 (i 0) (i 2) (i 1) (i 3)

variable (m : (ℓ : Loc nD τ sig) → Buf (Elt Ideal) ℓ)

/-- The three results of the arguments in memory. -/
def memQ (c : Dev nD) : S24x1024x8x256.Idx → EReal := outQ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

def memK (c : Dev nD) : S24x1024x4x256.Idx → EReal := outK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

def memV (c : Dev nD) : S24x1024x4x256.Idx → EReal := outV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10))

theorem exitQ (c : Dev nD) : val_main_v79 (F := Ideal) (exitV m c (Proc.devRef .tc main_arg1)) (exitV m c (Proc.devRef .tc main_arg3)) (exitV m c (Proc.devRef .tc main_arg5)) (exitV m c (Proc.devRef .tc main_arg6)) (exitV m c (Proc.devRef .tc main_arg8)) (exitV m c (Proc.devRef .tc main_arg9)) (exitV m c (Proc.devRef .tc main_arg10)) (exitV m c (Proc.devRef .tc main_v0_0)) (exitV m c (Proc.devRef .tc main_v0_1)) (exitV m c (Proc.devRef .tc main_v0_2)) (exitV m c (Proc.devRef .tc main_v0_3)) = memQ m c := by
  rw [exit_main_arg1, exit_main_arg3, exit_main_arg5, exit_main_arg6, exit_main_arg8, exit_main_arg9, exit_main_arg10, exit_main_v0_0, exit_main_v0_1, exit_main_v0_2, exit_main_v0_3, reg0, reg1, reg2, reg3]
  exact v79_fn _ _ _ _ _ _ _ _ _ _ _

theorem exitK (c : Dev nD) : val_main_v80 (F := Ideal) (exitV m c (Proc.devRef .tc main_arg1)) (exitV m c (Proc.devRef .tc main_arg3)) (exitV m c (Proc.devRef .tc main_arg5)) (exitV m c (Proc.devRef .tc main_arg6)) (exitV m c (Proc.devRef .tc main_arg8)) (exitV m c (Proc.devRef .tc main_arg9)) (exitV m c (Proc.devRef .tc main_arg10)) (exitV m c (Proc.devRef .tc main_v0_0)) (exitV m c (Proc.devRef .tc main_v0_1)) (exitV m c (Proc.devRef .tc main_v0_2)) (exitV m c (Proc.devRef .tc main_v0_3)) = memK m c := by
  rw [exit_main_arg1, exit_main_arg3, exit_main_arg5, exit_main_arg6, exit_main_arg8, exit_main_arg9, exit_main_arg10, exit_main_v0_0, exit_main_v0_1, exit_main_v0_2, exit_main_v0_3, reg0, reg1, reg2, reg3]
  exact v80_fn _ _ _ _ _ _ _ _ _ _ _

theorem exitVal (c : Dev nD) : val_main_v81 (F := Ideal) (exitV m c (Proc.devRef .tc main_arg1)) (exitV m c (Proc.devRef .tc main_arg3)) (exitV m c (Proc.devRef .tc main_arg8)) (exitV m c (Proc.devRef .tc main_arg9)) (exitV m c (Proc.devRef .tc main_arg10)) (exitV m c (Proc.devRef .tc main_v0_0)) (exitV m c (Proc.devRef .tc main_v0_1)) (exitV m c (Proc.devRef .tc main_v0_3)) = memV m c := by
  rw [exit_main_arg1, exit_main_arg3, exit_main_arg8, exit_main_arg9, exit_main_arg10, exit_main_v0_0, exit_main_v0_1, exit_main_v0_3, reg0, reg1, reg3]
  exact v81_fn _ _ _ _ _ _ _ _

/-- The reference's run. -/
theorem run_out (ρ : Dev nD → PrngReg) :
    θ_run defs (onTc (τ := τ) (main (F := Ideal))) ⟨m, fun _ => 0, ρ⟩ fun r => ∀ c : Dev nD,
      (r.2.mem ((c.tc : Thread nD τ).loc main_v79) = memQ m c
      ∧ r.2.mem ((c.tc : Thread nD τ).loc main_v80) = memK m c
      ∧ r.2.mem ((c.tc : Thread nD τ).loc main_v81) = memV m c) :=
  (θ_run defs _ _).mono (fun _ h c => ⟨((h c).1.trans (val_main_v79_eq (exitV m c))).trans (exitQ m c),
    ((h c).2.1.trans (val_main_v80_eq (exitV m c))).trans (exitK m c),
    ((h c).2.2.1.trans (val_main_v81_eq (exitV m c))).trans (exitVal m c)⟩) (Value.run m ρ)

end Cert.Proof.ReferenceIdeal

end
-- ==== Proof.Arrays.lean ====
/-
  What the kernel's run leaves in its three result arrays, and what the host makes of them.
-/
module

public import proofs.«01_k».proof.Proof.Blocks

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Cert.Proof.Tables Cert.Proof.ReferenceIdeal

variable (m : (ℓ : Loc nD τ sig) → Buf (Elt Ideal) ℓ)

/-- The index of a block by its free coordinates. -/
theorem blk4_ix (y : S1x1x1024x256.Idx) : y = ix4 0 0 (y 2) (y 3) := by
  funext a
  fin_cases a
  · exact Subsingleton.elim (α := Fin 1) _ _
  · exact Subsingleton.elim (α := Fin 1) _ _
  · rfl
  · rfl

theorem blk5_ix (y : S1x1x8x256x256.Idx) : y = ix5 0 0 (y 2) (y 3) (y 4) := by
  funext a
  fin_cases a
  · exact Subsingleton.elim (α := Fin 1) _ _
  · exact Subsingleton.elim (α := Fin 1) _ _
  · rfl
  · rfl
  · rfl

theorem idx16 : ∀ t : Fin grid0.N, win0_16.index t 0 = (grid0.coords t 0).val ∧ win0_16.index t 1 = (grid0.coords t 1).val ∧ win0_16.index t 2 = 0 ∧ win0_16.index t 3 = 0 := by
  decide +kernel

/-- The block of the key gradients. -/
theorem emb16 (t : Fin cfg0.N) (y : S1x1x1024x256.Idx) : (win0_16.blk t).view.emb y = (ix4 (bt t) (gt t) (y 2) (y 3) : (⟨4, ![24, 4, 1024, 256]⟩ : Shape).Idx) := by
  have h0 : (y 0).val < 1 := (y 0).isLt
  have h1 : (y 1).val < 1 := (y 1).isLt
  blk_ext [idx16 t, bt, gt]

theorem left16 (h : Starts m) (hs : Scaled m) (c : Dev nD) (t : Fin cfg0.N) (y : S1x1x1024x256.Idx) :
    res16 m (words_of_starts m h) c t y = kdk m c (bt t) (gt t) (y 2) (y 3) := by
  have e := blk4_ix y
  generalize y 2 = j at e ⊢
  generalize y 3 = d at e ⊢
  subst e
  exact res16_apply m h hs c t j d

/-- The array of the key gradients. -/
theorem arr16 (h : Starts m) (hs : Scaled m) (c : Dev nD) :
    (dats m (words_of_starts m h) 0 c).arrAt 16 cfg0.N = fun i : S24x4x1024x256.Idx => kdk m c (i 0) (i 1) (i 2) (i 3) := by
  refine (dats m (words_of_starts m h) 0 c).arrAt_eq_of_covers 16 _ (by decide +kernel) fun t hf y => ?_
  blk_simp
  rw [after0_16, left16 m h hs, emb16 t y]
  rfl

theorem idx17 : ∀ t : Fin grid0.N, win0_17.index t 0 = (grid0.coords t 0).val ∧ win0_17.index t 1 = (grid0.coords t 1).val ∧ win0_17.index t 2 = 0 ∧ win0_17.index t 3 = 0 := by
  decide +kernel

/-- The block of the value gradients. -/
theorem emb17 (t : Fin cfg0.N) (y : S1x1x1024x256.Idx) : (win0_17.blk t).view.emb y = (ix4 (bt t) (gt t) (y 2) (y 3) : (⟨4, ![24, 4, 1024, 256]⟩ : Shape).Idx) := by
  have h0 : (y 0).val < 1 := (y 0).isLt
  have h1 : (y 1).val < 1 := (y 1).isLt
  blk_ext [idx17 t, bt, gt]

theorem left17 (h : Starts m) (c : Dev nD) (t : Fin cfg0.N) (y : S1x1x1024x256.Idx) :
    res17 m (words_of_starts m h) c t y = kdv m c (bt t) (gt t) (y 2) (y 3) := by
  have e := blk4_ix y
  generalize y 2 = j at e ⊢
  generalize y 3 = d at e ⊢
  subst e
  exact res17_apply m h c t j d

/-- The array of the value gradients. -/
theorem arr17 (h : Starts m) (c : Dev nD) :
    (dats m (words_of_starts m h) 0 c).arrAt 17 cfg0.N = fun i : S24x4x1024x256.Idx => kdv m c (i 0) (i 1) (i 2) (i 3) := by
  refine (dats m (words_of_starts m h) 0 c).arrAt_eq_of_covers 17 _ (by decide +kernel) fun t hf y => ?_
  blk_simp
  rw [after0_17, left17 m h, emb17 t y]
  rfl

theorem idx15 : ∀ t : Fin grid0.N, win0_15.index t 0 = (grid0.coords t 0).val ∧ win0_15.index t 1 = (grid0.coords t 1).val ∧ win0_15.index t 2 = 0 ∧ win0_15.index t 3 = 0 ∧ win0_15.index t 4 = 0 := by
  decide +kernel

/-- The block of the query gradients. -/
theorem emb15 (t : Fin cfg0.N) (y : S1x1x8x256x256.Idx) : (win0_15.blk t).view.emb y = (ix5 (bt t) (gt t) (y 2) (y 3) (y 4) : (⟨5, ![24, 4, 8, 256, 256]⟩ : Shape).Idx) := by
  have h0 : (y 0).val < 1 := (y 0).isLt
  have h1 : (y 1).val < 1 := (y 1).isLt
  blk_ext [idx15 t, bt, gt]

theorem left15 (h : Starts m) (hs : Scaled m) (c : Dev nD) (t : Fin cfg0.N) (y : S1x1x8x256x256.Idx) :
    res15 m (words_of_starts m h) c t y = kdq m c (bt t) (gt t) (rl (y 3)) (ps (y 2) (y 3)) (y 4) := by
  have e := blk5_ix y
  generalize y 2 = u at e ⊢
  generalize y 3 = l at e ⊢
  generalize y 4 = d at e ⊢
  subst e
  exact res15_apply m h hs c t u l d

/-- The array of the query gradients. -/
theorem arr15 (h : Starts m) (hs : Scaled m) (c : Dev nD) :
    (dats m (words_of_starts m h) 0 c).arrAt 15 cfg0.N = fun i : S24x4x8x256x256.Idx => kdq m c (i 0) (i 1) (rl (i 3)) (ps (i 2) (i 3)) (i 4) := by
  refine (dats m (words_of_starts m h) 0 c).arrAt_eq_of_covers 15 _ (by decide +kernel) fun t hf y => ?_
  blk_simp
  rw [after0_15, left15 m h hs, emb15 t y]
  rfl

end Cert.Proof.KernelIdeal

end
-- ==== Proof.Tail.lean ====
/-
  The kernel's three results, after the host has laid the arrays out by position and head.
-/
module

public import proofs.«01_k».proof.Proof.Arrays

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Cert.Proof.Tables Cert.Proof.ReferenceIdeal

variable (m : (ℓ : Loc nD τ sig) → Buf (Elt Ideal) ℓ)

/-- The lanes of the blocks back at their positions and heads. -/
theorem unlanes_apply (X : FVec Ideal S24x4x8x256x256 .bf16) (b : Fin 24) (s : Fin 1024) (h : Fin 8) (d : Fin 256) :
    shapeCast S24x1024x8x256 (transpose S24x8x128x4x2x256 [0, 2, 4, 1, 3, 5] (shapeCast S24x4x8x2x128x256 X shapeCasts_S24x4x8x256x256_S24x4x8x2x128x256)
      transposes_S24x4x8x2x128x256_S24x8x128x4x2x256_0_2_4_1_3_5) shapeCasts_S24x8x128x4x2x256_S24x1024x8x256 (ix4 b s h d)
    = X (ix5 b (⟨h.val / 2, by omega⟩ : Fin 4) (⟨s.val / 128, by omega⟩ : Fin 8) (⟨h.val % 2 * 128 + s.val % 128, by omega⟩ : Fin 256) d) := by
  pointwise

/-- What the host's last operations leave, from the run's arrays. -/
theorem tail47 (D : (p : Fin 1) → (c : Dev nD) → Pipeline.Dat τ (Elt Ideal) Unit ℕ (UR sig nD τ) ℕ (cfgs p) c) (c : Dev nD) :
    Pipeline.afterTail₀ cfgs D 0 (V0 m) [hostOps1] c main_v47
      = shapeCast S24x1024x8x256 (transpose S24x8x128x4x2x256 [0, 2, 4, 1, 3, 5] (shapeCast S24x4x8x2x128x256 ((D 0 c).arrAt 15 cfg0.N) shapeCasts_S24x4x8x256x256_S24x4x8x2x128x256)
        transposes_S24x4x8x2x128x256_S24x8x128x4x2x256_0_2_4_1_3_5) shapeCasts_S24x8x128x4x2x256_S24x1024x8x256 := by
  unfold Pipeline.afterTail₀
  rw [← show Pipeline.withArrays spec0 c (V0 m c) (fun w => (D 0 c).arrAt w cfg0.N) (Proc.devRef .tc main_v44_0) = (D 0 c).arrAt 15 cfg0.N from Pipeline.withArrays_arr spec0 launch0.win.arr_inj c (V0 m c) _ 15]
  generalize Pipeline.withArrays spec0 c (V0 m c) (fun w => (D 0 c).arrAt w cfg0.N) = W
  simp only [hostOps1, List.flatten_cons, List.flatten_nil, List.append_nil]
  after_results_simp
  rfl

theorem tail48 (D : (p : Fin 1) → (c : Dev nD) → Pipeline.Dat τ (Elt Ideal) Unit ℕ (UR sig nD τ) ℕ (cfgs p) c) (c : Dev nD) :
    Pipeline.afterTail₀ cfgs D 0 (V0 m) [hostOps1] c main_v48
      = transpose S24x1024x4x256 [0, 2, 1, 3] ((D 0 c).arrAt 16 cfg0.N) transposes_S24x4x1024x256_S24x1024x4x256_0_2_1_3 := by
  unfold Pipeline.afterTail₀
  rw [← show Pipeline.withArrays spec0 c (V0 m c) (fun w => (D 0 c).arrAt w cfg0.N) (Proc.devRef .tc main_v44_1) = (D 0 c).arrAt 16 cfg0.N from Pipeline.withArrays_arr spec0 launch0.win.arr_inj c (V0 m c) _ 16]
  generalize Pipeline.withArrays spec0 c (V0 m c) (fun w => (D 0 c).arrAt w cfg0.N) = W
  simp only [hostOps1, List.flatten_cons, List.flatten_nil, List.append_nil]
  after_results_simp

theorem tail49 (D : (p : Fin 1) → (c : Dev nD) → Pipeline.Dat τ (Elt Ideal) Unit ℕ (UR sig nD τ) ℕ (cfgs p) c) (c : Dev nD) :
    Pipeline.afterTail₀ cfgs D 0 (V0 m) [hostOps1] c main_v49
      = transpose S24x1024x4x256 [0, 2, 1, 3] ((D 0 c).arrAt 17 cfg0.N) transposes_S24x4x1024x256_S24x1024x4x256_0_2_1_3 := by
  unfold Pipeline.afterTail₀
  rw [← show Pipeline.withArrays spec0 c (V0 m c) (fun w => (D 0 c).arrAt w cfg0.N) (Proc.devRef .tc main_v44_2) = (D 0 c).arrAt 17 cfg0.N from Pipeline.withArrays_arr spec0 launch0.win.arr_inj c (V0 m c) _ 17]
  generalize Pipeline.withArrays spec0 c (V0 m c) (fun w => (D 0 c).arrAt w cfg0.N) = W
  simp only [hostOps1, List.flatten_cons, List.flatten_nil, List.append_nil]
  after_results_simp

end Cert.Proof.KernelIdeal

end
-- ==== Proof.Result.lean ====
/-
  The kernel's run leaves the reference's results.
-/
module

public import proofs.«01_k».proof.Proof.Tail
public import proofs.«01_k».proof.Proof.RefOut

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL.Sem
open Cert.Proof.Tables Cert.Proof.ReferenceIdeal

variable (m : (ℓ : Loc nD τ sig) → Buf (Elt Ideal) ℓ)

/-- The three results of the kernel's arguments. -/
def kQ (c : Dev nD) : S24x1024x8x256.Idx → EReal := outQ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

def kK (c : Dev nD) : S24x1024x4x256.Idx → EReal := outK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

def kV (c : Dev nD) : S24x1024x4x256.Idx → EReal := outV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10))

theorem kQ_apply (c : Dev nD) (b : Fin 24) (s : Fin 1024) (hh : Fin 8) (d : Fin 256) : kQ m c (ix4 b s hh d) = kdq m c b (hg hh) (hr hh) s d := rfl
theorem kK_apply (c : Dev nD) (b : Fin 24) (j : Fin 1024) (g : Fin 4) (d : Fin 256) : kK m c (ix4 b j g d) = kdk m c b g j d := rfl
theorem kV_apply (c : Dev nD) (b : Fin 24) (j : Fin 1024) (g : Fin 4) (d : Fin 256) : kV m c (ix4 b j g d) = kdv m c b g j d := rfl

/-- The index of a result by its coordinates. -/
theorem ixQ (i : S24x1024x8x256.Idx) : ∃ (b : Fin 24) (s : Fin 1024) (hh : Fin 8) (d : Fin 256), i = ix4 b s hh d :=
  ⟨i 0, i 1, i 2, i 3, by funext a; fin_cases a <;> rfl⟩
theorem ixK (i : S24x1024x4x256.Idx) : ∃ (b : Fin 24) (j : Fin 1024) (g : Fin 4) (d : Fin 256), i = ix4 b j g d :=
  ⟨i 0, i 1, i 2, i 3, by funext a; fin_cases a <;> rfl⟩

theorem fin47 (h : Starts m) (hs : Scaled m) (c : Dev nD) :
    Pipeline.afterTail₀ cfgs (dats m (words_of_starts m h)) 0 (V0 m) [hostOps1] c main_v47 = kQ m c := by
  rw [tail47, arr15 m h hs]
  funext i
  obtain ⟨b, s, hh, d, rfl⟩ := ixQ i
  refine (unlanes_apply _ b s hh d).trans ?_
  rw [kQ_apply]
  have e1 : rl (⟨hh.val % 2 * 128 + s.val % 128, by omega⟩ : Fin 256) = hr hh := Fin.ext (by simp only [rl, hr]; omega)
  have e2 : ps (⟨s.val / 128, by omega⟩ : Fin 8) (⟨hh.val % 2 * 128 + s.val % 128, by omega⟩ : Fin 256) = s := Fin.ext (by simp only [ps]; omega)
  exact congrArg₂ (fun r s => kdq m c b (hg hh) r s d) e1 e2

theorem fin48 (h : Starts m) (hs : Scaled m) (c : Dev nD) :
    Pipeline.afterTail₀ cfgs (dats m (words_of_starts m h)) 0 (V0 m) [hostOps1] c main_v48 = kK m c := by
  rw [tail48, arr16 m h hs]
  funext i
  obtain ⟨b, j, g, d, rfl⟩ := ixK i
  rw [kK_apply]
  pointwise

theorem fin49 (h : Starts m) (c : Dev nD) :
    Pipeline.afterTail₀ cfgs (dats m (words_of_starts m h)) 0 (V0 m) [hostOps1] c main_v49 = kV m c := by
  rw [tail49, arr17 m h]
  funext i
  obtain ⟨b, j, g, d, rfl⟩ := ixK i
  rw [kV_apply]
  pointwise

/-- The kernel's run. -/
theorem run_out (h : Starts m) (hs : Scaled m) (ρ : Dev nD → PrngReg) :
    θ_run defs (onTc (τ := τ) (main (F := Ideal))) ⟨m, fun _ => 0, ρ⟩ fun r => ∀ c : Dev nD,
      (r.2.mem ((c.tc : Thread nD τ).loc main_v47) = kQ m c
      ∧ r.2.mem ((c.tc : Thread nD τ).loc main_v48) = kK m c
      ∧ r.2.mem ((c.tc : Thread nD τ).loc main_v49) = kV m c) :=
  (θ_run defs _ _).mono (fun _ q c => ⟨((q c).2 main_v47 (Pipeline.mem_restRefs_of main_v47 (by decide) (by decide))).trans (fin47 m h hs c),
    ((q c).2 main_v48 (Pipeline.mem_restRefs_of main_v48 (by decide) (by decide))).trans (fin48 m h hs c),
    ((q c).2 main_v49 (Pipeline.mem_restRefs_of main_v49 (by decide) (by decide))).trans (fin49 m h c)⟩) (run_main m ρ (words_of_starts m h))

end Cert.Proof.KernelIdeal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_starts_at_zero
public import proofs.«01_k».proof.Proof.Gen.Pre_starts_at_zero_and_scaled
public import proofs.«01_k».proof.Proof.Gen.ReferenceIdeal.Run
public import proofs.«01_k».proof.Proof.Gen.ReferenceIdeal.Read
public import proofs.«01_k».proof.Proof.Frame
public import proofs.«01_k».proof.Proof.FrameIdeal
public import proofs.«01_k».proof.Proof.Pre
public import proofs.«01_k».proof.Proof.PreScaled
public import proofs.«01_k».proof.Proof.RefOut
public import proofs.«01_k».proof.Proof.Result
public import Idealize.ShloMosaic.Adequacy
public import Idealize.ShloMosaic.Init

@[expose] public section

noncomputable section

namespace Cert.Proof

open Idealize.ShloMosaic Idealize.ShloMosaic.TcCoe Idealize.SL.Sem

/-- The value claim: from equal arguments the kernel and the reference end with the same three gradients. -/
theorem same [Cert.KernelIdeal.Facts] [Cert.ReferenceIdeal.Facts] [Cert.Pre_starts_at_zero_and_scaled.Facts] :
    Cert.algebraic_KernelIdeal_ReferenceIdeal_pre_starts_at_zero_and_scaled := by
  intro m g m' g' hp hag
  have hS : KernelIdeal.Starts m := fun c => (Cert.Proof.Pre.scaled _ _ _ _ _ _ _ _ _ _ _ (hp c)).1
  have hSc : KernelIdeal.Scaled m := fun c => (Cert.Proof.Pre.scaled _ _ _ _ _ _ _ _ _ _ _ (hp c)).2
  refine ⟨KernelIdeal.kQ m, KernelIdeal.kK m, KernelIdeal.kV m, ?_, ?_⟩
  · exact (θ_run _ _ _).mono (fun r h c => ⟨(h.1 c).1, (h.1 c).2.1, (h.1 c).2.2, h.2.1 c⟩) (θ_run_and (KernelIdeal.run_out m hS hSc g) (KernelIdeal.frame m g hS))
  · have eQ : ∀ c, ReferenceIdeal.memQ m' c = KernelIdeal.kQ m c := fun c => by
      obtain ⟨e0, e1, e2, e3, e4, e5, e6, e7, e8, e9, e10⟩ := hag c
      unfold ReferenceIdeal.memQ KernelIdeal.kQ
      rw [e0, e1, e2, e3, e4, e5, e6, e7, e8, e9, e10]
    have eK : ∀ c, ReferenceIdeal.memK m' c = KernelIdeal.kK m c := fun c => by
      obtain ⟨e0, e1, e2, e3, e4, e5, e6, e7, e8, e9, e10⟩ := hag c
      unfold ReferenceIdeal.memK KernelIdeal.kK
      rw [e0, e1, e2, e3, e4, e5, e6, e7, e8, e9, e10]
    have eV : ∀ c, ReferenceIdeal.memV m' c = KernelIdeal.kV m c := fun c => by
      obtain ⟨e0, e1, e2, e3, -, -, -, e7, e8, e9, e10⟩ := hag c
      unfold ReferenceIdeal.memV KernelIdeal.kV
      rw [e0, e1, e2, e3, e7, e8, e9, e10]
    exact (θ_run _ _ _).mono (fun r h c => ⟨(h.1 c).1.trans (eQ c), (h.1 c).2.1.trans (eK c), (h.1 c).2.2.trans (eV c), h.2.1 c⟩)
      (θ_run_and (ReferenceIdeal.run_out m' g') (Cert.ReferenceIdeal.Gen.frame m' g'))

/-- The frames of the kernel, of its ideal program and of the reference; the ideal program is the kernel's; the value claim. -/
theorem claim : Cert.Claim := ⟨Cert.Kernel.Gen.facts, Cert.KernelIdeal.Gen.facts, Cert.ReferenceIdeal.Gen.facts, Cert.Pre_starts_at_zero.Gen.facts,
  Cert.Pre_starts_at_zero_and_scaled.Gen.facts,
  fun m ρ h => Cert.Proof.Kernel.frame m ρ fun c => Cert.Proof.Pre.starts _ _ _ _ _ _ _ _ _ _ _ (h c),
  fun m ρ h => Cert.Proof.KernelIdeal.frame m ρ fun c => Cert.Proof.Pre.starts _ _ _ _ _ _ _ _ _ _ _ (h c),
  fun m ρ h => Cert.Proof.KernelIdeal.frame m ρ fun c => (Cert.Proof.Pre.scaled _ _ _ _ _ _ _ _ _ _ _ (h c)).1,
  fun m ρ _ => Cert.ReferenceIdeal.Gen.frame m ρ,
  fun m ρ _ => Cert.ReferenceIdeal.Gen.frame m ρ,
  trivial,
  same⟩

end Cert.Proof

end
